-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_lags_are_times : Cert.Pre_lags_are_times.Facts] (m : (ℓ : Loc Cert.Kernel3.nD Cert.Kernel3.τ Cert.Kernel3.sig) → Buf (Elt Bits) ℓ) : Prop :=
  ∀ c : Dev Cert.Kernel3.nD,
    (Cert.Pre_lags_are_times.fn (F := Bits) (m ((c.tc : Thread Cert.Kernel3.nD Cert.Kernel3.τ).loc Cert.Kernel3.main_arg0)) (m ((c.tc : Thread Cert.Kernel3.nD Cert.Kernel3.τ).loc Cert.Kernel3.main_arg1))) = (fun _ => 1#1)

def Pre_Kernel3Ideal [hPre_lags_are_times : Cert.Pre_lags_are_times.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_lags_are_times.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_lags_are_times [hPre_lags_are_times : Cert.Pre_lags_are_times.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_lags_are_times.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] [hPre_lags_are_times : Cert.Pre_lags_are_times.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] [hPre_lags_are_times : Cert.Pre_lags_are_times.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_lags_are_times [hReference3Ideal : Cert.Reference3Ideal.Facts] [hPre_lags_are_times : Cert.Pre_lags_are_times.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_lags_are_times m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  IdealRules.named_const.Statement Cert.KernelIdeal.κ "inv_25" .f32 0x3D23D70A#32 ((1 / 25 : ℝ) : EReal)
  ∧ IdealRules.named_const.Statement Cert.KernelIdeal.κ "inv_sqrt2" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "inv_25" .f32 0x3D23D70A#32 ((1 / 25 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)) (v4 : (c : Dev Cert.Kernel2Ideal.nD) → Buf (Elt Ideal) ((c.tc : Thread Cert.Kernel2Ideal.nD Cert.Kernel2Ideal.τ).loc Cert.Kernel2Ideal.main_v4_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_v4_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_v13) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_v21) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] [hPre_lags_are_times : Cert.Pre_lags_are_times.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v98) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_lags_are_times : Cert.Pre_lags_are_times.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_lags_are_times := hPre_lags_are_times)
    ∧ quiescent_Kernel3Ideal (hKernel3Ideal := hKernel3Ideal) (hPre_lags_are_times := hPre_lags_are_times)
    ∧ quiescent_Reference3Ideal (hReference3Ideal := hReference3Ideal)
    ∧ quiescent_Reference3Ideal_pre_lags_are_times (hReference3Ideal := hReference3Ideal) (hPre_lags_are_times := hPre_lags_are_times)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_lags_are_times := hPre_lags_are_times)
-- ==== Pre_lags_are_times.lean ====
abbrev S4x8192x768 : Shape := ⟨3, ![4, 8192, 768]⟩
abbrev S4x8 : Shape := ⟨2, ![4, 8]⟩
abbrev S_ : Shape := ⟨0, ![]⟩

class Facts : Prop where
  bcast_S_S4x8 : S_.BroadcastsInDim S4x8 (![] : Fin 0 → Fin S4x8.rank)

variable [Facts]

def fn {F : FTy → Type} [FloatOps F] (main_arg0 : FVec F S4x8192x768 .f32) (main_arg1 : IVec S4x8 32) : IVec S4x8 1 :=
  let main_c : IVec S_ 32 := constantI S_ 32 0#32
  let main_v0 : IVec S4x8 32 := broadcastInDim S4x8 ![] bcast_S_S4x8 main_c
  let main_v1 : IVec S4x8 1 := cmpi .sge main_arg1 main_v0
  let main_c_0 : IVec S_ 32 := constantI S_ 32 8192#32
  let main_v2 : IVec S4x8 32 := broadcastInDim S4x8 ![] bcast_S_S4x8 main_c_0
  let main_v3 : IVec S4x8 1 := cmpi .slt main_arg1 main_v2
  let main_v4 : IVec S4x8 1 := andi main_v1 main_v3
  main_v4
-- ==== Kernel.lean ====
abbrev S4x8192x768 : Shape := ⟨3, ![4, 8192, 768]⟩
abbrev S768x3072 : Shape := ⟨2, ![768, 3072]⟩
abbrev S3072 : Shape := ⟨1, ![3072]⟩
abbrev S3072x768 : Shape := ⟨2, ![3072, 768]⟩
abbrev S768 : Shape := ⟨1, ![768]⟩
abbrev S_ : Shape := ⟨0, ![]⟩
abbrev S4x8216x768 : Shape := ⟨3, ![4, 8216, 768]⟩
abbrev S1x3072 : Shape := ⟨2, ![1, 3072]⟩
abbrev S1x768 : Shape := ⟨2, ![1, 768]⟩
abbrev S1x256x768 : Shape := ⟨3, ![1, 256, 768]⟩
abbrev S1x32x768 : Shape := ⟨3, ![1, 32, 768]⟩
abbrev S256x768 : Shape := ⟨2, ![256, 768]⟩
abbrev S1x24x768 : Shape := ⟨3, ![1, 24, 768]⟩
abbrev S24x768 : Shape := ⟨2, ![24, 768]⟩
abbrev S280x768 : Shape := ⟨2, ![280, 768]⟩
abbrev S1x12x768 : Shape := ⟨3, ![1, 12, 768]⟩
abbrev S12x768 : Shape := ⟨2, ![12, 768]⟩
abbrev S280x1 : Shape := ⟨2, ![280, 1]⟩
abbrev S256x3072 : Shape := ⟨2, ![256, 3072]⟩

abbrev nBuf : Space → Nat
  | .hbm => 14
  | .vmem => 20
  | .smem => 0
  | _ => 0

abbrev bufTy : (tb : Table) → Fin (tcTables nBuf tb) → BufTy
  | .hbm, ⟨0, _⟩ => ⟨S4x8192x768, .f32⟩
  | .hbm, ⟨1, _⟩ => ⟨S4x8192x768, .f32⟩
  | .hbm, ⟨2, _⟩ => ⟨S4x8192x768, .f32⟩
  | .hbm, ⟨3, _⟩ => ⟨S768x3072, .f32⟩
  | .hbm, ⟨4, _⟩ => ⟨S3072, .f32⟩
  | .hbm, ⟨5, _⟩ => ⟨S3072x768, .f32⟩
  | .hbm, ⟨6, _⟩ => ⟨S768, .f32⟩
  | .hbm, ⟨7, _⟩ => ⟨S_, .i32⟩
  | .hbm, ⟨8, _⟩ => ⟨S_, .f32⟩
  | .hbm, ⟨9, _⟩ => ⟨S4x8216x768, .f32⟩
  | .hbm, ⟨10, _⟩ => ⟨S1x3072, .f32⟩
  | .hbm, ⟨11, _⟩ => ⟨S1x768, .f32⟩
  | .hbm, ⟨12, _⟩ => ⟨S4x8192x768, .f32⟩
  | .hbm, ⟨13, _⟩ => ⟨S4x8192x768, .f32⟩
  | .local _ .vmem, ⟨0, _⟩ => ⟨S1x256x768, .f32⟩
  | .local _ .vmem, ⟨1, _⟩ => ⟨S1x256x768, .f32⟩
  | .local _ .vmem, ⟨2, _⟩ => ⟨S1x32x768, .f32⟩
  | .local _ .vmem, ⟨3, _⟩ => ⟨S1x32x768, .f32⟩
  | .local _ .vmem, ⟨4, _⟩ => ⟨S1x256x768, .f32⟩
  | .local _ .vmem, ⟨5, _⟩ => ⟨S1x256x768, .f32⟩
  | .local _ .vmem, ⟨6, _⟩ => ⟨S1x32x768, .f32⟩
  | .local _ .vmem, ⟨7, _⟩ => ⟨S1x32x768, .f32⟩
  | .local _ .vmem, ⟨8, _⟩ => ⟨S1x32x768, .f32⟩
  | .local _ .vmem, ⟨9, _⟩ => ⟨S1x32x768, .f32⟩
  | .local _ .vmem, ⟨10, _⟩ => ⟨S1x256x768, .f32⟩
  | .local _ .vmem, ⟨11, _⟩ => ⟨S1x256x768, .f32⟩
  | .local _ .vmem, ⟨12, _⟩ => ⟨S768x3072, .f32⟩
  | .local _ .vmem, ⟨13, _⟩ => ⟨S1x3072, .f32⟩
  | .local _ .vmem, ⟨14, _⟩ => ⟨S3072x768, .f32⟩
  | .local _ .vmem, ⟨15, _⟩ => ⟨S1x768, .f32⟩
  | .local _ .vmem, ⟨16, _⟩ => ⟨S1x256x768, .f32⟩
  | .local _ .vmem, ⟨17, _⟩ => ⟨S1x256x768, .f32⟩
  | .local _ .vmem, ⟨18, _⟩ => ⟨S1x256x768, .f32⟩
  | .local _ .vmem, ⟨19, _⟩ => ⟨S1x256x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S768x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3072x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "inv_25" => some ((1 / 25 : ℝ) : EReal)
  | "inv_sqrt2" => some (((Real.sqrt 2)⁻¹ : ℝ) : EReal)
  | _ => none
-- ==== ReferenceIdeal.lean ====
abbrev S4x8192x768 : Shape := ⟨3, ![4, 8192, 768]⟩
abbrev S768x3072 : Shape := ⟨2, ![768, 3072]⟩
abbrev S3072 : Shape := ⟨1, ![3072]⟩
abbrev S3072x768 : Shape := ⟨2, ![3072, 768]⟩
abbrev S768 : Shape := ⟨1, ![768]⟩
abbrev S4x1x768 : Shape := ⟨3, ![4, 1, 768]⟩
abbrev S4x12x768 : Shape := ⟨3, ![4, 12, 768]⟩
abbrev S4x8216x768 : Shape := ⟨3, ![4, 8216, 768]⟩
abbrev S_ : Shape := ⟨0, ![]⟩
abbrev S4x8192x3072 : Shape := ⟨3, ![4, 8192, 3072]⟩
abbrev S1x1x3072 : Shape := ⟨3, ![1, 1, 3072]⟩
abbrev S1x1x768 : Shape := ⟨3, ![1, 1, 768]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x8192x768, .f32⟩
  | .hbm, ⟨2, _⟩ => ⟨S4x8192x768, .f32⟩
  | .hbm, ⟨3, _⟩ => ⟨S768x3072, .f32⟩
  | .hbm, ⟨4, _⟩ => ⟨S3072, .f32⟩
  | .hbm, ⟨5, _⟩ => ⟨S3072x768, .f32⟩
  | .hbm, ⟨6, _⟩ => ⟨S768, .f32⟩
  | .hbm, ⟨7, _⟩ => ⟨S4x8192x768, .f32⟩
  | .hbm, ⟨8, _⟩ => ⟨S4x1x768, .f32⟩
  | .hbm, ⟨9, _⟩ => ⟨S4x12x768, .f32⟩
  | .hbm, ⟨10, _⟩ => ⟨S4x1x768, .f32⟩
  | .hbm, ⟨11, _⟩ => ⟨S4x12x768, .f32⟩
  | .hbm, ⟨12, _⟩ => ⟨S4x8216x768, .f32⟩
  | .hbm, ⟨13, _⟩ => ⟨S_, .f32⟩
  | .hbm, ⟨14, _⟩ => ⟨S_, .f32⟩
  | .hbm, ⟨15, _⟩ => ⟨S4x8192x768, .f32⟩
  | .hbm, ⟨16, _⟩ => ⟨S_, .f32⟩
  | .hbm, ⟨17, _⟩ => ⟨S4x8192x768, .f32⟩
  | .hbm, ⟨18, _⟩ => ⟨S4x8192x768, .f32⟩
  | .hbm, ⟨19, _⟩ => ⟨S4x8192x768, .f32⟩
  | .hbm, ⟨20, _⟩ => ⟨S4x8192x3072, .f32⟩
  | .hbm, ⟨21, _⟩ => ⟨S1x1x3072, .f32⟩
  | .hbm, ⟨22, _⟩ => ⟨S4x8192x3072, .f32⟩
  | .hbm, ⟨23, _⟩ => ⟨S4x8192x3072, .f32⟩
  | .hbm, ⟨24, _⟩ => ⟨S_, .f32⟩
  | .hbm, ⟨25, _⟩ => ⟨S4x8192x3072, .f32⟩
  | .hbm, ⟨26, _⟩ => ⟨S4x8192x3072, .f32⟩
  | .hbm, ⟨27, _⟩ => ⟨S_, .f32⟩
  | .hbm, ⟨28, _⟩ => ⟨S_, .f32⟩
  | .hbm, ⟨29, _⟩ => ⟨S4x8192x3072, .f32⟩
  | .hbm, ⟨30, _⟩ => ⟨S4x8192x3072, .f32⟩
  | .hbm, ⟨31, _⟩ => ⟨S4x8192x3072, .f32⟩
  | .hbm, ⟨32, _⟩ => ⟨S_, .f32⟩
  | .hbm, ⟨33, _⟩ => ⟨S4x8192x3072, .f32⟩
  | .hbm, ⟨34, _⟩ => ⟨S4x8192x3072, .f32⟩
  | .hbm, ⟨35, _⟩ => ⟨S4x8192x3072, .f32⟩
  | .hbm, ⟨36, _⟩ => ⟨S4x8192x768, .f32⟩
  | .hbm, ⟨37, _⟩ => ⟨S1x1x768, .f32⟩
  | .hbm, ⟨38, _⟩ => ⟨S4x8192x768, .f32⟩
  | .hbm, ⟨39, _⟩ => ⟨S4x8192x768, .f32⟩
  | .hbm, ⟨40, _⟩ => ⟨S4x8192x768, .f32⟩
  | .hbm, ⟨41, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel2.lean ====
abbrev S4x8192x768 : Shape := ⟨3, ![4, 8192, 768]⟩
abbrev S768x768 : Shape := ⟨2, ![768, 768]⟩
abbrev S768 : Shape := ⟨1, ![768]⟩
abbrev S_ : Shape := ⟨0, ![]⟩
abbrev S1x8192x768 : Shape := ⟨3, ![1, 8192, 768]⟩
abbrev S1x0x8192x768 : Shape := ⟨4, ![1, 0, 8192, 768]⟩
abbrev S0x8192x768 : Shape := ⟨3, ![0, 8192, 768]⟩
abbrev S4x1x768 : Shape := ⟨3, ![4, 1, 768]⟩
abbrev S4x1x12x768 : Shape := ⟨4, ![4, 1, 12, 768]⟩
abbrev S4x12x768 : Shape := ⟨3, ![4, 12, 768]⟩
abbrev S4x8216x768 : Shape := ⟨3, ![4, 8216, 768]⟩
abbrev S4x8216x1 : Shape := ⟨3, ![4, 8216, 1]⟩
abbrev S4x8216x1x0 : Shape := ⟨4, ![4, 8216, 1, 0]⟩
abbrev S4x8216x0 : Shape := ⟨3, ![4, 8216, 0]⟩
abbrev S1x768 : Shape := ⟨2, ![1, 768]⟩
abbrev S1x512x768 : Shape := ⟨3, ![1, 512, 768]⟩
abbrev S1x32x768 : Shape := ⟨3, ![1, 32, 768]⟩
abbrev S512x768 : Shape := ⟨2, ![512, 768]⟩
abbrev S1x24x768 : Shape := ⟨3, ![1, 24, 768]⟩
abbrev S24x768 : Shape := ⟨2, ![24, 768]⟩
abbrev S536x768 : Shape := ⟨2, ![536, 768]⟩

abbrev nBuf : Space → Nat
  | .hbm => 37
  | .vmem => 20
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S_, .i32⟩
  | .hbm, ⟨8, _⟩ => ⟨S1x8192x768, .f32⟩
  | .hbm, ⟨9, _⟩ => ⟨S1x0x8192x768, .f32⟩
  | .hbm, ⟨10, _⟩ => ⟨S0x8192x768, .f32⟩
  | .hbm, ⟨11, _⟩ => ⟨S1x8192x768, .f32⟩
  | .hbm, ⟨12, _⟩ => ⟨S1x0x8192x768, .f32⟩
  | .hbm, ⟨13, _⟩ => ⟨S0x8192x768, .f32⟩
  | .hbm, ⟨14, _⟩ => ⟨S4x8192x768, .f32⟩
  | .hbm, ⟨15, _⟩ => ⟨S4x1x768, .f32⟩
  | .hbm, ⟨16, _⟩ => ⟨S4x1x12x768, .f32⟩
  | .hbm, ⟨17, _⟩ => ⟨S4x12x768, .f32⟩
  | .hbm, ⟨18, _⟩ => ⟨S4x1x768, .f32⟩
  | .hbm, ⟨19, _⟩ => ⟨S4x1x12x768, .f32⟩
  | .hbm, ⟨20, _⟩ => ⟨S4x12x768, .f32⟩
  | .hbm, ⟨21, _⟩ => ⟨S4x8216x768, .f32⟩
  | .hbm, ⟨22, _⟩ => ⟨S4x8216x1, .f32⟩
  | .hbm, ⟨23, _⟩ => ⟨S4x8216x1x0, .f32⟩
  | .hbm, ⟨24, _⟩ => ⟨S4x8216x0, .f32⟩
  | .hbm, ⟨25, _⟩ => ⟨S4x8216x1, .f32⟩
  | .hbm, ⟨26, _⟩ => ⟨S4x8216x1x0, .f32⟩
  | .hbm, ⟨27, _⟩ => ⟨S4x8216x0, .f32⟩
  | .hbm, ⟨28, _⟩ => ⟨S4x8216x768, .f32⟩
  | .hbm, ⟨29, _⟩ => ⟨S1x768, .f32⟩
  | .hbm, ⟨30, _⟩ => ⟨S1x768, .f32⟩
  | .hbm, ⟨31, _⟩ => ⟨S1x768, .f32⟩
  | .hbm, ⟨32, _⟩ => ⟨S4x8192x768, .f32⟩
  | .hbm, ⟨33, _⟩ => ⟨S4x8192x768, .f32⟩
  | .hbm, ⟨34, _⟩ => ⟨S4x8192x768, .f32⟩
  | .hbm, ⟨35, _⟩ => ⟨S4x8192x768, .f32⟩
  | .hbm, ⟨36, _⟩ => ⟨S4x8192x768, .f32⟩
  | .local _ .vmem, ⟨0, _⟩ => ⟨S1x512x768, .f32⟩
  | .local _ .vmem, ⟨1, _⟩ => ⟨S1x512x768, .f32⟩
  | .local _ .vmem, ⟨2, _⟩ => ⟨S1x32x768, .f32⟩
  | .local _ .vmem, ⟨3, _⟩ => ⟨S1x32x768, .f32⟩
  | .local _ .vmem, ⟨4, _⟩ => ⟨S768x768, .f32⟩
  | .local _ .vmem, ⟨5, _⟩ => ⟨S1x768, .f32⟩
  | .local _ .vmem, ⟨6, _⟩ => ⟨S768x768, .f32⟩
  | .local _ .vmem, ⟨7, _⟩ => ⟨S1x768, .f32⟩
  | .local _ .vmem, ⟨8, _⟩ => ⟨S768x768, .f32⟩
  | .local _ .vmem, ⟨9, _⟩ => ⟨S1x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | .local _ .vmem, ⟨18, _⟩ => ⟨S1x512x768, .f32⟩
  | .local _ .vmem, ⟨19, _⟩ => ⟨S1x512x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4_0 : Ref sig .tc := ⟨.hbm, 32, rfl⟩
abbrev main_v4_1 : Ref sig .tc := ⟨.hbm, 33, rfl⟩
abbrev main_v4_2 : Ref sig .tc := ⟨.hbm, 34, rfl⟩
abbrev main_v4_3 : Ref sig .tc := ⟨.hbm, 35, rfl⟩
abbrev main_v4_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c0_i32 : BitVec 32 := 0#32
  let c0_i32_0 : BitVec 32 := 0#32
  ![arg0.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel2Ideal.lean ====
variable {F : FTy → Type} [FloatOps F] [Named F]
def κ : String → Option EReal := fun
  | "inv_25" => some ((1 / 25 : ℝ) : EReal)
  | _ => none
-- ==== Reference2Ideal.lean ====
abbrev S4x8192x768 : Shape := ⟨3, ![4, 8192, 768]⟩
abbrev S768x768 : Shape := ⟨2, ![768, 768]⟩
abbrev S768 : Shape := ⟨1, ![768]⟩
abbrev S4x1x768 : Shape := ⟨3, ![4, 1, 768]⟩
abbrev S4x12x768 : Shape := ⟨3, ![4, 12, 768]⟩
abbrev S4x8216x768 : Shape := ⟨3, ![4, 8216, 768]⟩
abbrev S_ : Shape := ⟨0, ![]⟩
abbrev S1x1x768 : Shape := ⟨3, ![1, 1, 768]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S4x1x768, .f32⟩
  | .hbm, ⟨8, _⟩ => ⟨S4x12x768, .f32⟩
  | .hbm, ⟨9, _⟩ => ⟨S4x1x768, .f32⟩
  | .hbm, ⟨10, _⟩ => ⟨S4x12x768, .f32⟩
  | .hbm, ⟨11, _⟩ => ⟨S4x8216x768, .f32⟩
  | .hbm, ⟨12, _⟩ => ⟨S_, .f32⟩
  | .hbm, ⟨13, _⟩ => ⟨S_, .f32⟩
  | .hbm, ⟨14, _⟩ => ⟨S4x8192x768, .f32⟩
  | .hbm, ⟨15, _⟩ => ⟨S_, .f32⟩
  | .hbm, ⟨16, _⟩ => ⟨S4x8192x768, .f32⟩
  | .hbm, ⟨17, _⟩ => ⟨S4x8192x768, .f32⟩
  | .hbm, ⟨18, _⟩ => ⟨S4x8192x768, .f32⟩
  | .hbm, ⟨19, _⟩ => ⟨S4x8192x768, .f32⟩
  | .hbm, ⟨20, _⟩ => ⟨S1x1x768, .f32⟩
  | .hbm, ⟨21, _⟩ => ⟨S4x8192x768, .f32⟩
  | .hbm, ⟨22, _⟩ => ⟨S4x8192x768, .f32⟩
  | .hbm, ⟨23, _⟩ => ⟨S4x8192x768, .f32⟩
  | .hbm, ⟨24, _⟩ => ⟨S1x1x768, .f32⟩
  | .hbm, ⟨25, _⟩ => ⟨S4x8192x768, .f32⟩
  | .hbm, ⟨26, _⟩ => ⟨S4x8192x768, .f32⟩
  | .hbm, ⟨27, _⟩ => ⟨S4x8192x768, .f32⟩
  | .hbm, ⟨28, _⟩ => ⟨S1x1x768, .f32⟩
  | .hbm, ⟨29, _⟩ => ⟨S4x8192x768, .f32⟩
  | .hbm, ⟨30, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S4x8192x768 : Shape := ⟨3, ![4, 8192, 768]⟩
abbrev S4x8 : Shape := ⟨2, ![4, 8]⟩
abbrev S4x520x768 : Shape := ⟨3, ![4, 520, 768]⟩
abbrev S4x8712x768 : Shape := ⟨3, ![4, 8712, 768]⟩
abbrev S4x1089x8x768 : Shape := ⟨4, ![4, 1089, 8, 768]⟩
abbrev S1x512x768 : Shape := ⟨3, ![1, 512, 768]⟩
abbrev S1089x8x768 : Shape := ⟨3, ![1089, 8, 768]⟩
abbrev S_ : Shape := ⟨0, ![]⟩
abbrev S1x1089x8x768 : Shape := ⟨4, ![1, 1089, 8, 768]⟩
abbrev S512x768 : Shape := ⟨2, ![512, 768]⟩
abbrev S1x1 : Shape := ⟨2, ![1, 1]⟩
abbrev S64x8x768 : Shape := ⟨3, ![64, 8, 768]⟩
abbrev S1x8x768 : Shape := ⟨3, ![1, 8, 768]⟩
abbrev S8x768 : Shape := ⟨2, ![8, 768]⟩
abbrev S505x768 : Shape := ⟨2, ![505, 768]⟩
abbrev S7x768 : Shape := ⟨2, ![7, 768]⟩
abbrev S506x768 : Shape := ⟨2, ![506, 768]⟩
abbrev S6x768 : Shape := ⟨2, ![6, 768]⟩
abbrev S507x768 : Shape := ⟨2, ![507, 768]⟩
abbrev S5x768 : Shape := ⟨2, ![5, 768]⟩
abbrev S508x768 : Shape := ⟨2, ![508, 768]⟩
abbrev S4x768 : Shape := ⟨2, ![4, 768]⟩
abbrev S509x768 : Shape := ⟨2, ![509, 768]⟩
abbrev S3x768 : Shape := ⟨2, ![3, 768]⟩
abbrev S510x768 : Shape := ⟨2, ![510, 768]⟩
abbrev S2x768 : Shape := ⟨2, ![2, 768]⟩
abbrev S511x768 : Shape := ⟨2, ![511, 768]⟩
abbrev S1x768 : Shape := ⟨2, ![1, 768]⟩

abbrev nBuf : Space → Nat
  | .hbm => 5
  | .vmem => 3
  | .smem => 1
  | _ => 0

abbrev bufTy : (tb : Table) → Fin (tcTables nBuf tb) → BufTy
  | .hbm, ⟨0, _⟩ => ⟨S4x8192x768, .f32⟩
  | .hbm, ⟨1, _⟩ => ⟨S4x520x768, .f32⟩
  | .hbm, ⟨2, _⟩ => ⟨S4x8712x768, .f32⟩
  | .hbm, ⟨3, _⟩ => ⟨S4x1089x8x768, .f32⟩
  | .hbm, ⟨4, _⟩ => ⟨S4x8192x768, .f32⟩
  | .local _ .vmem, ⟨0, _⟩ => ⟨S1x512x768, .f32⟩
  | .local _ .vmem, ⟨1, _⟩ => ⟨S1x512x768, .f32⟩
  | .local _ .vmem, ⟨2, _⟩ => ⟨S1089x8x768, .f32⟩
  | .local _ .smem, ⟨0, _⟩ => ⟨S4x8, .i32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![4, 16], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_off1 (i : grid0.Coords) : Fin 4 → Nat :=
  let arg0 : BitVec 32 := BitVec.ofNat 32 (i 0).val
  let c0_i32_144 : BitVec 32 := 0#32
  let c0_i32_145 : BitVec 32 := 0#32
  let c0_i32_146 : BitVec 32 := 0#32
  ![arg0.toNat, 0, 0, 0]
def k0_off2 (i : grid0.Coords) : Fin 2 → Nat :=
  let arg0 : BitVec 32 := BitVec.ofNat 32 (i 0).val
  let v5 : Index := Scalar.indexCast arg0
  let c0 : Index := 0#32
  ![v5.toNat, 0]
def k0_off3 (i : grid0.Coords) (v6 : BitVec 32) : Fin 3 → Nat :=
  let arg1 : BitVec 32 := BitVec.ofNat 32 (i 1).val
  let c512_i32 : BitVec 32 := 512#32
  let v0 : BitVec 32 := Scalar.muli arg1 c512_i32
  let v7 : BitVec 32 := Scalar.subi v0 v6
  let c8192_i32 : BitVec 32 := 8192#32
  let v8 : BitVec 32 := Scalar.addi v7 c8192_i32
  let c8192_i32_1 : BitVec 32 := 8192#32
  let v9 : BitVec 32 := Scalar.remsi v8 c8192_i32_1
  let c0_i32_2 : BitVec 32 := 0#32
  let v11 : BitVec 1 := Scalar.cmpi .sgt v9 c0_i32_2
  let v12 : BitVec 32 := Scalar.extui v11
  let c0_i32_3 : BitVec 32 := 0#32
  let v13 : BitVec 1 := Scalar.cmpi .slt v9 c0_i32_3
  let v14 : BitVec 32 := Scalar.extui v13
  let v15 : BitVec 32 := Scalar.subi v12 v14
  let c8_i32 : BitVec 32 := 8#32
  let c0_i32_4 : BitVec 32 := 0#32
  let v16 : BitVec 1 := Scalar.cmpi .sgt c8_i32 c0_i32_4
  let v17 : BitVec 32 := Scalar.extui v16
  let c0_i32_5 : BitVec 32 := 0#32
  let v18 : BitVec 1 := Scalar.cmpi .slt c8_i32 c0_i32_5
  let v19 : BitVec 32 := Scalar.extui v18
  let v20 : BitVec 32 := Scalar.subi v17 v19
  let v21 : BitVec 1 := Scalar.cmpi .ne v15 v20
  let v22 : BitVec 32 := Scalar.remsi v9 c8_i32
  let c0_i32_6 : BitVec 32 := 0#32
  let v23 : BitVec 1 := Scalar.cmpi .ne v22 c0_i32_6
  let v24 : BitVec 1 := Scalar.andi v21 v23
  let v10 : BitVec 32 := Scalar.divsi v9 c8_i32
  let c1_i32 : BitVec 32 := 1#32
  let v25 : BitVec 32 := Scalar.subi v10 c1_i32
  let v26 : BitVec 32 := Scalar.select v24 v25 v10
  let v29 : Index := Scalar.indexCast v26
  let c0_8 : Index := 0#32
  let c0_9 : Index := 0#32
  ![v29.toNat, 0, 0]

def k0_off4 (i : grid0.Coords) (v6 : BitVec 32) : Fin 3 → Nat :=
  let arg1 : BitVec 32 := BitVec.ofNat 32 (i 1).val
  let c512_i32 : BitVec 32 := 512#32
  let v0 : BitVec 32 := Scalar.muli arg1 c512_i32
  let v7 : BitVec 32 := Scalar.subi v0 v6
  let c8192_i32 : BitVec 32 := 8192#32
  let v8 : BitVec 32 := Scalar.addi v7 c8192_i32
  let c8192_i32_1 : BitVec 32 := 8192#32
  let v9 : BitVec 32 := Scalar.remsi v8 c8192_i32_1
  let c0_i32_2 : BitVec 32 := 0#32
  let v11 : BitVec 1 := Scalar.cmpi .sgt v9 c0_i32_2
  let v12 : BitVec 32 := Scalar.extui v11
  let c0_i32_3 : BitVec 32 := 0#32
  let v13 : BitVec 1 := Scalar.cmpi .slt v9 c0_i32_3
  let v14 : BitVec 32 := Scalar.extui v13
  let v15 : BitVec 32 := Scalar.subi v12 v14
  let c8_i32 : BitVec 32 := 8#32
  let c0_i32_4 : BitVec 32 := 0#32
  let v16 : BitVec 1 := Scalar.cmpi .sgt c8_i32 c0_i32_4
  let v17 : BitVec 32 := Scalar.extui v16
  let c0_i32_5 : BitVec 32 := 0#32
  let v18 : BitVec 1 := Scalar.cmpi .slt c8_i32 c0_i32_5
  let v19 : BitVec 32 := Scalar.extui v18
  let v20 : BitVec 32 := Scalar.subi v17 v19
  let v21 : BitVec 1 := Scalar.cmpi .ne v15 v20
  let v22 : BitVec 32 := Scalar.remsi v9 c8_i32
  let c0_i32_6 : BitVec 32 := 0#32
  let v23 : BitVec 1 := Scalar.cmpi .ne v22 c0_i32_6
  let v24 : BitVec 1 := Scalar.andi v21 v23
  let v10 : BitVec 32 := Scalar.divsi v9 c8_i32
  let c1_i32 : BitVec 32 := 1#32
  let v25 : BitVec 32 := Scalar.subi v10 c1_i32
  let v26 : BitVec 32 := Scalar.select v24 v25 v10
  let c64_i32 : BitVec 32 := 64#32
  let v32 : BitVec 32 := Scalar.addi v26 c64_i32
  let v33 : Index := Scalar.indexCast v32
  let c0_10 : Index := 0#32
  let c0_11 : Index := 0#32
  ![v33.toNat, 0, 0]

def k0_chk1 (i : grid0.Coords) (v6 : BitVec 32) : Prop :=
  (∀ a, (k0_off3 i v6) a + S64x8x768.size a ≤ S1089x8x768.size a) ∧
  (∀ a, (k0_off4 i v6) a + S1x8x768.size a ≤ S1089x8x768.size a)
theorem k0_off3_inb : ∀ (i : grid0.Coords) (v6 : BitVec 32) (k0_hw1 : k0_chk1 i v6), ∀ a, (k0_off3 i v6) a + S64x8x768.size a ≤ S1089x8x768.size a := fun i v6 k0_hw1 => k0_hw1.1
theorem k0_off4_inb : ∀ (i : grid0.Coords) (v6 : BitVec 32) (k0_hw1 : k0_chk1 i v6), ∀ a, (k0_off4 i v6) a + S1x8x768.size a ≤ S1089x8x768.size a := fun i v6 k0_hw1 => k0_hw1.2

def k0_off5 (i : grid0.Coords) : Fin 2 → Nat :=
  let arg0 : BitVec 32 := BitVec.ofNat 32 (i 0).val
  let v41 : Index := Scalar.indexCast arg0
  let c1 : Index := 1#32
  ![v41.toNat, 1]
def k0_off6 (i : grid0.Coords) (v42 : BitVec 32) : Fin 3 → Nat :=
  let arg1 : BitVec 32 := BitVec.ofNat 32 (i 1).val
  let c512_i32 : BitVec 32 := 512#32
  let v0 : BitVec 32 := Scalar.muli arg1 c512_i32
  let v43 : BitVec 32 := Scalar.subi v0 v42
  let c8192_i32_14 : BitVec 32 := 8192#32
  let v44 : BitVec 32 := Scalar.addi v43 c8192_i32_14
  let c8192_i32_15 : BitVec 32 := 8192#32
  let v45 : BitVec 32 := Scalar.remsi v44 c8192_i32_15
  let c0_i32_17 : BitVec 32 := 0#32
  let v47 : BitVec 1 := Scalar.cmpi .sgt v45 c0_i32_17
  let v48 : BitVec 32 := Scalar.extui v47
  let c0_i32_18 : BitVec 32 := 0#32
  let v49 : BitVec 1 := Scalar.cmpi .slt v45 c0_i32_18
  let v50 : BitVec 32 := Scalar.extui v49
  let v51 : BitVec 32 := Scalar.subi v48 v50
  let c8_i32_16 : BitVec 32 := 8#32
  let c0_i32_19 : BitVec 32 := 0#32
  let v52 : BitVec 1 := Scalar.cmpi .sgt c8_i32_16 c0_i32_19
  let v53 : BitVec 32 := Scalar.extui v52
  let c0_i32_20 : BitVec 32 := 0#32
  let v54 : BitVec 1 := Scalar.cmpi .slt c8_i32_16 c0_i32_20
  let v55 : BitVec 32 := Scalar.extui v54
  let v56 : BitVec 32 := Scalar.subi v53 v55
  let v57 : BitVec 1 := Scalar.cmpi .ne v51 v56
  let v58 : BitVec 32 := Scalar.remsi v45 c8_i32_16
  let c0_i32_21 : BitVec 32 := 0#32
  let v59 : BitVec 1 := Scalar.cmpi .ne v58 c0_i32_21
  let v60 : BitVec 1 := Scalar.andi v57 v59
  let v46 : BitVec 32 := Scalar.divsi v45 c8_i32_16
  let c1_i32_22 : BitVec 32 := 1#32
  let v61 : BitVec 32 := Scalar.subi v46 c1_i32_22
  let v62 : BitVec 32 := Scalar.select v60 v61 v46
  let v65 : Index := Scalar.indexCast v62
  let c0_24 : Index := 0#32
  let c0_25 : Index := 0#32
  ![v65.toNat, 0, 0]

def k0_off7 (i : grid0.Coords) (v42 : BitVec 32) : Fin 3 → Nat :=
  let arg1 : BitVec 32 := BitVec.ofNat 32 (i 1).val
  let c512_i32 : BitVec 32 := 512#32
  let v0 : BitVec 32 := Scalar.muli arg1 c512_i32
  let v43 : BitVec 32 := Scalar.subi v0 v42
  let c8192_i32_14 : BitVec 32 := 8192#32
  let v44 : BitVec 32 := Scalar.addi v43 c8192_i32_14
  let c8192_i32_15 : BitVec 32 := 8192#32
  let v45 : BitVec 32 := Scalar.remsi v44 c8192_i32_15
  let c0_i32_17 : BitVec 32 := 0#32
  let v47 : BitVec 1 := Scalar.cmpi .sgt v45 c0_i32_17
  let v48 : BitVec 32 := Scalar.extui v47
  let c0_i32_18 : BitVec 32 := 0#32
  let v49 : BitVec 1 := Scalar.cmpi .slt v45 c0_i32_18
  let v50 : BitVec 32 := Scalar.extui v49
  let v51 : BitVec 32 := Scalar.subi v48 v50
  let c8_i32_16 : BitVec 32 := 8#32
  let c0_i32_19 : BitVec 32 := 0#32
  let v52 : BitVec 1 := Scalar.cmpi .sgt c8_i32_16 c0_i32_19
  let v53 : BitVec 32 := Scalar.extui v52
  let c0_i32_20 : BitVec 32 := 0#32
  let v54 : BitVec 1 := Scalar.cmpi .slt c8_i32_16 c0_i32_20
  let v55 : BitVec 32 := Scalar.extui v54
  let v56 : BitVec 32 := Scalar.subi v53 v55
  let v57 : BitVec 1 := Scalar.cmpi .ne v51 v56
  let v58 : BitVec 32 := Scalar.remsi v45 c8_i32_16
  let c0_i32_21 : BitVec 32 := 0#32
  let v59 : BitVec 1 := Scalar.cmpi .ne v58 c0_i32_21
  let v60 : BitVec 1 := Scalar.andi v57 v59
  let v46 : BitVec 32 := Scalar.divsi v45 c8_i32_16
  let c1_i32_22 : BitVec 32 := 1#32
  let v61 : BitVec 32 := Scalar.subi v46 c1_i32_22
  let v62 : BitVec 32 := Scalar.select v60 v61 v46
  let c64_i32_26 : BitVec 32 := 64#32
  let v68 : BitVec 32 := Scalar.addi v62 c64_i32_26
  let v69 : Index := Scalar.indexCast v68
  let c0_27 : Index := 0#32
  let c0_28 : Index := 0#32
  ![v69.toNat, 0, 0]

def k0_chk2 (i : grid0.Coords) (v42 : BitVec 32) : Prop :=
  (∀ a, (k0_off6 i v42) a + S64x8x768.size a ≤ S1089x8x768.size a) ∧
  (∀ a, (k0_off7 i v42) a + S1x8x768.size a ≤ S1089x8x768.size a)
theorem k0_off6_inb : ∀ (i : grid0.Coords) (v42 : BitVec 32) (k0_hw2 : k0_chk2 i v42), ∀ a, (k0_off6 i v42) a + S64x8x768.size a ≤ S1089x8x768.size a := fun i v42 k0_hw2 => k0_hw2.1
theorem k0_off7_inb : ∀ (i : grid0.Coords) (v42 : BitVec 32) (k0_hw2 : k0_chk2 i v42), ∀ a, (k0_off7 i v42) a + S1x8x768.size a ≤ S1089x8x768.size a := fun i v42 k0_hw2 => k0_hw2.2

def k0_off8 (i : grid0.Coords) : Fin 2 → Nat :=
  let arg0 : BitVec 32 := BitVec.ofNat 32 (i 0).val
  let v77 : Index := Scalar.indexCast arg0
  let c2 : Index := 2#32
  ![v77.toNat, 2]
def k0_off9 (i : grid0.Coords) (v78 : BitVec 32) : Fin 3 → Nat :=
  let arg1 : BitVec 32 := BitVec.ofNat 32 (i 1).val
  let c512_i32 : BitVec 32 := 512#32
  let v0 : BitVec 32 := Scalar.muli arg1 c512_i32
  let v79 : BitVec 32 := Scalar.subi v0 v78
  let c8192_i32_32 : BitVec 32 := 8192#32
  let v80 : BitVec 32 := Scalar.addi v79 c8192_i32_32
  let c8192_i32_33 : BitVec 32 := 8192#32
  let v81 : BitVec 32 := Scalar.remsi v80 c8192_i32_33
  let c0_i32_35 : BitVec 32 := 0#32
  let v83 : BitVec 1 := Scalar.cmpi .sgt v81 c0_i32_35
  let v84 : BitVec 32 := Scalar.extui v83
  let c0_i32_36 : BitVec 32 := 0#32
  let v85 : BitVec 1 := Scalar.cmpi .slt v81 c0_i32_36
  let v86 : BitVec 32 := Scalar.extui v85
  let v87 : BitVec 32 := Scalar.subi v84 v86
  let c8_i32_34 : BitVec 32 := 8#32
  let c0_i32_37 : BitVec 32 := 0#32
  let v88 : BitVec 1 := Scalar.cmpi .sgt c8_i32_34 c0_i32_37
  let v89 : BitVec 32 := Scalar.extui v88
  let c0_i32_38 : BitVec 32 := 0#32
  let v90 : BitVec 1 := Scalar.cmpi .slt c8_i32_34 c0_i32_38
  let v91 : BitVec 32 := Scalar.extui v90
  let v92 : BitVec 32 := Scalar.subi v89 v91
  let v93 : BitVec 1 := Scalar.cmpi .ne v87 v92
  let v94 : BitVec 32 := Scalar.remsi v81 c8_i32_34
  let c0_i32_39 : BitVec 32 := 0#32
  let v95 : BitVec 1 := Scalar.cmpi .ne v94 c0_i32_39
  let v96 : BitVec 1 := Scalar.andi v93 v95
  let v82 : BitVec 32 := Scalar.divsi v81 c8_i32_34
  let c1_i32_40 : BitVec 32 := 1#32
  let v97 : BitVec 32 := Scalar.subi v82 c1_i32_40
  let v98 : BitVec 32 := Scalar.select v96 v97 v82
  let v101 : Index := Scalar.indexCast v98
  let c0_42 : Index := 0#32
  let c0_43 : Index := 0#32
  ![v101.toNat, 0, 0]

def k0_off10 (i : grid0.Coords) (v78 : BitVec 32) : Fin 3 → Nat :=
  let arg1 : BitVec 32 := BitVec.ofNat 32 (i 1).val
  let c512_i32 : BitVec 32 := 512#32
  let v0 : BitVec 32 := Scalar.muli arg1 c512_i32
  let v79 : BitVec 32 := Scalar.subi v0 v78
  let c8192_i32_32 : BitVec 32 := 8192#32
  let v80 : BitVec 32 := Scalar.addi v79 c8192_i32_32
  let c8192_i32_33 : BitVec 32 := 8192#32
  let v81 : BitVec 32 := Scalar.remsi v80 c8192_i32_33
  let c0_i32_35 : BitVec 32 := 0#32
  let v83 : BitVec 1 := Scalar.cmpi .sgt v81 c0_i32_35
  let v84 : BitVec 32 := Scalar.extui v83
  let c0_i32_36 : BitVec 32 := 0#32
  let v85 : BitVec 1 := Scalar.cmpi .slt v81 c0_i32_36
  let v86 : BitVec 32 := Scalar.extui v85
  let v87 : BitVec 32 := Scalar.subi v84 v86
  let c8_i32_34 : BitVec 32 := 8#32
  let c0_i32_37 : BitVec 32 := 0#32
  let v88 : BitVec 1 := Scalar.cmpi .sgt c8_i32_34 c0_i32_37
  let v89 : BitVec 32 := Scalar.extui v88
  let c0_i32_38 : BitVec 32 := 0#32
  let v90 : BitVec 1 := Scalar.cmpi .slt c8_i32_34 c0_i32_38
  let v91 : BitVec 32 := Scalar.extui v90
  let v92 : BitVec 32 := Scalar.subi v89 v91
  let v93 : BitVec 1 := Scalar.cmpi .ne v87 v92
  let v94 : BitVec 32 := Scalar.remsi v81 c8_i32_34
  let c0_i32_39 : BitVec 32 := 0#32
  let v95 : BitVec 1 := Scalar.cmpi .ne v94 c0_i32_39
  let v96 : BitVec 1 := Scalar.andi v93 v95
  let v82 : BitVec 32 := Scalar.divsi v81 c8_i32_34
  let c1_i32_40 : BitVec 32 := 1#32
  let v97 : BitVec 32 := Scalar.subi v82 c1_i32_40
  let v98 : BitVec 32 := Scalar.select v96 v97 v82
  let c64_i32_44 : BitVec 32 := 64#32
  let v104 : BitVec 32 := Scalar.addi v98 c64_i32_44
  let v105 : Index := Scalar.indexCast v104
  let c0_45 : Index := 0#32
  let c0_46 : Index := 0#32
  ![v105.toNat, 0, 0]

def k0_chk3 (i : grid0.Coords) (v78 : BitVec 32) : Prop :=
  (∀ a, (k0_off9 i v78) a + S64x8x768.size a ≤ S1089x8x768.size a) ∧
  (∀ a, (k0_off10 i v78) a + S1x8x768.size a ≤ S1089x8x768.size a)
theorem k0_off9_inb : ∀ (i : grid0.Coords) (v78 : BitVec 32) (k0_hw3 : k0_chk3 i v78), ∀ a, (k0_off9 i v78) a + S64x8x768.size a ≤ S1089x8x768.size a := fun i v78 k0_hw3 => k0_hw3.1
theorem k0_off10_inb : ∀ (i : grid0.Coords) (v78 : BitVec 32) (k0_hw3 : k0_chk3 i v78), ∀ a, (k0_off10 i v78) a + S1x8x768.size a ≤ S1089x8x768.size a := fun i v78 k0_hw3 => k0_hw3.2

def k0_off11 (i : grid0.Coords) : Fin 2 → Nat :=
  let arg0 : BitVec 32 := BitVec.ofNat 32 (i 0).val
  let v113 : Index := Scalar.indexCast arg0
  let c3 : Index := 3#32
  ![v113.toNat, 3]
def k0_off12 (i : grid0.Coords) (v114 : BitVec 32) : Fin 3 → Nat :=
  let arg1 : BitVec 32 := BitVec.ofNat 32 (i 1).val
  let c512_i32 : BitVec 32 := 512#32
  let v0 : BitVec 32 := Scalar.muli arg1 c512_i32
  let v115 : BitVec 32 := Scalar.subi v0 v114
  let c8192_i32_50 : BitVec 32 := 8192#32
  let v116 : BitVec 32 := Scalar.addi v115 c8192_i32_50
  let c8192_i32_51 : BitVec 32 := 8192#32
  let v117 : BitVec 32 := Scalar.remsi v116 c8192_i32_51
  let c0_i32_53 : BitVec 32 := 0#32
  let v119 : BitVec 1 := Scalar.cmpi .sgt v117 c0_i32_53
  let v120 : BitVec 32 := Scalar.extui v119
  let c0_i32_54 : BitVec 32 := 0#32
  let v121 : BitVec 1 := Scalar.cmpi .slt v117 c0_i32_54
  let v122 : BitVec 32 := Scalar.extui v121
  let v123 : BitVec 32 := Scalar.subi v120 v122
  let c8_i32_52 : BitVec 32 := 8#32
  let c0_i32_55 : BitVec 32 := 0#32
  let v124 : BitVec 1 := Scalar.cmpi .sgt c8_i32_52 c0_i32_55
  let v125 : BitVec 32 := Scalar.extui v124
  let c0_i32_56 : BitVec 32 := 0#32
  let v126 : BitVec 1 := Scalar.cmpi .slt c8_i32_52 c0_i32_56
  let v127 : BitVec 32 := Scalar.extui v126
  let v128 : BitVec 32 := Scalar.subi v125 v127
  let v129 : BitVec 1 := Scalar.cmpi .ne v123 v128
  let v130 : BitVec 32 := Scalar.remsi v117 c8_i32_52
  let c0_i32_57 : BitVec 32 := 0#32
  let v131 : BitVec 1 := Scalar.cmpi .ne v130 c0_i32_57
  let v132 : BitVec 1 := Scalar.andi v129 v131
  let v118 : BitVec 32 := Scalar.divsi v117 c8_i32_52
  let c1_i32_58 : BitVec 32 := 1#32
  let v133 : BitVec 32 := Scalar.subi v118 c1_i32_58
  let v134 : BitVec 32 := Scalar.select v132 v133 v118
  let v137 : Index := Scalar.indexCast v134
  let c0_60 : Index := 0#32
  let c0_61 : Index := 0#32
  ![v137.toNat, 0, 0]

def k0_off13 (i : grid0.Coords) (v114 : BitVec 32) : Fin 3 → Nat :=
  let arg1 : BitVec 32 := BitVec.ofNat 32 (i 1).val
  let c512_i32 : BitVec 32 := 512#32
  let v0 : BitVec 32 := Scalar.muli arg1 c512_i32
  let v115 : BitVec 32 := Scalar.subi v0 v114
  let c8192_i32_50 : BitVec 32 := 8192#32
  let v116 : BitVec 32 := Scalar.addi v115 c8192_i32_50
  let c8192_i32_51 : BitVec 32 := 8192#32
  let v117 : BitVec 32 := Scalar.remsi v116 c8192_i32_51
  let c0_i32_53 : BitVec 32 := 0#32
  let v119 : BitVec 1 := Scalar.cmpi .sgt v117 c0_i32_53
  let v120 : BitVec 32 := Scalar.extui v119
  let c0_i32_54 : BitVec 32 := 0#32
  let v121 : BitVec 1 := Scalar.cmpi .slt v117 c0_i32_54
  let v122 : BitVec 32 := Scalar.extui v121
  let v123 : BitVec 32 := Scalar.subi v120 v122
  let c8_i32_52 : BitVec 32 := 8#32
  let c0_i32_55 : BitVec 32 := 0#32
  let v124 : BitVec 1 := Scalar.cmpi .sgt c8_i32_52 c0_i32_55
  let v125 : BitVec 32 := Scalar.extui v124
  let c0_i32_56 : BitVec 32 := 0#32
  let v126 : BitVec 1 := Scalar.cmpi .slt c8_i32_52 c0_i32_56
  let v127 : BitVec 32 := Scalar.extui v126
  let v128 : BitVec 32 := Scalar.subi v125 v127
  let v129 : BitVec 1 := Scalar.cmpi .ne v123 v128
  let v130 : BitVec 32 := Scalar.remsi v117 c8_i32_52
  let c0_i32_57 : BitVec 32 := 0#32
  let v131 : BitVec 1 := Scalar.cmpi .ne v130 c0_i32_57
  let v132 : BitVec 1 := Scalar.andi v129 v131
  let v118 : BitVec 32 := Scalar.divsi v117 c8_i32_52
  let c1_i32_58 : BitVec 32 := 1#32
  let v133 : BitVec 32 := Scalar.subi v118 c1_i32_58
  let v134 : BitVec 32 := Scalar.select v132 v133 v118
  let c64_i32_62 : BitVec 32 := 64#32
  let v140 : BitVec 32 := Scalar.addi v134 c64_i32_62
  let v141 : Index := Scalar.indexCast v140
  let c0_63 : Index := 0#32
  let c0_64 : Index := 0#32
  ![v141.toNat, 0, 0]

def k0_chk4 (i : grid0.Coords) (v114 : BitVec 32) : Prop :=
  (∀ a, (k0_off12 i v114) a + S64x8x768.size a ≤ S1089x8x768.size a) ∧
  (∀ a, (k0_off13 i v114) a + S1x8x768.size a ≤ S1089x8x768.size a)
theorem k0_off12_inb : ∀ (i : grid0.Coords) (v114 : BitVec 32) (k0_hw4 : k0_chk4 i v114), ∀ a, (k0_off12 i v114) a + S64x8x768.size a ≤ S1089x8x768.size a := fun i v114 k0_hw4 => k0_hw4.1
theorem k0_off13_inb : ∀ (i : grid0.Coords) (v114 : BitVec 32) (k0_hw4 : k0_chk4 i v114), ∀ a, (k0_off13 i v114) a + S1x8x768.size a ≤ S1089x8x768.size a := fun i v114 k0_hw4 => k0_hw4.2

def k0_off14 (i : grid0.Coords) : Fin 2 → Nat :=
  let arg0 : BitVec 32 := BitVec.ofNat 32 (i 0).val
  let v149 : Index := Scalar.indexCast arg0
  let c4 : Index := 4#32
  ![v149.toNat, 4]
def k0_off15 (i : grid0.Coords) (v150 : BitVec 32) : Fin 3 → Nat :=
  let arg1 : BitVec 32 := BitVec.ofNat 32 (i 1).val
  let c512_i32 : BitVec 32 := 512#32
  let v0 : BitVec 32 := Scalar.muli arg1 c512_i32
  let v151 : BitVec 32 := Scalar.subi v0 v150
  let c8192_i32_68 : BitVec 32 := 8192#32
  let v152 : BitVec 32 := Scalar.addi v151 c8192_i32_68
  let c8192_i32_69 : BitVec 32 := 8192#32
  let v153 : BitVec 32 := Scalar.remsi v152 c8192_i32_69
  let c0_i32_71 : BitVec 32 := 0#32
  let v155 : BitVec 1 := Scalar.cmpi .sgt v153 c0_i32_71
  let v156 : BitVec 32 := Scalar.extui v155
  let c0_i32_72 : BitVec 32 := 0#32
  let v157 : BitVec 1 := Scalar.cmpi .slt v153 c0_i32_72
  let v158 : BitVec 32 := Scalar.extui v157
  let v159 : BitVec 32 := Scalar.subi v156 v158
  let c8_i32_70 : BitVec 32 := 8#32
  let c0_i32_73 : BitVec 32 := 0#32
  let v160 : BitVec 1 := Scalar.cmpi .sgt c8_i32_70 c0_i32_73
  let v161 : BitVec 32 := Scalar.extui v160
  let c0_i32_74 : BitVec 32 := 0#32
  let v162 : BitVec 1 := Scalar.cmpi .slt c8_i32_70 c0_i32_74
  let v163 : BitVec 32 := Scalar.extui v162
  let v164 : BitVec 32 := Scalar.subi v161 v163
  let v165 : BitVec 1 := Scalar.cmpi .ne v159 v164
  let v166 : BitVec 32 := Scalar.remsi v153 c8_i32_70
  let c0_i32_75 : BitVec 32 := 0#32
  let v167 : BitVec 1 := Scalar.cmpi .ne v166 c0_i32_75
  let v168 : BitVec 1 := Scalar.andi v165 v167
  let v154 : BitVec 32 := Scalar.divsi v153 c8_i32_70
  let c1_i32_76 : BitVec 32 := 1#32
  let v169 : BitVec 32 := Scalar.subi v154 c1_i32_76
  let v170 : BitVec 32 := Scalar.select v168 v169 v154
  let v173 : Index := Scalar.indexCast v170
  let c0_78 : Index := 0#32
  let c0_79 : Index := 0#32
  ![v173.toNat, 0, 0]

def k0_off16 (i : grid0.Coords) (v150 : BitVec 32) : Fin 3 → Nat :=
  let arg1 : BitVec 32 := BitVec.ofNat 32 (i 1).val
  let c512_i32 : BitVec 32 := 512#32
  let v0 : BitVec 32 := Scalar.muli arg1 c512_i32
  let v151 : BitVec 32 := Scalar.subi v0 v150
  let c8192_i32_68 : BitVec 32 := 8192#32
  let v152 : BitVec 32 := Scalar.addi v151 c8192_i32_68
  let c8192_i32_69 : BitVec 32 := 8192#32
  let v153 : BitVec 32 := Scalar.remsi v152 c8192_i32_69
  let c0_i32_71 : BitVec 32 := 0#32
  let v155 : BitVec 1 := Scalar.cmpi .sgt v153 c0_i32_71
  let v156 : BitVec 32 := Scalar.extui v155
  let c0_i32_72 : BitVec 32 := 0#32
  let v157 : BitVec 1 := Scalar.cmpi .slt v153 c0_i32_72
  let v158 : BitVec 32 := Scalar.extui v157
  let v159 : BitVec 32 := Scalar.subi v156 v158
  let c8_i32_70 : BitVec 32 := 8#32
  let c0_i32_73 : BitVec 32 := 0#32
  let v160 : BitVec 1 := Scalar.cmpi .sgt c8_i32_70 c0_i32_73
  let v161 : BitVec 32 := Scalar.extui v160
  let c0_i32_74 : BitVec 32 := 0#32
  let v162 : BitVec 1 := Scalar.cmpi .slt c8_i32_70 c0_i32_74
  let v163 : BitVec 32 := Scalar.extui v162
  let v164 : BitVec 32 := Scalar.subi v161 v163
  let v165 : BitVec 1 := Scalar.cmpi .ne v159 v164
  let v166 : BitVec 32 := Scalar.remsi v153 c8_i32_70
  let c0_i32_75 : BitVec 32 := 0#32
  let v167 : BitVec 1 := Scalar.cmpi .ne v166 c0_i32_75
  let v168 : BitVec 1 := Scalar.andi v165 v167
  let v154 : BitVec 32 := Scalar.divsi v153 c8_i32_70
  let c1_i32_76 : BitVec 32 := 1#32
  let v169 : BitVec 32 := Scalar.subi v154 c1_i32_76
  let v170 : BitVec 32 := Scalar.select v168 v169 v154
  let c64_i32_80 : BitVec 32 := 64#32
  let v176 : BitVec 32 := Scalar.addi v170 c64_i32_80
  let v177 : Index := Scalar.indexCast v176
  let c0_81 : Index := 0#32
  let c0_82 : Index := 0#32
  ![v177.toNat, 0, 0]

def k0_chk5 (i : grid0.Coords) (v150 : BitVec 32) : Prop :=
  (∀ a, (k0_off15 i v150) a + S64x8x768.size a ≤ S1089x8x768.size a) ∧
  (∀ a, (k0_off16 i v150) a + S1x8x768.size a ≤ S1089x8x768.size a)
theorem k0_off15_inb : ∀ (i : grid0.Coords) (v150 : BitVec 32) (k0_hw5 : k0_chk5 i v150), ∀ a, (k0_off15 i v150) a + S64x8x768.size a ≤ S1089x8x768.size a := fun i v150 k0_hw5 => k0_hw5.1
theorem k0_off16_inb : ∀ (i : grid0.Coords) (v150 : BitVec 32) (k0_hw5 : k0_chk5 i v150), ∀ a, (k0_off16 i v150) a + S1x8x768.size a ≤ S1089x8x768.size a := fun i v150 k0_hw5 => k0_hw5.2

def k0_off17 (i : grid0.Coords) : Fin 2 → Nat :=
  let arg0 : BitVec 32 := BitVec.ofNat 32 (i 0).val
  let v185 : Index := Scalar.indexCast arg0
  let c5 : Index := 5#32
  ![v185.toNat, 5]
def k0_off18 (i : grid0.Coords) (v186 : BitVec 32) : Fin 3 → Nat :=
  let arg1 : BitVec 32 := BitVec.ofNat 32 (i 1).val
  let c512_i32 : BitVec 32 := 512#32
  let v0 : BitVec 32 := Scalar.muli arg1 c512_i32
  let v187 : BitVec 32 := Scalar.subi v0 v186
  let c8192_i32_86 : BitVec 32 := 8192#32
  let v188 : BitVec 32 := Scalar.addi v187 c8192_i32_86
  let c8192_i32_87 : BitVec 32 := 8192#32
  let v189 : BitVec 32 := Scalar.remsi v188 c8192_i32_87
  let c0_i32_89 : BitVec 32 := 0#32
  let v191 : BitVec 1 := Scalar.cmpi .sgt v189 c0_i32_89
  let v192 : BitVec 32 := Scalar.extui v191
  let c0_i32_90 : BitVec 32 := 0#32
  let v193 : BitVec 1 := Scalar.cmpi .slt v189 c0_i32_90
  let v194 : BitVec 32 := Scalar.extui v193
  let v195 : BitVec 32 := Scalar.subi v192 v194
  let c8_i32_88 : BitVec 32 := 8#32
  let c0_i32_91 : BitVec 32 := 0#32
  let v196 : BitVec 1 := Scalar.cmpi .sgt c8_i32_88 c0_i32_91
  let v197 : BitVec 32 := Scalar.extui v196
  let c0_i32_92 : BitVec 32 := 0#32
  let v198 : BitVec 1 := Scalar.cmpi .slt c8_i32_88 c0_i32_92
  let v199 : BitVec 32 := Scalar.extui v198
  let v200 : BitVec 32 := Scalar.subi v197 v199
  let v201 : BitVec 1 := Scalar.cmpi .ne v195 v200
  let v202 : BitVec 32 := Scalar.remsi v189 c8_i32_88
  let c0_i32_93 : BitVec 32 := 0#32
  let v203 : BitVec 1 := Scalar.cmpi .ne v202 c0_i32_93
  let v204 : BitVec 1 := Scalar.andi v201 v203
  let v190 : BitVec 32 := Scalar.divsi v189 c8_i32_88
  let c1_i32_94 : BitVec 32 := 1#32
  let v205 : BitVec 32 := Scalar.subi v190 c1_i32_94
  let v206 : BitVec 32 := Scalar.select v204 v205 v190
  let v209 : Index := Scalar.indexCast v206
  let c0_96 : Index := 0#32
  let c0_97 : Index := 0#32
  ![v209.toNat, 0, 0]

def k0_off19 (i : grid0.Coords) (v186 : BitVec 32) : Fin 3 → Nat :=
  let arg1 : BitVec 32 := BitVec.ofNat 32 (i 1).val
  let c512_i32 : BitVec 32 := 512#32
  let v0 : BitVec 32 := Scalar.muli arg1 c512_i32
  let v187 : BitVec 32 := Scalar.subi v0 v186
  let c8192_i32_86 : BitVec 32 := 8192#32
  let v188 : BitVec 32 := Scalar.addi v187 c8192_i32_86
  let c8192_i32_87 : BitVec 32 := 8192#32
  let v189 : BitVec 32 := Scalar.remsi v188 c8192_i32_87
  let c0_i32_89 : BitVec 32 := 0#32
  let v191 : BitVec 1 := Scalar.cmpi .sgt v189 c0_i32_89
  let v192 : BitVec 32 := Scalar.extui v191
  let c0_i32_90 : BitVec 32 := 0#32
  let v193 : BitVec 1 := Scalar.cmpi .slt v189 c0_i32_90
  let v194 : BitVec 32 := Scalar.extui v193
  let v195 : BitVec 32 := Scalar.subi v192 v194
  let c8_i32_88 : BitVec 32 := 8#32
  let c0_i32_91 : BitVec 32 := 0#32
  let v196 : BitVec 1 := Scalar.cmpi .sgt c8_i32_88 c0_i32_91
  let v197 : BitVec 32 := Scalar.extui v196
  let c0_i32_92 : BitVec 32 := 0#32
  let v198 : BitVec 1 := Scalar.cmpi .slt c8_i32_88 c0_i32_92
  let v199 : BitVec 32 := Scalar.extui v198
  let v200 : BitVec 32 := Scalar.subi v197 v199
  let v201 : BitVec 1 := Scalar.cmpi .ne v195 v200
  let v202 : BitVec 32 := Scalar.remsi v189 c8_i32_88
  let c0_i32_93 : BitVec 32 := 0#32
  let v203 : BitVec 1 := Scalar.cmpi .ne v202 c0_i32_93
  let v204 : BitVec 1 := Scalar.andi v201 v203
  let v190 : BitVec 32 := Scalar.divsi v189 c8_i32_88
  let c1_i32_94 : BitVec 32 := 1#32
  let v205 : BitVec 32 := Scalar.subi v190 c1_i32_94
  let v206 : BitVec 32 := Scalar.select v204 v205 v190
  let c64_i32_98 : BitVec 32 := 64#32
  let v212 : BitVec 32 := Scalar.addi v206 c64_i32_98
  let v213 : Index := Scalar.indexCast v212
  let c0_99 : Index := 0#32
  let c0_100 : Index := 0#32
  ![v213.toNat, 0, 0]

def k0_chk6 (i : grid0.Coords) (v186 : BitVec 32) : Prop :=
  (∀ a, (k0_off18 i v186) a + S64x8x768.size a ≤ S1089x8x768.size a) ∧
  (∀ a, (k0_off19 i v186) a + S1x8x768.size a ≤ S1089x8x768.size a)
theorem k0_off18_inb : ∀ (i : grid0.Coords) (v186 : BitVec 32) (k0_hw6 : k0_chk6 i v186), ∀ a, (k0_off18 i v186) a + S64x8x768.size a ≤ S1089x8x768.size a := fun i v186 k0_hw6 => k0_hw6.1
theorem k0_off19_inb : ∀ (i : grid0.Coords) (v186 : BitVec 32) (k0_hw6 : k0_chk6 i v186), ∀ a, (k0_off19 i v186) a + S1x8x768.size a ≤ S1089x8x768.size a := fun i v186 k0_hw6 => k0_hw6.2

def k0_off20 (i : grid0.Coords) : Fin 2 → Nat :=
  let arg0 : BitVec 32 := BitVec.ofNat 32 (i 0).val
  let v221 : Index := Scalar.indexCast arg0
  let c6 : Index := 6#32
  ![v221.toNat, 6]
def k0_off21 (i : grid0.Coords) (v222 : BitVec 32) : Fin 3 → Nat :=
  let arg1 : BitVec 32 := BitVec.ofNat 32 (i 1).val
  let c512_i32 : BitVec 32 := 512#32
  let v0 : BitVec 32 := Scalar.muli arg1 c512_i32
  let v223 : BitVec 32 := Scalar.subi v0 v222
  let c8192_i32_104 : BitVec 32 := 8192#32
  let v224 : BitVec 32 := Scalar.addi v223 c8192_i32_104
  let c8192_i32_105 : BitVec 32 := 8192#32
  let v225 : BitVec 32 := Scalar.remsi v224 c8192_i32_105
  let c0_i32_107 : BitVec 32 := 0#32
  let v227 : BitVec 1 := Scalar.cmpi .sgt v225 c0_i32_107
  let v228 : BitVec 32 := Scalar.extui v227
  let c0_i32_108 : BitVec 32 := 0#32
  let v229 : BitVec 1 := Scalar.cmpi .slt v225 c0_i32_108
  let v230 : BitVec 32 := Scalar.extui v229
  let v231 : BitVec 32 := Scalar.subi v228 v230
  let c8_i32_106 : BitVec 32 := 8#32
  let c0_i32_109 : BitVec 32 := 0#32
  let v232 : BitVec 1 := Scalar.cmpi .sgt c8_i32_106 c0_i32_109
  let v233 : BitVec 32 := Scalar.extui v232
  let c0_i32_110 : BitVec 32 := 0#32
  let v234 : BitVec 1 := Scalar.cmpi .slt c8_i32_106 c0_i32_110
  let v235 : BitVec 32 := Scalar.extui v234
  let v236 : BitVec 32 := Scalar.subi v233 v235
  let v237 : BitVec 1 := Scalar.cmpi .ne v231 v236
  let v238 : BitVec 32 := Scalar.remsi v225 c8_i32_106
  let c0_i32_111 : BitVec 32 := 0#32
  let v239 : BitVec 1 := Scalar.cmpi .ne v238 c0_i32_111
  let v240 : BitVec 1 := Scalar.andi v237 v239
  let v226 : BitVec 32 := Scalar.divsi v225 c8_i32_106
  let c1_i32_112 : BitVec 32 := 1#32
  let v241 : BitVec 32 := Scalar.subi v226 c1_i32_112
  let v242 : BitVec 32 := Scalar.select v240 v241 v226
  let v245 : Index := Scalar.indexCast v242
  let c0_114 : Index := 0#32
  let c0_115 : Index := 0#32
  ![v245.toNat, 0, 0]

def k0_off22 (i : grid0.Coords) (v222 : BitVec 32) : Fin 3 → Nat :=
  let arg1 : BitVec 32 := BitVec.ofNat 32 (i 1).val
  let c512_i32 : BitVec 32 := 512#32
  let v0 : BitVec 32 := Scalar.muli arg1 c512_i32
  let v223 : BitVec 32 := Scalar.subi v0 v222
  let c8192_i32_104 : BitVec 32 := 8192#32
  let v224 : BitVec 32 := Scalar.addi v223 c8192_i32_104
  let c8192_i32_105 : BitVec 32 := 8192#32
  let v225 : BitVec 32 := Scalar.remsi v224 c8192_i32_105
  let c0_i32_107 : BitVec 32 := 0#32
  let v227 : BitVec 1 := Scalar.cmpi .sgt v225 c0_i32_107
  let v228 : BitVec 32 := Scalar.extui v227
  let c0_i32_108 : BitVec 32 := 0#32
  let v229 : BitVec 1 := Scalar.cmpi .slt v225 c0_i32_108
  let v230 : BitVec 32 := Scalar.extui v229
  let v231 : BitVec 32 := Scalar.subi v228 v230
  let c8_i32_106 : BitVec 32 := 8#32
  let c0_i32_109 : BitVec 32 := 0#32
  let v232 : BitVec 1 := Scalar.cmpi .sgt c8_i32_106 c0_i32_109
  let v233 : BitVec 32 := Scalar.extui v232
  let c0_i32_110 : BitVec 32 := 0#32
  let v234 : BitVec 1 := Scalar.cmpi .slt c8_i32_106 c0_i32_110
  let v235 : BitVec 32 := Scalar.extui v234
  let v236 : BitVec 32 := Scalar.subi v233 v235
  let v237 : BitVec 1 := Scalar.cmpi .ne v231 v236
  let v238 : BitVec 32 := Scalar.remsi v225 c8_i32_106
  let c0_i32_111 : BitVec 32 := 0#32
  let v239 : BitVec 1 := Scalar.cmpi .ne v238 c0_i32_111
  let v240 : BitVec 1 := Scalar.andi v237 v239
  let v226 : BitVec 32 := Scalar.divsi v225 c8_i32_106
  let c1_i32_112 : BitVec 32 := 1#32
  let v241 : BitVec 32 := Scalar.subi v226 c1_i32_112
  let v242 : BitVec 32 := Scalar.select v240 v241 v226
  let c64_i32_116 : BitVec 32 := 64#32
  let v248 : BitVec 32 := Scalar.addi v242 c64_i32_116
  let v249 : Index := Scalar.indexCast v248
  let c0_117 : Index := 0#32
  let c0_118 : Index := 0#32
  ![v249.toNat, 0, 0]

def k0_chk7 (i : grid0.Coords) (v222 : BitVec 32) : Prop :=
  (∀ a, (k0_off21 i v222) a + S64x8x768.size a ≤ S1089x8x768.size a) ∧
  (∀ a, (k0_off22 i v222) a + S1x8x768.size a ≤ S1089x8x768.size a)
theorem k0_off21_inb : ∀ (i : grid0.Coords) (v222 : BitVec 32) (k0_hw7 : k0_chk7 i v222), ∀ a, (k0_off21 i v222) a + S64x8x768.size a ≤ S1089x8x768.size a := fun i v222 k0_hw7 => k0_hw7.1
theorem k0_off22_inb : ∀ (i : grid0.Coords) (v222 : BitVec 32) (k0_hw7 : k0_chk7 i v222), ∀ a, (k0_off22 i v222) a + S1x8x768.size a ≤ S1089x8x768.size a := fun i v222 k0_hw7 => k0_hw7.2

def k0_off23 (i : grid0.Coords) : Fin 2 → Nat :=
  let arg0 : BitVec 32 := BitVec.ofNat 32 (i 0).val
  let v257 : Index := Scalar.indexCast arg0
  let c7 : Index := 7#32
  ![v257.toNat, 7]
def k0_off24 (i : grid0.Coords) (v258 : BitVec 32) : Fin 3 → Nat :=
  let arg1 : BitVec 32 := BitVec.ofNat 32 (i 1).val
  let c512_i32 : BitVec 32 := 512#32
  let v0 : BitVec 32 := Scalar.muli arg1 c512_i32
  let v259 : BitVec 32 := Scalar.subi v0 v258
  let c8192_i32_122 : BitVec 32 := 8192#32
  let v260 : BitVec 32 := Scalar.addi v259 c8192_i32_122
  let c8192_i32_123 : BitVec 32 := 8192#32
  let v261 : BitVec 32 := Scalar.remsi v260 c8192_i32_123
  let c0_i32_125 : BitVec 32 := 0#32
  let v263 : BitVec 1 := Scalar.cmpi .sgt v261 c0_i32_125
  let v264 : BitVec 32 := Scalar.extui v263
  let c0_i32_126 : BitVec 32 := 0#32
  let v265 : BitVec 1 := Scalar.cmpi .slt v261 c0_i32_126
  let v266 : BitVec 32 := Scalar.extui v265
  let v267 : BitVec 32 := Scalar.subi v264 v266
  let c8_i32_124 : BitVec 32 := 8#32
  let c0_i32_127 : BitVec 32 := 0#32
  let v268 : BitVec 1 := Scalar.cmpi .sgt c8_i32_124 c0_i32_127
  let v269 : BitVec 32 := Scalar.extui v268
  let c0_i32_128 : BitVec 32 := 0#32
  let v270 : BitVec 1 := Scalar.cmpi .slt c8_i32_124 c0_i32_128
  let v271 : BitVec 32 := Scalar.extui v270
  let v272 : BitVec 32 := Scalar.subi v269 v271
  let v273 : BitVec 1 := Scalar.cmpi .ne v267 v272
  let v274 : BitVec 32 := Scalar.remsi v261 c8_i32_124
  let c0_i32_129 : BitVec 32 := 0#32
  let v275 : BitVec 1 := Scalar.cmpi .ne v274 c0_i32_129
  let v276 : BitVec 1 := Scalar.andi v273 v275
  let v262 : BitVec 32 := Scalar.divsi v261 c8_i32_124
  let c1_i32_130 : BitVec 32 := 1#32
  let v277 : BitVec 32 := Scalar.subi v262 c1_i32_130
  let v278 : BitVec 32 := Scalar.select v276 v277 v262
  let v281 : Index := Scalar.indexCast v278
  let c0_132 : Index := 0#32
  let c0_133 : Index := 0#32
  ![v281.toNat, 0, 0]

def k0_off25 (i : grid0.Coords) (v258 : BitVec 32) : Fin 3 → Nat :=
  let arg1 : BitVec 32 := BitVec.ofNat 32 (i 1).val
  let c512_i32 : BitVec 32 := 512#32
  let v0 : BitVec 32 := Scalar.muli arg1 c512_i32
  let v259 : BitVec 32 := Scalar.subi v0 v258
  let c8192_i32_122 : BitVec 32 := 8192#32
  let v260 : BitVec 32 := Scalar.addi v259 c8192_i32_122
  let c8192_i32_123 : BitVec 32 := 8192#32
  let v261 : BitVec 32 := Scalar.remsi v260 c8192_i32_123
  let c0_i32_125 : BitVec 32 := 0#32
  let v263 : BitVec 1 := Scalar.cmpi .sgt v261 c0_i32_125
  let v264 : BitVec 32 := Scalar.extui v263
  let c0_i32_126 : BitVec 32 := 0#32
  let v265 : BitVec 1 := Scalar.cmpi .slt v261 c0_i32_126
  let v266 : BitVec 32 := Scalar.extui v265
  let v267 : BitVec 32 := Scalar.subi v264 v266
  let c8_i32_124 : BitVec 32 := 8#32
  let c0_i32_127 : BitVec 32 := 0#32
  let v268 : BitVec 1 := Scalar.cmpi .sgt c8_i32_124 c0_i32_127
  let v269 : BitVec 32 := Scalar.extui v268
  let c0_i32_128 : BitVec 32 := 0#32
  let v270 : BitVec 1 := Scalar.cmpi .slt c8_i32_124 c0_i32_128
  let v271 : BitVec 32 := Scalar.extui v270
  let v272 : BitVec 32 := Scalar.subi v269 v271
  let v273 : BitVec 1 := Scalar.cmpi .ne v267 v272
  let v274 : BitVec 32 := Scalar.remsi v261 c8_i32_124
  let c0_i32_129 : BitVec 32 := 0#32
  let v275 : BitVec 1 := Scalar.cmpi .ne v274 c0_i32_129
  let v276 : BitVec 1 := Scalar.andi v273 v275
  let v262 : BitVec 32 := Scalar.divsi v261 c8_i32_124
  let c1_i32_130 : BitVec 32 := 1#32
  let v277 : BitVec 32 := Scalar.subi v262 c1_i32_130
  let v278 : BitVec 32 := Scalar.select v276 v277 v262
  let c64_i32_134 : BitVec 32 := 64#32
  let v284 : BitVec 32 := Scalar.addi v278 c64_i32_134
  let v285 : Index := Scalar.indexCast v284
  let c0_135 : Index := 0#32
  let c0_136 : Index := 0#32
  ![v285.toNat, 0, 0]

def k0_chk8 (i : grid0.Coords) (v258 : BitVec 32) : Prop :=
  (∀ a, (k0_off24 i v258) a + S64x8x768.size a ≤ S1089x8x768.size a) ∧
  (∀ a, (k0_off25 i v258) a + S1x8x768.size a ≤ S1089x8x768.size a)
theorem k0_off24_inb : ∀ (i : grid0.Coords) (v258 : BitVec 32) (k0_hw8 : k0_chk8 i v258), ∀ a, (k0_off24 i v258) a + S64x8x768.size a ≤ S1089x8x768.size a := fun i v258 k0_hw8 => k0_hw8.1
theorem k0_off25_inb : ∀ (i : grid0.Coords) (v258 : BitVec 32) (k0_hw8 : k0_chk8 i v258), ∀ a, (k0_off25 i v258) a + S1x8x768.size a ≤ S1089x8x768.size a := fun i v258 k0_hw8 => k0_hw8.2

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]
-- ==== Reference3Ideal.lean ====
abbrev S4x8192x768 : Shape := ⟨3, ![4, 8192, 768]⟩
abbrev S4x8 : Shape := ⟨2, ![4, 8]⟩
abbrev S_ : Shape := ⟨0, ![]⟩
abbrev S4x1 : Shape := ⟨2, ![4, 1]⟩
abbrev S4 : Shape := ⟨1, ![4]⟩
abbrev S8192 : Shape := ⟨1, ![8192]⟩
abbrev S1x8192 : Shape := ⟨2, ![1, 8192]⟩
abbrev S4x8192 : Shape := ⟨2, ![4, 8192]⟩
abbrev S4x8192x1 : Shape := ⟨3, ![4, 8192, 1]⟩
abbrev S1 : Shape := ⟨1, ![1]⟩
abbrev S1x1x1 : Shape := ⟨3, ![1, 1, 1]⟩

abbrev nBuf : Space → Nat
  | .hbm => 439
  | .vmem => 0
  | .smem => 0
  | _ => 0

abbrev hbmTy0_0 (i : Nat) : BufTy := match i % 128 with
  | 0 => ⟨S4x8192x768, .f32⟩
  | 1 => ⟨S4x8, .i32⟩
  | 2 => ⟨S_, .f32⟩
  | 3 => ⟨S4x8192x768, .f32⟩
  | 4 => ⟨S4x1, .i32⟩
  | 5 => ⟨S4, .i32⟩
  | 6 => ⟨S8192, .i32⟩
  | 7 => ⟨S1x8192, .i32⟩
  | 8 => ⟨S4x1, .i32⟩
  | 9 => ⟨S4x8192, .i32⟩
  | 10 => ⟨S4x8192, .i32⟩
  | 11 => ⟨S4x8192, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S4x8192, .i32⟩
  | 19 => ⟨S4x8192, .i32⟩
  | 20 => ⟨S_, .i32⟩
  | 21 => ⟨S4x8192, .i32⟩
  | 22 => ⟨S4x8192, .i1⟩
  | 23 => ⟨S_, .i32⟩
  | 24 => ⟨S4x8192, .i32⟩
  | 25 => ⟨S4x8192, .i1⟩
  | 26 => ⟨S_, .i32⟩
  | 27 => ⟨S_, .i1⟩
  | 28 => ⟨S4x8192, .i1⟩
  | 29 => ⟨S4x8192, .i1⟩
  | 30 => ⟨S4x8192, .i1⟩
  | 31 => ⟨S4x8192, .i32⟩
  | 32 => ⟨S4x8192, .i32⟩
  | 33 => ⟨S4x8192, .i32⟩
  | 34 => ⟨S4x8192x1, .i32⟩
  | 35 => ⟨S_, .i32⟩
  | 36 => ⟨S4x8192x1, .i32⟩
  | 37 => ⟨S4x8192x1, .i1⟩
  | 38 => ⟨S_, .i32⟩
  | 39 => ⟨S4x8192x1, .i32⟩
  | 40 => ⟨S4x8192x1, .i32⟩
  | 41 => ⟨S4x8192x1, .i32⟩
  | 42 => ⟨S1, .i32⟩
  | 43 => ⟨S_, .i32⟩
  | 44 => ⟨S4x8192x1, .i32⟩
  | 45 => ⟨S4x8192x1, .i1⟩
  | 46 => ⟨S1x1x1, .i32⟩
  | 47 => ⟨S4x8192x1, .i32⟩
  | 48 => ⟨S4x8192x1, .i1⟩
  | 49 => ⟨S4x8192x1, .i1⟩
  | 50 => ⟨S_, .i1⟩
  | 51 => ⟨S4x8192, .i1⟩
  | 52 => ⟨S4x8192x768, .f32⟩
  | 53 => ⟨S4x8192x768, .i1⟩
  | 54 => ⟨S_, .f32⟩
  | 55 => ⟨S4x8192x768, .f32⟩
  | 56 => ⟨S4x8192x768, .f32⟩
  | 57 => ⟨S4x8192x768, .f32⟩
  | 58 => ⟨S4x1, .i32⟩
  | 59 => ⟨S4, .i32⟩
  | 60 => ⟨S8192, .i32⟩
  | 61 => ⟨S1x8192, .i32⟩
  | 62 => ⟨S4x1, .i32⟩
  | 63 => ⟨S4x8192, .i32⟩
  | 64 => ⟨S4x8192, .i32⟩
  | 65 => ⟨S4x8192, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S4x8192, .i32⟩
  | 73 => ⟨S4x8192, .i32⟩
  | 74 => ⟨S_, .i32⟩
  | 75 => ⟨S4x8192, .i32⟩
  | 76 => ⟨S4x8192, .i1⟩
  | 77 => ⟨S_, .i32⟩
  | 78 => ⟨S4x8192, .i32⟩
  | 79 => ⟨S4x8192, .i1⟩
  | 80 => ⟨S_, .i32⟩
  | 81 => ⟨S_, .i1⟩
  | 82 => ⟨S4x8192, .i1⟩
  | 83 => ⟨S4x8192, .i1⟩
  | 84 => ⟨S4x8192, .i1⟩
  | 85 => ⟨S4x8192, .i32⟩
  | 86 => ⟨S4x8192, .i32⟩
  | 87 => ⟨S4x8192, .i32⟩
  | 88 => ⟨S4x8192x1, .i32⟩
  | 89 => ⟨S_, .i32⟩
  | 90 => ⟨S4x8192x1, .i32⟩
  | 91 => ⟨S4x8192x1, .i1⟩
  | 92 => ⟨S_, .i32⟩
  | 93 => ⟨S4x8192x1, .i32⟩
  | 94 => ⟨S4x8192x1, .i32⟩
  | 95 => ⟨S4x8192x1, .i32⟩
  | 96 => ⟨S1, .i32⟩
  | 97 => ⟨S_, .i32⟩
  | 98 => ⟨S4x8192x1, .i32⟩
  | 99 => ⟨S4x8192x1, .i1⟩
  | 100 => ⟨S1x1x1, .i32⟩
  | 101 => ⟨S4x8192x1, .i32⟩
  | 102 => ⟨S4x8192x1, .i1⟩
  | 103 => ⟨S4x8192x1, .i1⟩
  | 104 => ⟨S_, .i1⟩
  | 105 => ⟨S4x8192, .i1⟩
  | 106 => ⟨S4x8192x768, .f32⟩
  | 107 => ⟨S4x8192x768, .i1⟩
  | 108 => ⟨S_, .f32⟩
  | 109 => ⟨S4x8192x768, .f32⟩
  | 110 => ⟨S4x8192x768, .f32⟩
  | 111 => ⟨S4x8192x768, .f32⟩
  | 112 => ⟨S4x1, .i32⟩
  | 113 => ⟨S4, .i32⟩
  | 114 => ⟨S8192, .i32⟩
  | 115 => ⟨S1x8192, .i32⟩
  | 116 => ⟨S4x1, .i32⟩
  | 117 => ⟨S4x8192, .i32⟩
  | 118 => ⟨S4x8192, .i32⟩
  | 119 => ⟨S4x8192, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S4x8192, .i32⟩
  | 127 => ⟨S4x8192, .i32⟩
  | _ => ⟨S4x8192x768, .f32⟩

abbrev hbmTy0_1 (i : Nat) : BufTy := match i % 128 with
  | 0 => ⟨S_, .i32⟩
  | 1 => ⟨S4x8192, .i32⟩
  | 2 => ⟨S4x8192, .i1⟩
  | 3 => ⟨S_, .i32⟩
  | 4 => ⟨S4x8192, .i32⟩
  | 5 => ⟨S4x8192, .i1⟩
  | 6 => ⟨S_, .i32⟩
  | 7 => ⟨S_, .i1⟩
  | 8 => ⟨S4x8192, .i1⟩
  | 9 => ⟨S4x8192, .i1⟩
  | 10 => ⟨S4x8192, .i1⟩
  | 11 => ⟨S4x8192, .i32⟩
  | 12 => ⟨S4x8192, .i32⟩
  | 13 => ⟨S4x8192, .i32⟩
  | 14 => ⟨S4x8192x1, .i32⟩
  | 15 => ⟨S_, .i32⟩
  | 16 => ⟨S4x8192x1, .i32⟩
  | 17 => ⟨S4x8192x1, .i1⟩
  | 18 => ⟨S_, .i32⟩
  | 19 => ⟨S4x8192x1, .i32⟩
  | 20 => ⟨S4x8192x1, .i32⟩
  | 21 => ⟨S4x8192x1, .i32⟩
  | 22 => ⟨S1, .i32⟩
  | 23 => ⟨S_, .i32⟩
  | 24 => ⟨S4x8192x1, .i32⟩
  | 25 => ⟨S4x8192x1, .i1⟩
  | 26 => ⟨S1x1x1, .i32⟩
  | 27 => ⟨S4x8192x1, .i32⟩
  | 28 => ⟨S4x8192x1, .i1⟩
  | 29 => ⟨S4x8192x1, .i1⟩
  | 30 => ⟨S_, .i1⟩
  | 31 => ⟨S4x8192, .i1⟩
  | 32 => ⟨S4x8192x768, .f32⟩
  | 33 => ⟨S4x8192x768, .i1⟩
  | 34 => ⟨S_, .f32⟩
  | 35 => ⟨S4x8192x768, .f32⟩
  | 36 => ⟨S4x8192x768, .f32⟩
  | 37 => ⟨S4x8192x768, .f32⟩
  | 38 => ⟨S4x1, .i32⟩
  | 39 => ⟨S4, .i32⟩
  | 40 => ⟨S8192, .i32⟩
  | 41 => ⟨S1x8192, .i32⟩
  | 42 => ⟨S4x1, .i32⟩
  | 43 => ⟨S4x8192, .i32⟩
  | 44 => ⟨S4x8192, .i32⟩
  | 45 => ⟨S4x8192, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S4x8192, .i32⟩
  | 53 => ⟨S4x8192, .i32⟩
  | 54 => ⟨S_, .i32⟩
  | 55 => ⟨S4x8192, .i32⟩
  | 56 => ⟨S4x8192, .i1⟩
  | 57 => ⟨S_, .i32⟩
  | 58 => ⟨S4x8192, .i32⟩
  | 59 => ⟨S4x8192, .i1⟩
  | 60 => ⟨S_, .i32⟩
  | 61 => ⟨S_, .i1⟩
  | 62 => ⟨S4x8192, .i1⟩
  | 63 => ⟨S4x8192, .i1⟩
  | 64 => ⟨S4x8192, .i1⟩
  | 65 => ⟨S4x8192, .i32⟩
  | 66 => ⟨S4x8192, .i32⟩
  | 67 => ⟨S4x8192, .i32⟩
  | 68 => ⟨S4x8192x1, .i32⟩
  | 69 => ⟨S_, .i32⟩
  | 70 => ⟨S4x8192x1, .i32⟩
  | 71 => ⟨S4x8192x1, .i1⟩
  | 72 => ⟨S_, .i32⟩
  | 73 => ⟨S4x8192x1, .i32⟩
  | 74 => ⟨S4x8192x1, .i32⟩
  | 75 => ⟨S4x8192x1, .i32⟩
  | 76 => ⟨S1, .i32⟩
  | 77 => ⟨S_, .i32⟩
  | 78 => ⟨S4x8192x1, .i32⟩
  | 79 => ⟨S4x8192x1, .i1⟩
  | 80 => ⟨S1x1x1, .i32⟩
  | 81 => ⟨S4x8192x1, .i32⟩
  | 82 => ⟨S4x8192x1, .i1⟩
  | 83 => ⟨S4x8192x1, .i1⟩
  | 84 => ⟨S_, .i1⟩
  | 85 => ⟨S4x8192, .i1⟩
  | 86 => ⟨S4x8192x768, .f32⟩
  | 87 => ⟨S4x8192x768, .i1⟩
  | 88 => ⟨S_, .f32⟩
  | 89 => ⟨S4x8192x768, .f32⟩
  | 90 => ⟨S4x8192x768, .f32⟩
  | 91 => ⟨S4x8192x768, .f32⟩
  | 92 => ⟨S4x1, .i32⟩
  | 93 => ⟨S4, .i32⟩
  | 94 => ⟨S8192, .i32⟩
  | 95 => ⟨S1x8192, .i32⟩
  | 96 => ⟨S4x1, .i32⟩
  | 97 => ⟨S4x8192, .i32⟩
  | 98 => ⟨S4x8192, .i32⟩
  | 99 => ⟨S4x8192, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S4x8192, .i32⟩
  | 107 => ⟨S4x8192, .i32⟩
  | 108 => ⟨S_, .i32⟩
  | 109 => ⟨S4x8192, .i32⟩
  | 110 => ⟨S4x8192, .i1⟩
  | 111 => ⟨S_, .i32⟩
  | 112 => ⟨S4x8192, .i32⟩
  | 113 => ⟨S4x8192, .i1⟩
  | 114 => ⟨S_, .i32⟩
  | 115 => ⟨S_, .i1⟩
  | 116 => ⟨S4x8192, .i1⟩
  | 117 => ⟨S4x8192, .i1⟩
  | 118 => ⟨S4x8192, .i1⟩
  | 119 => ⟨S4x8192, .i32⟩
  | 120 => ⟨S4x8192, .i32⟩
  | 121 => ⟨S4x8192, .i32⟩
  | 122 => ⟨S4x8192x1, .i32⟩
  | 123 => ⟨S_, .i32⟩
  | 124 => ⟨S4x8192x1, .i32⟩
  | 125 => ⟨S4x8192x1, .i1⟩
  | 126 => ⟨S_, .i32⟩
  | 127 => ⟨S4x8192x1, .i32⟩
  | _ => ⟨S4x8192x768, .f32⟩

abbrev hbmTy0_2 (i : Nat) : BufTy := match i % 128 with
  | 0 => ⟨S4x8192x1, .i32⟩
  | 1 => ⟨S4x8192x1, .i32⟩
  | 2 => ⟨S1, .i32⟩
  | 3 => ⟨S_, .i32⟩
  | 4 => ⟨S4x8192x1, .i32⟩
  | 5 => ⟨S4x8192x1, .i1⟩
  | 6 => ⟨S1x1x1, .i32⟩
  | 7 => ⟨S4x8192x1, .i32⟩
  | 8 => ⟨S4x8192x1, .i1⟩
  | 9 => ⟨S4x8192x1, .i1⟩
  | 10 => ⟨S_, .i1⟩
  | 11 => ⟨S4x8192, .i1⟩
  | 12 => ⟨S4x8192x768, .f32⟩
  | 13 => ⟨S4x8192x768, .i1⟩
  | 14 => ⟨S_, .f32⟩
  | 15 => ⟨S4x8192x768, .f32⟩
  | 16 => ⟨S4x8192x768, .f32⟩
  | 17 => ⟨S4x8192x768, .f32⟩
  | 18 => ⟨S4x1, .i32⟩
  | 19 => ⟨S4, .i32⟩
  | 20 => ⟨S8192, .i32⟩
  | 21 => ⟨S1x8192, .i32⟩
  | 22 => ⟨S4x1, .i32⟩
  | 23 => ⟨S4x8192, .i32⟩
  | 24 => ⟨S4x8192, .i32⟩
  | 25 => ⟨S4x8192, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S4x8192, .i32⟩
  | 33 => ⟨S4x8192, .i32⟩
  | 34 => ⟨S_, .i32⟩
  | 35 => ⟨S4x8192, .i32⟩
  | 36 => ⟨S4x8192, .i1⟩
  | 37 => ⟨S_, .i32⟩
  | 38 => ⟨S4x8192, .i32⟩
  | 39 => ⟨S4x8192, .i1⟩
  | 40 => ⟨S_, .i32⟩
  | 41 => ⟨S_, .i1⟩
  | 42 => ⟨S4x8192, .i1⟩
  | 43 => ⟨S4x8192, .i1⟩
  | 44 => ⟨S4x8192, .i1⟩
  | 45 => ⟨S4x8192, .i32⟩
  | 46 => ⟨S4x8192, .i32⟩
  | 47 => ⟨S4x8192, .i32⟩
  | 48 => ⟨S4x8192x1, .i32⟩
  | 49 => ⟨S_, .i32⟩
  | 50 => ⟨S4x8192x1, .i32⟩
  | 51 => ⟨S4x8192x1, .i1⟩
  | 52 => ⟨S_, .i32⟩
  | 53 => ⟨S4x8192x1, .i32⟩
  | 54 => ⟨S4x8192x1, .i32⟩
  | 55 => ⟨S4x8192x1, .i32⟩
  | 56 => ⟨S1, .i32⟩
  | 57 => ⟨S_, .i32⟩
  | 58 => ⟨S4x8192x1, .i32⟩
  | 59 => ⟨S4x8192x1, .i1⟩
  | 60 => ⟨S1x1x1, .i32⟩
  | 61 => ⟨S4x8192x1, .i32⟩
  | 62 => ⟨S4x8192x1, .i1⟩
  | 63 => ⟨S4x8192x1, .i1⟩
  | 64 => ⟨S_, .i1⟩
  | 65 => ⟨S4x8192, .i1⟩
  | 66 => ⟨S4x8192x768, .f32⟩
  | 67 => ⟨S4x8192x768, .i1⟩
  | 68 => ⟨S_, .f32⟩
  | 69 => ⟨S4x8192x768, .f32⟩
  | 70 => ⟨S4x8192x768, .f32⟩
  | 71 => ⟨S4x8192x768, .f32⟩
  | 72 => ⟨S4x1, .i32⟩
  | 73 => ⟨S4, .i32⟩
  | 74 => ⟨S8192, .i32⟩
  | 75 => ⟨S1x8192, .i32⟩
  | 76 => ⟨S4x1, .i32⟩
  | 77 => ⟨S4x8192, .i32⟩
  | 78 => ⟨S4x8192, .i32⟩
  | 79 => ⟨S4x8192, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S4x8192, .i32⟩
  | 87 => ⟨S4x8192, .i32⟩
  | 88 => ⟨S_, .i32⟩
  | 89 => ⟨S4x8192, .i32⟩
  | 90 => ⟨S4x8192, .i1⟩
  | 91 => ⟨S_, .i32⟩
  | 92 => ⟨S4x8192, .i32⟩
  | 93 => ⟨S4x8192, .i1⟩
  | 94 => ⟨S_, .i32⟩
  | 95 => ⟨S_, .i1⟩
  | 96 => ⟨S4x8192, .i1⟩
  | 97 => ⟨S4x8192, .i1⟩
  | 98 => ⟨S4x8192, .i1⟩
  | 99 => ⟨S4x8192, .i32⟩
  | 100 => ⟨S4x8192, .i32⟩
  | 101 => ⟨S4x8192, .i32⟩
  | 102 => ⟨S4x8192x1, .i32⟩
  | 103 => ⟨S_, .i32⟩
  | 104 => ⟨S4x8192x1, .i32⟩
  | 105 => ⟨S4x8192x1, .i1⟩
  | 106 => ⟨S_, .i32⟩
  | 107 => ⟨S4x8192x1, .i32⟩
  | 108 => ⟨S4x8192x1, .i32⟩
  | 109 => ⟨S4x8192x1, .i32⟩
  | 110 => ⟨S1, .i32⟩
  | 111 => ⟨S_, .i32⟩
  | 112 => ⟨S4x8192x1, .i32⟩
  | 113 => ⟨S4x8192x1, .i1⟩
  | 114 => ⟨S1x1x1, .i32⟩
  | 115 => ⟨S4x8192x1, .i32⟩
  | 116 => ⟨S4x8192x1, .i1⟩
  | 117 => ⟨S4x8192x1, .i1⟩
  | 118 => ⟨S_, .i1⟩
  | 119 => ⟨S4x8192, .i1⟩
  | 120 => ⟨S4x8192x768, .f32⟩
  | 121 => ⟨S4x8192x768, .i1⟩
  | 122 => ⟨S_, .f32⟩
  | 123 => ⟨S4x8192x768, .f32⟩
  | 124 => ⟨S4x8192x768, .f32⟩
  | 125 => ⟨S4x8192x768, .f32⟩
  | 126 => ⟨S4x1, .i32⟩
  | 127 => ⟨S4, .i32⟩
  | _ => ⟨S4x8192x768, .f32⟩

abbrev hbmTy0_3 (i : Nat) : BufTy := match i % 128 with
  | 0 => ⟨S8192, .i32⟩
  | 1 => ⟨S1x8192, .i32⟩
  | 2 => ⟨S4x1, .i32⟩
  | 3 => ⟨S4x8192, .i32⟩
  | 4 => ⟨S4x8192, .i32⟩
  | 5 => ⟨S4x8192, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S4x8192, .i32⟩
  | 13 => ⟨S4x8192, .i32⟩
  | 14 => ⟨S_, .i32⟩
  | 15 => ⟨S4x8192, .i32⟩
  | 16 => ⟨S4x8192, .i1⟩
  | 17 => ⟨S_, .i32⟩
  | 18 => ⟨S4x8192, .i32⟩
  | 19 => ⟨S4x8192, .i1⟩
  | 20 => ⟨S_, .i32⟩
  | 21 => ⟨S_, .i1⟩
  | 22 => ⟨S4x8192, .i1⟩
  | 23 => ⟨S4x8192, .i1⟩
  | 24 => ⟨S4x8192, .i1⟩
  | 25 => ⟨S4x8192, .i32⟩
  | 26 => ⟨S4x8192, .i32⟩
  | 27 => ⟨S4x8192, .i32⟩
  | 28 => ⟨S4x8192x1, .i32⟩
  | 29 => ⟨S_, .i32⟩
  | 30 => ⟨S4x8192x1, .i32⟩
  | 31 => ⟨S4x8192x1, .i1⟩
  | 32 => ⟨S_, .i32⟩
  | 33 => ⟨S4x8192x1, .i32⟩
  | 34 => ⟨S4x8192x1, .i32⟩
  | 35 => ⟨S4x8192x1, .i32⟩
  | 36 => ⟨S1, .i32⟩
  | 37 => ⟨S_, .i32⟩
  | 38 => ⟨S4x8192x1, .i32⟩
  | 39 => ⟨S4x8192x1, .i1⟩
  | 40 => ⟨S1x1x1, .i32⟩
  | 41 => ⟨S4x8192x1, .i32⟩
  | 42 => ⟨S4x8192x1, .i1⟩
  | 43 => ⟨S4x8192x1, .i1⟩
  | 44 => ⟨S_, .i1⟩
  | 45 => ⟨S4x8192, .i1⟩
  | 46 => ⟨S4x8192x768, .f32⟩
  | 47 => ⟨S4x8192x768, .i1⟩
  | 48 => ⟨S_, .f32⟩
  | 49 => ⟨S4x8192x768, .f32⟩
  | 50 => ⟨S4x8192x768, .f32⟩
  | 51 => ⟨S4x8192x768, .f32⟩
  | 52 => ⟨S_, .f32⟩
  | 53 => ⟨S4x8192x768, .f32⟩
  | 54 => ⟨S4x8192x768, .f32⟩
  | _ => ⟨S4x8192x768, .f32⟩

abbrev hbmTy (i : Nat) : BufTy := match i / 128 with
  | 0 => hbmTy0_0 i
  | 1 => hbmTy0_1 i
  | 2 => hbmTy0_2 i
  | 3 => hbmTy0_3 i
  | _ => ⟨S4x8192x768, .f32⟩

abbrev bufTy : (tb : Table) → Fin (tcTables nBuf tb) → BufTy
  | .hbm, ⟨i, _⟩ => hbmTy i
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v9 : Ref sig .tc := ⟨.hbm, 33, rfl⟩
abbrev main_v10 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_c_2 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_c_3 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_0 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_v5 : Ref sig .tc := ⟨.hbm, 75, rfl⟩
abbrev main_call2_v6 : Ref sig .tc := ⟨.hbm, 76, rfl⟩
abbrev main_call2_c_2 : Ref sig .tc := ⟨.hbm, 77, rfl⟩
abbrev main_call2_v7 : Ref sig .tc := ⟨.hbm, 78, rfl⟩
abbrev main_call2_v8 : Ref sig .tc := ⟨.hbm, 79, rfl⟩
abbrev main_call2_c_3 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_v21 : Ref sig .tc := ⟨.hbm, 87, rfl⟩
abbrev main_v22 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_c_1 : Ref sig .tc := ⟨.hbm, 96, rfl⟩
abbrev main_call3_c_2 : Ref sig .tc := ⟨.hbm, 97, rfl⟩
abbrev main_call3_v5 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_c_3 : Ref sig .tc := ⟨.hbm, 104, rfl⟩
abbrev main_call3_v11 : Ref sig .tc := ⟨.hbm, 105, rfl⟩
abbrev main_call3_v12 : Ref sig .tc := ⟨.hbm, 106, rfl⟩
abbrev main_call3_v13 : Ref sig .tc := ⟨.hbm, 107, rfl⟩
abbrev main_call3_cst : Ref sig .tc := ⟨.hbm, 108, rfl⟩
abbrev main_call3_v14 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_c_1 : Ref sig .tc := ⟨.hbm, 120, rfl⟩
abbrev main_call4_v0 : Ref sig .tc := ⟨.hbm, 121, rfl⟩
abbrev main_call4_c : Ref sig .tc := ⟨.hbm, 122, rfl⟩
abbrev main_call4_v1 : Ref sig .tc := ⟨.hbm, 123, rfl⟩
abbrev main_call4_c_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_c_1 : Ref sig .tc := ⟨.hbm, 128, rfl⟩
abbrev main_call4_v5 : Ref sig .tc := ⟨.hbm, 129, rfl⟩
abbrev main_call4_v6 : Ref sig .tc := ⟨.hbm, 130, rfl⟩
abbrev main_call4_c_2 : Ref sig .tc := ⟨.hbm, 131, rfl⟩
abbrev main_call4_v7 : Ref sig .tc := ⟨.hbm, 132, rfl⟩
abbrev main_call4_v8 : Ref sig .tc := ⟨.hbm, 133, rfl⟩
abbrev main_call4_c_3 : Ref sig .tc := ⟨.hbm, 134, rfl⟩
abbrev main_call4_v9 : Ref sig .tc := ⟨.hbm, 135, rfl⟩
abbrev main_call4_v10 : Ref sig .tc := ⟨.hbm, 136, rfl⟩
abbrev main_call4_v11 : Ref sig .tc := ⟨.hbm, 137, rfl⟩
abbrev main_call4_v12 : Ref sig .tc := ⟨.hbm, 138, rfl⟩
abbrev main_call4_v13 : Ref sig .tc := ⟨.hbm, 139, rfl⟩
abbrev main_call4_v14 : Ref sig .tc := ⟨.hbm, 140, rfl⟩
abbrev main_v33 : Ref sig .tc := ⟨.hbm, 141, rfl⟩
abbrev main_v34 : Ref sig .tc := ⟨.hbm, 142, rfl⟩
abbrev main_call5_c : Ref sig .tc := ⟨.hbm, 143, rfl⟩
abbrev main_call5_v0 : Ref sig .tc := ⟨.hbm, 144, rfl⟩
abbrev main_call5_v1 : Ref sig .tc := ⟨.hbm, 145, rfl⟩
abbrev main_call5_c_0 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_call5_c_1 : Ref sig .tc := ⟨.hbm, 150, rfl⟩
abbrev main_call5_c_2 : Ref sig .tc := ⟨.hbm, 151, rfl⟩
abbrev main_call5_v5 : Ref sig .tc := ⟨.hbm, 152, rfl⟩
abbrev main_call5_v6 : Ref sig .tc := ⟨.hbm, 153, rfl⟩
abbrev main_call5_v7 : Ref sig .tc := ⟨.hbm, 154, rfl⟩
abbrev main_call5_v8 : Ref sig .tc := ⟨.hbm, 155, rfl⟩
abbrev main_call5_v9 : Ref sig .tc := ⟨.hbm, 156, rfl⟩
abbrev main_call5_v10 : Ref sig .tc := ⟨.hbm, 157, rfl⟩
abbrev main_call5_c_3 : Ref sig .tc := ⟨.hbm, 158, rfl⟩
abbrev main_call5_v11 : Ref sig .tc := ⟨.hbm, 159, rfl⟩
abbrev main_call5_v12 : Ref sig .tc := ⟨.hbm, 160, rfl⟩
abbrev main_call5_v13 : Ref sig .tc := ⟨.hbm, 161, rfl⟩
abbrev main_call5_cst : Ref sig .tc := ⟨.hbm, 162, rfl⟩
abbrev main_call5_v14 : Ref sig .tc := ⟨.hbm, 163, rfl⟩
abbrev main_v35 : Ref sig .tc := ⟨.hbm, 164, rfl⟩
abbrev main_v36 : Ref sig .tc := ⟨.hbm, 165, rfl⟩
abbrev main_v37 : Ref sig .tc := ⟨.hbm, 166, rfl⟩
abbrev main_v38 : Ref sig .tc := ⟨.hbm, 167, rfl⟩
abbrev main_v39 : Ref sig .tc := ⟨.hbm, 168, rfl⟩
abbrev main_v40 : Ref sig .tc := ⟨.hbm, 169, rfl⟩
abbrev main_v41 : Ref sig .tc := ⟨.hbm, 170, rfl⟩
abbrev main_v42 : Ref sig .tc := ⟨.hbm, 171, rfl⟩
abbrev main_v43 : Ref sig .tc := ⟨.hbm, 172, rfl⟩
abbrev main_v44 : Ref sig .tc := ⟨.hbm, 173, rfl⟩
abbrev main_c_2 : Ref sig .tc := ⟨.hbm, 174, rfl⟩
abbrev main_call6_v0 : Ref sig .tc := ⟨.hbm, 175, rfl⟩
abbrev main_call6_c : Ref sig .tc := ⟨.hbm, 176, rfl⟩
abbrev main_call6_v1 : Ref sig .tc := ⟨.hbm, 177, rfl⟩
abbrev main_call6_c_0 : Ref sig .tc := ⟨.hbm, 178, rfl⟩
abbrev main_call6_v2 : Ref sig .tc := ⟨.hbm, 179, rfl⟩
abbrev main_call6_v3 : Ref sig .tc := ⟨.hbm, 180, rfl⟩
abbrev main_call6_v4 : Ref sig .tc := ⟨.hbm, 181, rfl⟩
abbrev main_call6_c_1 : Ref sig .tc := ⟨.hbm, 182, rfl⟩
abbrev main_call6_v5 : Ref sig .tc := ⟨.hbm, 183, rfl⟩
abbrev main_call6_v6 : Ref sig .tc := ⟨.hbm, 184, rfl⟩
abbrev main_call6_c_2 : Ref sig .tc := ⟨.hbm, 185, rfl⟩
abbrev main_call6_v7 : Ref sig .tc := ⟨.hbm, 186, rfl⟩
abbrev main_call6_v8 : Ref sig .tc := ⟨.hbm, 187, rfl⟩
abbrev main_call6_c_3 : Ref sig .tc := ⟨.hbm, 188, rfl⟩
abbrev main_call6_v9 : Ref sig .tc := ⟨.hbm, 189, rfl⟩
abbrev main_call6_v10 : Ref sig .tc := ⟨.hbm, 190, rfl⟩
abbrev main_call6_v11 : Ref sig .tc := ⟨.hbm, 191, rfl⟩
abbrev main_call6_v12 : Ref sig .tc := ⟨.hbm, 192, rfl⟩
abbrev main_call6_v13 : Ref sig .tc := ⟨.hbm, 193, rfl⟩
abbrev main_call6_v14 : Ref sig .tc := ⟨.hbm, 194, rfl⟩
abbrev main_v45 : Ref sig .tc := ⟨.hbm, 195, rfl⟩
abbrev main_v46 : Ref sig .tc := ⟨.hbm, 196, rfl⟩
abbrev main_call7_c : Ref sig .tc := ⟨.hbm, 197, rfl⟩
abbrev main_call7_v0 : Ref sig .tc := ⟨.hbm, 198, rfl⟩
abbrev main_call7_v1 : Ref sig .tc := ⟨.hbm, 199, rfl⟩
abbrev main_call7_c_0 : Ref sig .tc := ⟨.hbm, 200, rfl⟩
abbrev main_call7_v2 : Ref sig .tc := ⟨.hbm, 201, rfl⟩
abbrev main_call7_v3 : Ref sig .tc := ⟨.hbm, 202, rfl⟩
abbrev main_call7_v4 : Ref sig .tc := ⟨.hbm, 203, rfl⟩
abbrev main_call7_c_1 : Ref sig .tc := ⟨.hbm, 204, rfl⟩
abbrev main_call7_c_2 : Ref sig .tc := ⟨.hbm, 205, rfl⟩
abbrev main_call7_v5 : Ref sig .tc := ⟨.hbm, 206, rfl⟩
abbrev main_call7_v6 : Ref sig .tc := ⟨.hbm, 207, rfl⟩
abbrev main_call7_v7 : Ref sig .tc := ⟨.hbm, 208, rfl⟩
abbrev main_call7_v8 : Ref sig .tc := ⟨.hbm, 209, rfl⟩
abbrev main_call7_v9 : Ref sig .tc := ⟨.hbm, 210, rfl⟩
abbrev main_call7_v10 : Ref sig .tc := ⟨.hbm, 211, rfl⟩
abbrev main_call7_c_3 : Ref sig .tc := ⟨.hbm, 212, rfl⟩
abbrev main_call7_v11 : Ref sig .tc := ⟨.hbm, 213, rfl⟩
abbrev main_call7_v12 : Ref sig .tc := ⟨.hbm, 214, rfl⟩
abbrev main_call7_v13 : Ref sig .tc := ⟨.hbm, 215, rfl⟩
abbrev main_call7_cst : Ref sig .tc := ⟨.hbm, 216, rfl⟩
abbrev main_call7_v14 : Ref sig .tc := ⟨.hbm, 217, rfl⟩
abbrev main_v47 : Ref sig .tc := ⟨.hbm, 218, rfl⟩
abbrev main_v48 : Ref sig .tc := ⟨.hbm, 219, rfl⟩
abbrev main_v49 : Ref sig .tc := ⟨.hbm, 220, rfl⟩
abbrev main_v50 : Ref sig .tc := ⟨.hbm, 221, rfl⟩
abbrev main_v51 : Ref sig .tc := ⟨.hbm, 222, rfl⟩
abbrev main_v52 : Ref sig .tc := ⟨.hbm, 223, rfl⟩
abbrev main_v53 : Ref sig .tc := ⟨.hbm, 224, rfl⟩
abbrev main_v54 : Ref sig .tc := ⟨.hbm, 225, rfl⟩
abbrev main_v55 : Ref sig .tc := ⟨.hbm, 226, rfl⟩
abbrev main_v56 : Ref sig .tc := ⟨.hbm, 227, rfl⟩
abbrev main_c_3 : Ref sig .tc := ⟨.hbm, 228, rfl⟩
abbrev main_call8_v0 : Ref sig .tc := ⟨.hbm, 229, rfl⟩
abbrev main_call8_c : Ref sig .tc := ⟨.hbm, 230, rfl⟩
abbrev main_call8_v1 : Ref sig .tc := ⟨.hbm, 231, rfl⟩
abbrev main_call8_c_0 : Ref sig .tc := ⟨.hbm, 232, rfl⟩
abbrev main_call8_v2 : Ref sig .tc := ⟨.hbm, 233, rfl⟩
abbrev main_call8_v3 : Ref sig .tc := ⟨.hbm, 234, rfl⟩
abbrev main_call8_v4 : Ref sig .tc := ⟨.hbm, 235, rfl⟩
abbrev main_call8_c_1 : Ref sig .tc := ⟨.hbm, 236, rfl⟩
abbrev main_call8_v5 : Ref sig .tc := ⟨.hbm, 237, rfl⟩
abbrev main_call8_v6 : Ref sig .tc := ⟨.hbm, 238, rfl⟩
abbrev main_call8_c_2 : Ref sig .tc := ⟨.hbm, 239, rfl⟩
abbrev main_call8_v7 : Ref sig .tc := ⟨.hbm, 240, rfl⟩
abbrev main_call8_v8 : Ref sig .tc := ⟨.hbm, 241, rfl⟩
abbrev main_call8_c_3 : Ref sig .tc := ⟨.hbm, 242, rfl⟩
abbrev main_call8_v9 : Ref sig .tc := ⟨.hbm, 243, rfl⟩
abbrev main_call8_v10 : Ref sig .tc := ⟨.hbm, 244, rfl⟩
abbrev main_call8_v11 : Ref sig .tc := ⟨.hbm, 245, rfl⟩
abbrev main_call8_v12 : Ref sig .tc := ⟨.hbm, 246, rfl⟩
abbrev main_call8_v13 : Ref sig .tc := ⟨.hbm, 247, rfl⟩
abbrev main_call8_v14 : Ref sig .tc := ⟨.hbm, 248, rfl⟩
abbrev main_v57 : Ref sig .tc := ⟨.hbm, 249, rfl⟩
abbrev main_v58 : Ref sig .tc := ⟨.hbm, 250, rfl⟩
abbrev main_call9_c : Ref sig .tc := ⟨.hbm, 251, rfl⟩
abbrev main_call9_v0 : Ref sig .tc := ⟨.hbm, 252, rfl⟩
abbrev main_call9_v1 : Ref sig .tc := ⟨.hbm, 253, rfl⟩
abbrev main_call9_c_0 : Ref sig .tc := ⟨.hbm, 254, rfl⟩
abbrev main_call9_v2 : Ref sig .tc := ⟨.hbm, 255, rfl⟩
abbrev main_call9_v3 : Ref sig .tc := ⟨.hbm, 256, rfl⟩
abbrev main_call9_v4 : Ref sig .tc := ⟨.hbm, 257, rfl⟩
abbrev main_call9_c_1 : Ref sig .tc := ⟨.hbm, 258, rfl⟩
abbrev main_call9_c_2 : Ref sig .tc := ⟨.hbm, 259, rfl⟩
abbrev main_call9_v5 : Ref sig .tc := ⟨.hbm, 260, rfl⟩
abbrev main_call9_v6 : Ref sig .tc := ⟨.hbm, 261, rfl⟩
abbrev main_call9_v7 : Ref sig .tc := ⟨.hbm, 262, rfl⟩
abbrev main_call9_v8 : Ref sig .tc := ⟨.hbm, 263, rfl⟩
abbrev main_call9_v9 : Ref sig .tc := ⟨.hbm, 264, rfl⟩
abbrev main_call9_v10 : Ref sig .tc := ⟨.hbm, 265, rfl⟩
abbrev main_call9_c_3 : Ref sig .tc := ⟨.hbm, 266, rfl⟩
abbrev main_call9_v11 : Ref sig .tc := ⟨.hbm, 267, rfl⟩
abbrev main_call9_v12 : Ref sig .tc := ⟨.hbm, 268, rfl⟩
abbrev main_call9_v13 : Ref sig .tc := ⟨.hbm, 269, rfl⟩
abbrev main_call9_cst : Ref sig .tc := ⟨.hbm, 270, rfl⟩
abbrev main_call9_v14 : Ref sig .tc := ⟨.hbm, 271, rfl⟩
abbrev main_v59 : Ref sig .tc := ⟨.hbm, 272, rfl⟩
abbrev main_v60 : Ref sig .tc := ⟨.hbm, 273, rfl⟩
abbrev main_v61 : Ref sig .tc := ⟨.hbm, 274, rfl⟩
abbrev main_v62 : Ref sig .tc := ⟨.hbm, 275, rfl⟩
abbrev main_v63 : Ref sig .tc := ⟨.hbm, 276, rfl⟩
abbrev main_v64 : Ref sig .tc := ⟨.hbm, 277, rfl⟩
abbrev main_v65 : Ref sig .tc := ⟨.hbm, 278, rfl⟩
abbrev main_v66 : Ref sig .tc := ⟨.hbm, 279, rfl⟩
abbrev main_v67 : Ref sig .tc := ⟨.hbm, 280, rfl⟩
abbrev main_v68 : Ref sig .tc := ⟨.hbm, 281, rfl⟩
abbrev main_c_4 : Ref sig .tc := ⟨.hbm, 282, rfl⟩
abbrev main_call10_v0 : Ref sig .tc := ⟨.hbm, 283, rfl⟩
abbrev main_call10_c : Ref sig .tc := ⟨.hbm, 284, rfl⟩
abbrev main_call10_v1 : Ref sig .tc := ⟨.hbm, 285, rfl⟩
abbrev main_call10_c_0 : Ref sig .tc := ⟨.hbm, 286, rfl⟩
abbrev main_call10_v2 : Ref sig .tc := ⟨.hbm, 287, rfl⟩
abbrev main_call10_v3 : Ref sig .tc := ⟨.hbm, 288, rfl⟩
abbrev main_call10_v4 : Ref sig .tc := ⟨.hbm, 289, rfl⟩
abbrev main_call10_c_1 : Ref sig .tc := ⟨.hbm, 290, rfl⟩
abbrev main_call10_v5 : Ref sig .tc := ⟨.hbm, 291, rfl⟩
abbrev main_call10_v6 : Ref sig .tc := ⟨.hbm, 292, rfl⟩
abbrev main_call10_c_2 : Ref sig .tc := ⟨.hbm, 293, rfl⟩
abbrev main_call10_v7 : Ref sig .tc := ⟨.hbm, 294, rfl⟩
abbrev main_call10_v8 : Ref sig .tc := ⟨.hbm, 295, rfl⟩
abbrev main_call10_c_3 : Ref sig .tc := ⟨.hbm, 296, rfl⟩
abbrev main_call10_v9 : Ref sig .tc := ⟨.hbm, 297, rfl⟩
abbrev main_call10_v10 : Ref sig .tc := ⟨.hbm, 298, rfl⟩
abbrev main_call10_v11 : Ref sig .tc := ⟨.hbm, 299, rfl⟩
abbrev main_call10_v12 : Ref sig .tc := ⟨.hbm, 300, rfl⟩
abbrev main_call10_v13 : Ref sig .tc := ⟨.hbm, 301, rfl⟩
abbrev main_call10_v14 : Ref sig .tc := ⟨.hbm, 302, rfl⟩
abbrev main_v69 : Ref sig .tc := ⟨.hbm, 303, rfl⟩
abbrev main_v70 : Ref sig .tc := ⟨.hbm, 304, rfl⟩
abbrev main_call11_c : Ref sig .tc := ⟨.hbm, 305, rfl⟩
abbrev main_call11_v0 : Ref sig .tc := ⟨.hbm, 306, rfl⟩
abbrev main_call11_v1 : Ref sig .tc := ⟨.hbm, 307, rfl⟩
abbrev main_call11_c_0 : Ref sig .tc := ⟨.hbm, 308, rfl⟩
abbrev main_call11_v2 : Ref sig .tc := ⟨.hbm, 309, rfl⟩
abbrev main_call11_v3 : Ref sig .tc := ⟨.hbm, 310, rfl⟩
abbrev main_call11_v4 : Ref sig .tc := ⟨.hbm, 311, rfl⟩
abbrev main_call11_c_1 : Ref sig .tc := ⟨.hbm, 312, rfl⟩
abbrev main_call11_c_2 : Ref sig .tc := ⟨.hbm, 313, rfl⟩
abbrev main_call11_v5 : Ref sig .tc := ⟨.hbm, 314, rfl⟩
abbrev main_call11_v6 : Ref sig .tc := ⟨.hbm, 315, rfl⟩
abbrev main_call11_v7 : Ref sig .tc := ⟨.hbm, 316, rfl⟩
abbrev main_call11_v8 : Ref sig .tc := ⟨.hbm, 317, rfl⟩
abbrev main_call11_v9 : Ref sig .tc := ⟨.hbm, 318, rfl⟩
abbrev main_call11_v10 : Ref sig .tc := ⟨.hbm, 319, rfl⟩
abbrev main_call11_c_3 : Ref sig .tc := ⟨.hbm, 320, rfl⟩
abbrev main_call11_v11 : Ref sig .tc := ⟨.hbm, 321, rfl⟩
abbrev main_call11_v12 : Ref sig .tc := ⟨.hbm, 322, rfl⟩
abbrev main_call11_v13 : Ref sig .tc := ⟨.hbm, 323, rfl⟩
abbrev main_call11_cst : Ref sig .tc := ⟨.hbm, 324, rfl⟩
abbrev main_call11_v14 : Ref sig .tc := ⟨.hbm, 325, rfl⟩
abbrev main_v71 : Ref sig .tc := ⟨.hbm, 326, rfl⟩
abbrev main_v72 : Ref sig .tc := ⟨.hbm, 327, rfl⟩
abbrev main_v73 : Ref sig .tc := ⟨.hbm, 328, rfl⟩
abbrev main_v74 : Ref sig .tc := ⟨.hbm, 329, rfl⟩
abbrev main_v75 : Ref sig .tc := ⟨.hbm, 330, rfl⟩
abbrev main_v76 : Ref sig .tc := ⟨.hbm, 331, rfl⟩
abbrev main_v77 : Ref sig .tc := ⟨.hbm, 332, rfl⟩
abbrev main_v78 : Ref sig .tc := ⟨.hbm, 333, rfl⟩
abbrev main_v79 : Ref sig .tc := ⟨.hbm, 334, rfl⟩
abbrev main_v80 : Ref sig .tc := ⟨.hbm, 335, rfl⟩
abbrev main_c_5 : Ref sig .tc := ⟨.hbm, 336, rfl⟩
abbrev main_call12_v0 : Ref sig .tc := ⟨.hbm, 337, rfl⟩
abbrev main_call12_c : Ref sig .tc := ⟨.hbm, 338, rfl⟩
abbrev main_call12_v1 : Ref sig .tc := ⟨.hbm, 339, rfl⟩
abbrev main_call12_c_0 : Ref sig .tc := ⟨.hbm, 340, rfl⟩
abbrev main_call12_v2 : Ref sig .tc := ⟨.hbm, 341, rfl⟩
abbrev main_call12_v3 : Ref sig .tc := ⟨.hbm, 342, rfl⟩
abbrev main_call12_v4 : Ref sig .tc := ⟨.hbm, 343, rfl⟩
abbrev main_call12_c_1 : Ref sig .tc := ⟨.hbm, 344, rfl⟩
abbrev main_call12_v5 : Ref sig .tc := ⟨.hbm, 345, rfl⟩
abbrev main_call12_v6 : Ref sig .tc := ⟨.hbm, 346, rfl⟩
abbrev main_call12_c_2 : Ref sig .tc := ⟨.hbm, 347, rfl⟩
abbrev main_call12_v7 : Ref sig .tc := ⟨.hbm, 348, rfl⟩
abbrev main_call12_v8 : Ref sig .tc := ⟨.hbm, 349, rfl⟩
abbrev main_call12_c_3 : Ref sig .tc := ⟨.hbm, 350, rfl⟩
abbrev main_call12_v9 : Ref sig .tc := ⟨.hbm, 351, rfl⟩
abbrev main_call12_v10 : Ref sig .tc := ⟨.hbm, 352, rfl⟩
abbrev main_call12_v11 : Ref sig .tc := ⟨.hbm, 353, rfl⟩
abbrev main_call12_v12 : Ref sig .tc := ⟨.hbm, 354, rfl⟩
abbrev main_call12_v13 : Ref sig .tc := ⟨.hbm, 355, rfl⟩
abbrev main_call12_v14 : Ref sig .tc := ⟨.hbm, 356, rfl⟩
abbrev main_v81 : Ref sig .tc := ⟨.hbm, 357, rfl⟩
abbrev main_v82 : Ref sig .tc := ⟨.hbm, 358, rfl⟩
abbrev main_call13_c : Ref sig .tc := ⟨.hbm, 359, rfl⟩
abbrev main_call13_v0 : Ref sig .tc := ⟨.hbm, 360, rfl⟩
abbrev main_call13_v1 : Ref sig .tc := ⟨.hbm, 361, rfl⟩
abbrev main_call13_c_0 : Ref sig .tc := ⟨.hbm, 362, rfl⟩
abbrev main_call13_v2 : Ref sig .tc := ⟨.hbm, 363, rfl⟩
abbrev main_call13_v3 : Ref sig .tc := ⟨.hbm, 364, rfl⟩
abbrev main_call13_v4 : Ref sig .tc := ⟨.hbm, 365, rfl⟩
abbrev main_call13_c_1 : Ref sig .tc := ⟨.hbm, 366, rfl⟩
abbrev main_call13_c_2 : Ref sig .tc := ⟨.hbm, 367, rfl⟩
abbrev main_call13_v5 : Ref sig .tc := ⟨.hbm, 368, rfl⟩
abbrev main_call13_v6 : Ref sig .tc := ⟨.hbm, 369, rfl⟩
abbrev main_call13_v7 : Ref sig .tc := ⟨.hbm, 370, rfl⟩
abbrev main_call13_v8 : Ref sig .tc := ⟨.hbm, 371, rfl⟩
abbrev main_call13_v9 : Ref sig .tc := ⟨.hbm, 372, rfl⟩
abbrev main_call13_v10 : Ref sig .tc := ⟨.hbm, 373, rfl⟩
abbrev main_call13_c_3 : Ref sig .tc := ⟨.hbm, 374, rfl⟩
abbrev main_call13_v11 : Ref sig .tc := ⟨.hbm, 375, rfl⟩
abbrev main_call13_v12 : Ref sig .tc := ⟨.hbm, 376, rfl⟩
abbrev main_call13_v13 : Ref sig .tc := ⟨.hbm, 377, rfl⟩
abbrev main_call13_cst : Ref sig .tc := ⟨.hbm, 378, rfl⟩
abbrev main_call13_v14 : Ref sig .tc := ⟨.hbm, 379, rfl⟩
abbrev main_v83 : Ref sig .tc := ⟨.hbm, 380, rfl⟩
abbrev main_v84 : Ref sig .tc := ⟨.hbm, 381, rfl⟩
abbrev main_v85 : Ref sig .tc := ⟨.hbm, 382, rfl⟩
abbrev main_v86 : Ref sig .tc := ⟨.hbm, 383, rfl⟩
abbrev main_v87 : Ref sig .tc := ⟨.hbm, 384, rfl⟩
abbrev main_v88 : Ref sig .tc := ⟨.hbm, 385, rfl⟩
abbrev main_v89 : Ref sig .tc := ⟨.hbm, 386, rfl⟩
abbrev main_v90 : Ref sig .tc := ⟨.hbm, 387, rfl⟩
abbrev main_v91 : Ref sig .tc := ⟨.hbm, 388, rfl⟩
abbrev main_v92 : Ref sig .tc := ⟨.hbm, 389, rfl⟩
abbrev main_c_6 : Ref sig .tc := ⟨.hbm, 390, rfl⟩
abbrev main_call14_v0 : Ref sig .tc := ⟨.hbm, 391, rfl⟩
abbrev main_call14_c : Ref sig .tc := ⟨.hbm, 392, rfl⟩
abbrev main_call14_v1 : Ref sig .tc := ⟨.hbm, 393, rfl⟩
abbrev main_call14_c_0 : Ref sig .tc := ⟨.hbm, 394, rfl⟩
abbrev main_call14_v2 : Ref sig .tc := ⟨.hbm, 395, rfl⟩
abbrev main_call14_v3 : Ref sig .tc := ⟨.hbm, 396, rfl⟩
abbrev main_call14_v4 : Ref sig .tc := ⟨.hbm, 397, rfl⟩
abbrev main_call14_c_1 : Ref sig .tc := ⟨.hbm, 398, rfl⟩
abbrev main_call14_v5 : Ref sig .tc := ⟨.hbm, 399, rfl⟩
abbrev main_call14_v6 : Ref sig .tc := ⟨.hbm, 400, rfl⟩
abbrev main_call14_c_2 : Ref sig .tc := ⟨.hbm, 401, rfl⟩
abbrev main_call14_v7 : Ref sig .tc := ⟨.hbm, 402, rfl⟩
abbrev main_call14_v8 : Ref sig .tc := ⟨.hbm, 403, rfl⟩
abbrev main_call14_c_3 : Ref sig .tc := ⟨.hbm, 404, rfl⟩
abbrev main_call14_v9 : Ref sig .tc := ⟨.hbm, 405, rfl⟩
abbrev main_call14_v10 : Ref sig .tc := ⟨.hbm, 406, rfl⟩
abbrev main_call14_v11 : Ref sig .tc := ⟨.hbm, 407, rfl⟩
abbrev main_call14_v12 : Ref sig .tc := ⟨.hbm, 408, rfl⟩
abbrev main_call14_v13 : Ref sig .tc := ⟨.hbm, 409, rfl⟩
abbrev main_call14_v14 : Ref sig .tc := ⟨.hbm, 410, rfl⟩
abbrev main_v93 : Ref sig .tc := ⟨.hbm, 411, rfl⟩
abbrev main_v94 : Ref sig .tc := ⟨.hbm, 412, rfl⟩
abbrev main_call15_c : Ref sig .tc := ⟨.hbm, 413, rfl⟩
abbrev main_call15_v0 : Ref sig .tc := ⟨.hbm, 414, rfl⟩
abbrev main_call15_v1 : Ref sig .tc := ⟨.hbm, 415, rfl⟩
abbrev main_call15_c_0 : Ref sig .tc := ⟨.hbm, 416, rfl⟩
abbrev main_call15_v2 : Ref sig .tc := ⟨.hbm, 417, rfl⟩
abbrev main_call15_v3 : Ref sig .tc := ⟨.hbm, 418, rfl⟩
abbrev main_call15_v4 : Ref sig .tc := ⟨.hbm, 419, rfl⟩
abbrev main_call15_c_1 : Ref sig .tc := ⟨.hbm, 420, rfl⟩
abbrev main_call15_c_2 : Ref sig .tc := ⟨.hbm, 421, rfl⟩
abbrev main_call15_v5 : Ref sig .tc := ⟨.hbm, 422, rfl⟩
abbrev main_call15_v6 : Ref sig .tc := ⟨.hbm, 423, rfl⟩
abbrev main_call15_v7 : Ref sig .tc := ⟨.hbm, 424, rfl⟩
abbrev main_call15_v8 : Ref sig .tc := ⟨.hbm, 425, rfl⟩
abbrev main_call15_v9 : Ref sig .tc := ⟨.hbm, 426, rfl⟩
abbrev main_call15_v10 : Ref sig .tc := ⟨.hbm, 427, rfl⟩
abbrev main_call15_c_3 : Ref sig .tc := ⟨.hbm, 428, rfl⟩
abbrev main_call15_v11 : Ref sig .tc := ⟨.hbm, 429, rfl⟩
abbrev main_call15_v12 : Ref sig .tc := ⟨.hbm, 430, rfl⟩
abbrev main_call15_v13 : Ref sig .tc := ⟨.hbm, 431, rfl⟩
abbrev main_call15_cst : Ref sig .tc := ⟨.hbm, 432, rfl⟩
abbrev main_call15_v14 : Ref sig .tc := ⟨.hbm, 433, rfl⟩
abbrev main_v95 : Ref sig .tc := ⟨.hbm, 434, rfl⟩
abbrev main_v96 : Ref sig .tc := ⟨.hbm, 435, rfl⟩
abbrev main_cst_7 : Ref sig .tc := ⟨.hbm, 436, rfl⟩
abbrev main_v97 : Ref sig .tc := ⟨.hbm, 437, rfl⟩
abbrev main_v98 : Ref sig .tc := ⟨.hbm, 438, rfl⟩

abbrev nD : Nat := 1
abbrev τ : Topo := Topo.v7x

variable {F : FTy → Type} [FloatOps F]
-- ==== Proof.FfnIdealRun.lean ====
/-
  The feed-forward call, run: at any float values, from any memory with zero counters, every weakly fair execution of
  `KernelIdeal` ends with every array the pipeline stages at what its blocks' write-backs leave, every argument unchanged and
  every semaphore counter at zero.

  The body's triple is stated over the contents of the twelve staging buffers; the two windows on the zero-padded
  array are clipped windows, and the second one's last block of each batch row overhangs the array.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S1x256x768 := Rect.unit (s := S1x256x768) ![0, 0, 0] S1x256x768.size inb_S1x256x768_S1x256x768_0_0_0
abbrev r0_1 : Rect S1x32x768 := Rect.unit (s := S1x32x768) ![0, 0, 0] S1x24x768.size inb_S1x32x768_S1x24x768_0_0_0
abbrev r0_2 : Rect S1x32x768 := Rect.unit (s := S1x32x768) ![0, 20, 0] S1x12x768.size inb_S1x32x768_S1x12x768_0_20_0
abbrev r0_3 : Rect S1x32x768 := Rect.unit (s := S1x32x768) ![0, 0, 0] S1x12x768.size inb_S1x32x768_S1x12x768_0_0_0
abbrev r0_4 : Rect S768x3072 := Rect.unit (s := S768x3072) ![0, 0] S768x3072.size inb_S768x3072_S768x3072_0_0
abbrev r0_5 : Rect S1x3072 := Rect.unit (s := S1x3072) ![0, 0] S1x3072.size inb_S1x3072_S1x3072_0_0
abbrev r0_6 : Rect S3072x768 := Rect.unit (s := S3072x768) ![0, 0] S3072x768.size inb_S3072x768_S3072x768_0_0
abbrev r0_7 : Rect S1x768 := Rect.unit (s := S1x768) ![0, 0] S1x768.size inb_S1x768_S1x768_0_0

/-! ## What the body leaves in each output window's buffer -/

/-! ### Values of the body that the stores' payloads, spelt out, would write more than once

    Each is a vector the body binds (often a part call's result), stated over the input windows' blocks and
    numbered on from the skeleton's payload functions (`k0_pay9` …, after `k0_pay8`), so that
    `out0_W` and the values after it name it instead of spelling it out (`unfold_out out0_W` opens a canon
    with them, `unfold_payloads` opens them with the payloads); the comment after each is the printed function's
    name for the value (a count appended where that name is bound again). -/

def k0_pay9 (i : grid0.Coords) (x0 : Vec F S1x256x768 .f32) (x1 : Vec F S1x32x768 .f32) (x2 : Vec F S1x256x768 .f32) (x3 : Vec F S1x32x768 .f32) (x4 : Vec F S1x32x768 .f32) (x5 : Vec F S1x256x768 .f32) (x6 : Vec F S768x3072 .f32) (x7 : Vec F S1x3072 .f32) (x8 : Vec F S3072x768 .f32) (x9 : Vec F S1x768 .f32) : FVec F S280x768 .f32 :=
  k0_pay3 i (View.ld x0 r0_0) (View.ld x1 r0_1) (View.ld x3 r0_2) (View.ld x2 r0_0) (View.ld x4 r0_3) -- `v33`
def k0_pay10 (i : grid0.Coords) (x0 : Vec F S1x256x768 .f32) (x1 : Vec F S1x32x768 .f32) (x2 : Vec F S1x256x768 .f32) (x3 : Vec F S1x32x768 .f32) (x4 : Vec F S1x32x768 .f32) (x5 : Vec F S1x256x768 .f32) (x6 : Vec F S768x3072 .f32) (x7 : Vec F S1x3072 .f32) (x8 : Vec F S3072x768 .f32) (x9 : Vec F S1x768 .f32) : FVec F S256x768 .f32 :=
  k0_pay4 i (View.ld x0 r0_0) (View.ld x1 r0_1) (View.ld x3 r0_2) (View.ld x2 r0_0) (View.ld x4 r0_3) -- `v38`

/-- Window 10's staging buffer after the body, from the input windows' blocks: its 1 store as pieces, LAST
    FIRST (Lib/Pipeline/FrameBody.lean `View.canon`; the payloads are the skeleton's and the values stated above). -/
def out0_10 (i : grid0.Coords) (x0 : Vec F S1x256x768 .f32) (x1 : Vec F S1x32x768 .f32) (x2 : Vec F S1x256x768 .f32) (x3 : Vec F S1x32x768 .f32) (x4 : Vec F S1x32x768 .f32) (x5 : Vec F S1x256x768 .f32) (x6 : Vec F S768x3072 .f32) (x7 : Vec F S1x3072 .f32) (x8 : Vec F S3072x768 .f32) (x9 : Vec F S1x768 .f32) : Vec F S1x256x768 .f32 :=
  View.canon [⟨r0_0, k0_pay1 (k0_pay6 (k0_pay9 i x0 x1 x2 x3 x4 x5 x6 x7 x8 x9) (k0_pay10 i x0 x1 x2 x3 x4 x5 x6 x7 x8 x9)) (k0_pay7 (k0_pay9 i x0 x1 x2 x3 x4 x5 x6 x7 x8 x9) (k0_pay10 i x0 x1 x2 x3 x4 x5 x6 x7 x8 x9) (View.ld x6 r0_4)) (k0_pay8 (View.ld x7 r0_5)) (View.ld x8 r0_6) (View.ld x9 r0_7)⟩]

/-- Its stores tile the buffer (checked by evaluation), so they cover it. -/
theorem cover0_10 (p0 : Vec F S1x256x768 .f32) (y : S1x256x768.Idx) :
    ∃ pc ∈ ([⟨r0_0, p0⟩] : List (View.Piece (Elt F) S1x256x768 .f32)), y ∈ pc.1.set :=
  View.cover_of_tiled [⟨r0_0, p0⟩] S1x256x768.size (by rfl) y

/-- Window 11's staging buffer after the body, from the input windows' blocks: its 1 store as pieces, LAST
    FIRST (Lib/Pipeline/FrameBody.lean `View.canon`; the payloads are the skeleton's and the values stated above). -/
def out0_11 (i : grid0.Coords) (x0 : Vec F S1x256x768 .f32) (x1 : Vec F S1x32x768 .f32) (x2 : Vec F S1x256x768 .f32) (x3 : Vec F S1x32x768 .f32) (x4 : Vec F S1x32x768 .f32) (x5 : Vec F S1x256x768 .f32) (x6 : Vec F S768x3072 .f32) (x7 : Vec F S1x3072 .f32) (x8 : Vec F S3072x768 .f32) (x9 : Vec F S1x768 .f32) : Vec F S1x256x768 .f32 :=
  View.canon [⟨r0_0, k0_pay2 (k0_pay5 (k0_pay9 i x0 x1 x2 x3 x4 x5 x6 x7 x8 x9) (k0_pay10 i x0 x1 x2 x3 x4 x5 x6 x7 x8 x9)) (View.ld x5 r0_0)⟩]

/-- Its stores tile the buffer (checked by evaluation), so they cover it. -/
theorem cover0_11 (p0 : Vec F S1x256x768 .f32) (y : S1x256x768.Idx) :
    ∃ pc ∈ ([⟨r0_0, p0⟩] : List (View.Piece (Elt F) S1x256x768 .f32)), y ∈ pc.1.set :=
  View.cover_of_tiled [⟨r0_0, p0⟩] S1x256x768.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x256x768 .f32) (harg2 : arg2.IsWhole) (arg3 : Memref sig .tc .vmem S1x32x768 .f32) (harg3 : arg3.IsWhole) (arg4 : Memref sig .tc .vmem S1x256x768 .f32) (harg4 : arg4.IsWhole) (arg5 : Memref sig .tc .vmem S1x32x768 .f32) (harg5 : arg5.IsWhole) (arg6 : Memref sig .tc .vmem S1x32x768 .f32) (harg6 : arg6.IsWhole) (arg7 : Memref sig .tc .vmem S1x256x768 .f32) (harg7 : arg7.IsWhole) (arg8 : Memref sig .tc .vmem S768x3072 .f32) (harg8 : arg8.IsWhole) (arg9 : Memref sig .tc .vmem S1x3072 .f32) (harg9 : arg9.IsWhole) (arg10 : Memref sig .tc .vmem S3072x768 .f32) (harg10 : arg10.IsWhole) (arg11 : Memref sig .tc .vmem S1x768 .f32) (harg11 : arg11.IsWhole) (arg12 : Memref sig .tc .vmem S1x256x768 .f32) (harg12 : arg12.IsWhole) (arg13 : Memref sig .tc .vmem S1x256x768 .f32) (harg13 : arg13.IsWhole)
    (x0 : Vec F S1x256x768 .f32) (x1 : Vec F S1x32x768 .f32) (x2 : Vec F S1x256x768 .f32) (x3 : Vec F S1x32x768 .f32) (x4 : Vec F S1x32x768 .f32) (x5 : Vec F S1x256x768 .f32) (x6 : Vec F S768x3072 .f32) (x7 : Vec F S1x3072 .f32) (x8 : Vec F S3072x768 .f32) (x9 : Vec F S1x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out0_10 i x0 x1 x2 x3 x4 x5 x6 x7 x8 x9) ∗ owns (c : Thread nD τ) arg13 fullShare (out0_11 i x0 x1 x2 x3 x4 x5 x6 x7 x8 x9)) -∗ K ⟨⟩))
      ⊢ wp frame (wpE (defs₀ (F := F)) Variants.none c none) E (cc0__ffn_body i arg2 harg2 arg3 harg3 arg4 harg4 arg5 harg5 arg6 harg6 arg7 harg7 arg8 harg8 arg9 harg9 arg10 harg10 arg11 harg11 arg12 harg12 arg13 harg13) K := by
  simp only [cc0__ffn_body_eq_skeleton]; unfold cc0__ffn_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover0_10 _)).trans ?_
    rfl
  iexists _; isplitr
  swap; · iexact H11
  ipureintro
  refine (View.read_writes_eq_canon _ _ _ (cover0_11 _)).trans ?_
  rfl

/-! ## The two windows on the padded array

    Window 0 is never cut. Window 1's last block of each batch row overhangs the padded array: past the array's end
    its buffer holds what it held before. The body reads the buffer's first 24 rows only, which every block has inside
    the array (`rows_inside`), so what it computes does not depend on the rest (`ld_fill`). -/

/-- A filler for the rows of window 1's buffer that no fetch writes; no result depends on it. -/
def dflt0_1 : (cfg0.win 1).block.Idx → Elt F (cfg0.win 1).elt := fun _ => Classical.choice inferInstance
/-- Window 1's block at point `t`, filled out with `dflt0_1`. -/
def X0_1 (c : Dev nD) (t : Fin cfg0.N) : (cfg0.win 1).block.Idx → Elt F (cfg0.win 1).elt :=
  (cfg0.win 1).fill (cfg0.grid.coords t) dflt0_1 (iblk m c 1 t)
theorem cut_X0_1 (c : Dev nD) (t : Fin cfg0.N) : (cfg0.win 1).cut (grid0.coords t) (X0_1 m c t) = iblk m c 1 t := by
  unfold X0_1; exact Pipeline.Window.cut_fill _ _ _ _

/-- At every point the part of window 1's block inside the array has at least 24 rows. -/
theorem rows_inside : ∀ t : Fin cfg0.N, ∀ a, (S1x24x768.size a) ≤ (cfg0.win 1).xsize (cfg0.grid.coords t) a := by decide +kernel

/-- Every index of the first 24 rows is one a fetch writes. -/
theorem moved0_1 (t : Fin cfg0.N) (j : S1x24x768.Idx) : (cfg0.win 1).moved (cfg0.grid.coords t) (r0_1.idx j) = true :=
  ((cfg0.win 1).moved_iff _ _).mpr fun a => by
    refine Nat.lt_of_lt_of_le ?_ (rows_inside t a)
    match a with
    | ⟨0, _⟩ => exact (show 0 + 1 * (j 0).val < S1x24x768.size 0 from by have := (j 0).isLt; omega)
    | ⟨1, _⟩ => exact (show 0 + 1 * (j 1).val < S1x24x768.size 1 from by have := (j 1).isLt; omega)
    | ⟨2, _⟩ => exact (show 0 + 1 * (j 2).val < S1x24x768.size 2 from by have := (j 2).isLt; omega)

/-- What the body reads of window 1's buffer does not depend on what fills it out. -/
theorem ld_fill (t : Fin cfg0.N) (d d' : (cfg0.win 1).block.Idx → Elt F (cfg0.win 1).elt) (g) :
    View.ld (Val := Elt F) (e' := .f32) ((cfg0.win 1).fill (cfg0.grid.coords t) d g) r0_1 = View.ld ((cfg0.win 1).fill (cfg0.grid.coords t) d' g) r0_1 := by
  funext j
  show (cfg0.win 1).fill (cfg0.grid.coords t) d g (r0_1.idx j) = (cfg0.win 1).fill (cfg0.grid.coords t) d' g (r0_1.idx j)
  unfold Pipeline.Window.fill
  rw [dif_pos (moved0_1 t j), dif_pos (moved0_1 t j)]

theorem out0_10_congr (i : grid0.Coords) (x0) (x1 y1 : S1x32x768.Idx → Elt F .f32) (h : View.ld (Val := Elt F) (e' := .f32) x1 r0_1 = View.ld y1 r0_1) (x2) (x3) (x4) (x5) (x6) (x7) (x8) (x9) :
    out0_10 (F := F) i x0 x1 x2 x3 x4 x5 x6 x7 x8 x9 = out0_10 i x0 y1 x2 x3 x4 x5 x6 x7 x8 x9 := by
  unfold out0_10 k0_pay10 k0_pay9
  try rw [h]

theorem out0_10_fill (c : Dev nD) (t : Fin cfg0.N) (d : (cfg0.win 1).block.Idx → Elt F (cfg0.win 1).elt) :
    out0_10 (grid0.coords t) (X0_0 m c t) ((cfg0.win 1).fill (grid0.coords t) d (iblk m c 1 t)) (iblk m c 2 t) (iblk m c 3 t) (iblk m c 4 t) (iblk m c 5 t) (iblk m c 6 t) (iblk m c 7 t) (iblk m c 8 t) (iblk m c 9 t)
      = out0_10 (grid0.coords t) (X0_0 m c t) (X0_1 m c t) (iblk m c 2 t) (iblk m c 3 t) (iblk m c 4 t) (iblk m c 5 t) (iblk m c 6 t) (iblk m c 7 t) (iblk m c 8 t) (iblk m c 9 t) :=
  out0_10_congr _ _ _ _ (ld_fill t d dflt0_1 _) _ _ _ _ _ _ _ _

theorem out0_11_congr (i : grid0.Coords) (x0) (x1 y1 : S1x32x768.Idx → Elt F .f32) (h : View.ld (Val := Elt F) (e' := .f32) x1 r0_1 = View.ld y1 r0_1) (x2) (x3) (x4) (x5) (x6) (x7) (x8) (x9) :
    out0_11 (F := F) i x0 x1 x2 x3 x4 x5 x6 x7 x8 x9 = out0_11 i x0 y1 x2 x3 x4 x5 x6 x7 x8 x9 := by
  unfold out0_11 k0_pay10 k0_pay9
  try rw [h]

theorem out0_11_fill (c : Dev nD) (t : Fin cfg0.N) (d : (cfg0.win 1).block.Idx → Elt F (cfg0.win 1).elt) :
    out0_11 (grid0.coords t) (X0_0 m c t) ((cfg0.win 1).fill (grid0.coords t) d (iblk m c 1 t)) (iblk m c 2 t) (iblk m c 3 t) (iblk m c 4 t) (iblk m c 5 t) (iblk m c 6 t) (iblk m c 7 t) (iblk m c 8 t) (iblk m c 9 t)
      = out0_11 (grid0.coords t) (X0_0 m c t) (X0_1 m c t) (iblk m c 2 t) (iblk m c 3 t) (iblk m c 4 t) (iblk m c 5 t) (iblk m c 6 t) (iblk m c 7 t) (iblk m c 8 t) (iblk m c 9 t) :=
  out0_11_congr _ _ _ _ (ld_fill t d dflt0_1 _) _ _ _ _ _ _ _ _

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (grid0.coords t) (X0_0 m c t) (X0_1 m c t) (iblk m c 2 t) (iblk m c 3 t) (iblk m c 4 t) (iblk m c 5 t) (iblk m c 6 t) (iblk m c 7 t) (iblk m c 8 t) (iblk m c 9 t)
    | ⟨11, _⟩ => out0_11 (grid0.coords t) (X0_0 m c t) (X0_1 m c t) (iblk m c 2 t) (iblk m c 3 t) (iblk m c 4 t) (iblk m c 5 t) (iblk m c 6 t) (iblk m c 7 t) (iblk m c 8 t) (iblk m c 9 t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (grid0.coords t) (X0_0 m c t) (X0_1 m c t) (iblk m c 2 t) (iblk m c 3 t) (iblk m c 4 t) (iblk m c 5 t) (iblk m c 6 t) (iblk m c 7 t) (iblk m c 8 t) (iblk m c 9 t) := by dsimp only [dats]
theorem after0_11 (c : Dev nD) (t : Fin cfg0.N) : (dats m 0 c).after 11 t = out0_11 (grid0.coords t) (X0_0 m c t) (X0_1 m c t) (iblk m c 2 t) (iblk m c 3 t) (iblk m c 4 t) (iblk m c 5 t) (iblk m c 6 t) (iblk m c 7 t) (iblk m c 8 t) (iblk m c 9 t) := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = (cfg0.win 1).fill (grid0.coords t) d (iblk m c 1 t) :=
  (((dats m 0 c).before_in_eq_fetched 1 rfl (fun _ => rfl)
      (fun t t' h => funext fun a => congrArg (fun n => Pipeline.Clip.of n ((cfg0.win 1).size a) (S4x8216x768.size a)) (congrFun h a))
      (fun t => by rw [after0_1]; unfold X0_1; rw [Pipeline.Window.cut_fill]; unfold Dat.blockOf iblk; rw [A_eq]; try rfl) t d).trans
    (by unfold Dat.fetched Dat.blockOf iblk; rw [A_eq]; try rfl))
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (grid0.coords t) d ((cfg0.win 0).cut (grid0.coords t) ((dats m 0 c).after 0 t))))
    ∗ (∃ d, owns (c : Thread nD τ) (st0_1 t) fullShare ((cfg0.win 1).fill (grid0.coords t) d ((cfg0.win 1).cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (X0_0 m c t) ((cfg0.win 1).fill (grid0.coords t) d1 (iblk m c 1 t)) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  rw [out0_10_fill m c t d1, out0_11_fill m c t d1]
  isplitl [HΦ]; · iexact HΦ
  isplitl [Ho]; · iexact Ho
  isplitl [H0]
  · iexists X0_0 m c t; rw [Pipeline.Window.fill_cut]; iexact H0
  isplitl [H1]
  · iexists d1; rw [cut_X0_1]; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- Every fair execution ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Run

end
-- ==== Proof.MovingAverage.lean ====
/-
  The mathematics both calls share, over the extended reals: the moving average of 25 time steps with the first and the
  last step repeated beyond the ends, and how the operations that compute it are read at an index. On the reference's
  side that is a window sum over a concatenation; on the kernel's side 25 row slices of a 280-row tile added up.
-/
module

public import Idealize.ShloMosaic.Lib.Pipeline.Value
public import Idealize.ShloMosaic.Lib.ValueIdx
public import Idealize.ShloMosaic.Lib.KernelVsHost
public import Idealize.ShloMosaic.PureOps.Ideal.Laws

@[expose] public section

noncomputable section

namespace Cert.MovingAverage

open Idealize.ShloMosaic Idealize.ShloMosaic.ValueIdx

/-- An f32 array of 4 batch rows of 8192 time steps of 768 features, at the ideal values. -/
abbrev Arr : Type := (⟨3, ![4, 8192, 768]⟩ : Shape).Idx → EReal

/-- Row `n` of an array extended by 12 rows at both ends is this row of the array: the first row below, the last above. -/
def crow (n : ℕ) : Fin 8192 := ⟨min (n - 12) 8191, by omega⟩

theorem crow_add (t : Fin 8192) : crow (t.val + 12) = t := Fin.ext (by have := t.isLt; show min (t.val + 12 - 12) 8191 = t.val; omega)

/-- The moving average at batch row `b`, time `t`, feature `d`. -/
def mean (x : Arr) (b : Fin 4) (t : Fin 8192) (d : Fin 768) : EReal :=
  (∑ k ∈ Finset.range 25, x (ix3 b (crow (t.val + k)) d)) * ((1 / 25 : ℝ) : EReal)

/-- What is left of the array when its moving average is taken off. -/
def rest (x : Arr) (b : Fin 4) (t : Fin 8192) (d : Fin 768) : EReal := x (ix3 b t d) - mean x b t d

/-! ## The reference's window sum -/

theorem foldl_add {n : ℕ} (f : Fin n → EReal) : ∀ (l : List (Fin n)) (r : EReal),
    l.foldl (fun r k => r + f k) r = r + (l.map f).sum
  | [], r => by simp
  | k :: l, r => by rw [List.foldl_cons, foldl_add f l, List.map_cons, List.sum_cons, add_assoc]

/-- Row `n` of the extended array, for any number `n`. -/
def prow (n : ℕ) : Fin 8216 := ⟨min n 8215, by omega⟩

/-- The position `n` of a window of 25 rows is row `n` of it. -/
theorem window_pos (n : Fin (⟨3, ![1, 25, 1]⟩ : Shape).numel) (k : Fin 25) (h : n.val = k.val) :
    (⟨3, ![1, 25, 1]⟩ : Shape).rowMajor.symm n = ix3 (0 : Fin 1) k (0 : Fin 1) := by
  rw [Equiv.symm_apply_eq]
  apply Fin.ext
  rw [Shape.rowMajor_val_three]
  show n.val = (0 * 25 + k.val) * 1 + 0
  omega

theorem numel_window : (⟨3, ![1, 25, 1]⟩ : Shape).numel = 25 := by decide

theorem reduceWindowAdd_apply (x : (⟨3, ![4, 8216, 768]⟩ : Shape).Idx → EReal) (v : (⟨0, ![]⟩ : Shape).Idx → EReal)
    (hv : ∀ i, v i = 0) (h) (hu) (b : Fin 4) (t : Fin 8192) (d : Fin 768) :
    (Host.reduceWindowAdd (F := Ideal) (φ := .f32) (t := ⟨3, ![4, 8192, 768]⟩) ![1, 25, 1] ![1, 1, 1] ![0, 0, 0] ![0, 0, 0] x v h hu) (ix3 b t d)
      = ∑ k ∈ Finset.range 25, x (ix3 b (prow (t.val + k)) d) := by
  unfold Host.reduceWindowAdd
  rw [Ideal.hostReduceWindowAdd_def]
  unfold Ideal.hostReduceWindowAdd Host.reduceWindow
  dsimp only
  rw [foldl_add, hv, zero_add, ← Fin.sum_univ_def, Finset.sum_range, ← Equiv.sum_comp (finCongr numel_window).symm]
  refine Finset.sum_congr rfl fun k _ => ?_
  have hp := window_pos ((finCongr numel_window).symm k) k rfl
  have ht := t.isLt
  have hk := k.isLt
  have hin : ∀ a : Fin 3, (![0, 0, 0] : Fin 3 → Nat) a ≤ ((ix3 b t d) a).val * (![1, 1, 1] : Fin 3 → Nat) a + ((⟨3, ![1, 25, 1]⟩ : Shape).rowMajor.symm ((finCongr numel_window).symm k) a).val
      ∧ ((ix3 b t d) a).val * (![1, 1, 1] : Fin 3 → Nat) a + ((⟨3, ![1, 25, 1]⟩ : Shape).rowMajor.symm ((finCongr numel_window).symm k) a).val - (![0, 0, 0] : Fin 3 → Nat) a < (![4, 8216, 768] : Fin 3 → Nat) a := by
    rw [hp]
    intro a
    match a with
    | ⟨0, _⟩ => show 0 ≤ b.val * 1 + 0 ∧ b.val * 1 + 0 - 0 < 4; omega
    | ⟨1, _⟩ => show 0 ≤ t.val * 1 + k.val ∧ t.val * 1 + k.val - 0 < 8216; omega
    | ⟨2, _⟩ => show 0 ≤ d.val * 1 + 0 ∧ d.val * 1 + 0 - 0 < 768; omega
  refine (dif_pos hin).trans (congrArg x (funext fun a => Fin.ext ?_))
  show ((ix3 b t d) a).val * (![1, 1, 1] : Fin 3 → Nat) a + ((⟨3, ![1, 25, 1]⟩ : Shape).rowMajor.symm ((finCongr numel_window).symm k) a).val - (![0, 0, 0] : Fin 3 → Nat) a = _
  rw [hp]
  match a with
  | ⟨0, _⟩ => show b.val * 1 + 0 - 0 = b.val; omega
  | ⟨1, _⟩ => show t.val * 1 + k.val - 0 = min (t.val + k.val) 8215; omega
  | ⟨2, _⟩ => show d.val * 1 + 0 - 0 = d.val; omega

/-! ## The reference's concatenation: 12 copies of the first row, the array, 12 copies of the last -/

theorem concat_apply (f l : (⟨3, ![4, 12, 768]⟩ : Shape).Idx → EReal) (x : Arr) (h)
    (hf : ∀ b r d, f (ix3 b r d) = x (ix3 b 0 d)) (hl : ∀ b r d, l (ix3 b r d) = x (ix3 b 8191 d))
    (b : Fin 4) (n : ℕ) (hn : n < 8216) (d : Fin 768) :
    concatenate (⟨3, ![4, 8216, 768]⟩ : Shape) 1 [⟨⟨3, ![4, 12, 768]⟩, f⟩, ⟨⟨3, ![4, 8192, 768]⟩, x⟩, ⟨⟨3, ![4, 12, 768]⟩, l⟩] h (ix3 b (prow n) d)
      = x (ix3 b (crow n) d) := by
  by_cases h1 : n < 12
  · refine (concatenate_apply_piece 1 _ h _ 0 (by decide : 0 < 3) _ f rfl rfl 0 rfl (ix3 b ⟨n, h1⟩ d) ?_ ?_).trans ?_
    · intro a ha
      match a with
      | ⟨0, _⟩ => rfl
      | ⟨1, _⟩ => exact absurd rfl ha
      | ⟨2, _⟩ => rfl
    · show 0 + n = min n 8215; omega
    · rw [hf, show crow n = 0 from Fin.ext (by show min (n - 12) 8191 = 0; omega)]
  · by_cases h2 : n < 8204
    · refine (concatenate_apply_piece 1 _ h _ 1 (by decide : 1 < 3) _ x rfl rfl 12 rfl (ix3 b ⟨n - 12, by omega⟩ d) ?_ ?_).trans ?_
      · intro a ha
        match a with
        | ⟨0, _⟩ => rfl
        | ⟨1, _⟩ => exact absurd rfl ha
        | ⟨2, _⟩ => rfl
      · show 12 + (n - 12) = min n 8215; omega
      · rw [show crow n = ⟨n - 12, by omega⟩ from Fin.ext (by show min (n - 12) 8191 = n - 12; omega)]
    · refine (concatenate_apply_piece 1 _ h _ 2 (by decide : 2 < 3) _ l rfl rfl 8204 rfl (ix3 b ⟨n - 8204, by omega⟩ d) ?_ ?_).trans ?_
      · intro a ha
        match a with
        | ⟨0, _⟩ => rfl
        | ⟨1, _⟩ => exact absurd rfl ha
        | ⟨2, _⟩ => rfl
      · show 8204 + (n - 8204) = min n 8215; omega
      · rw [hl, show crow n = 8191 from Fin.ext (by show min (n - 12) 8191 = 8191; omega)]

/-! ## The kernel's tile -/

/-- A row slice of a 280-row tile. -/
theorem slice_row (k : ℕ) (v : (⟨2, ![280, 768]⟩ : Shape).Idx → EReal) (h : (⟨2, ![280, 768]⟩ : Shape).Slices ![k, 0] ⟨2, ![256, 768]⟩)
    (r : Fin 256) (d : Fin 768) (hk : k + r.val < 280) :
    extractStridedSlice (⟨2, ![256, 768]⟩ : Shape) ![k, 0] v h (ix2 r d) = v (ix2 ⟨k + r.val, hk⟩ d) :=
  extractStridedSlice_apply _ v h _ _ fun a => by
    match a with
    | ⟨0, _⟩ => rfl
    | ⟨1, _⟩ => show d.val = 0 + d.val; omega

/-- The tile's row `r`, for any number `r`. -/
def trow (r : ℕ) : Fin 280 := ⟨min r 279, by omega⟩

theorem slice_row_trow (k : ℕ) (hk : k < 25) (v : (⟨2, ![280, 768]⟩ : Shape).Idx → EReal) (h : (⟨2, ![280, 768]⟩ : Shape).Slices ![k, 0] ⟨2, ![256, 768]⟩)
    (r : Fin 256) (d : Fin 768) :
    extractStridedSlice (⟨2, ![256, 768]⟩ : Shape) ![k, 0] v h (ix2 r d) = v (ix2 (trow (r.val + k)) d) := by
  have := r.isLt
  rw [slice_row k v h r d (by omega)]
  exact congrArg (fun q => v (ix2 q d)) (Fin.ext (by show k + r.val = min (r.val + k) 279; omega))

/-- A tile of 256 rows and 24 more. -/
theorem concat_tail (x : (⟨2, ![256, 768]⟩ : Shape).Idx → EReal) (y : (⟨2, ![24, 768]⟩ : Shape).Idx → EReal) (h)
    (r : Fin 280) (d : Fin 768) (G : EReal)
    (h0 : ∀ hr : r.val < 256, x (ix2 ⟨r.val, hr⟩ d) = G)
    (h1 : ∀ hr : 256 ≤ r.val, y (ix2 ⟨r.val - 256, by omega⟩ d) = G) :
    concatenate (⟨2, ![280, 768]⟩ : Shape) 0 [⟨⟨2, ![256, 768]⟩, x⟩, ⟨⟨2, ![24, 768]⟩, y⟩] h (ix2 r d) = G := by
  by_cases hlow : r.val < 256
  · refine (concatenate_apply_piece 0 _ h _ 0 (by decide : 0 < 2) _ x rfl rfl 0 rfl (ix2 ⟨r.val, hlow⟩ d) ?_ ?_).trans (h0 hlow)
    · intro b hb
      match b with
      | ⟨0, _⟩ => exact absurd rfl hb
      | ⟨1, _⟩ => rfl
    · show 0 + r.val = r.val; omega
  · refine (concatenate_apply_piece 0 _ h _ 1 (by decide : 1 < 2) _ y rfl rfl 256 rfl (ix2 ⟨r.val - 256, by omega⟩ d) ?_ ?_).trans (h1 (by omega))
    · intro b hb
      match b with
      | ⟨0, _⟩ => exact absurd rfl hb
      | ⟨1, _⟩ => rfl
    · show 256 + (r.val - 256) = r.val; omega

/-- A tile of 256 rows between two times 12. -/
theorem concat_halo (x : (⟨2, ![12, 768]⟩ : Shape).Idx → EReal) (y : (⟨2, ![256, 768]⟩ : Shape).Idx → EReal) (z : (⟨2, ![12, 768]⟩ : Shape).Idx → EReal) (h)
    (r : Fin 280) (d : Fin 768) (G : EReal)
    (h0 : ∀ hr : r.val < 12, x (ix2 ⟨r.val, hr⟩ d) = G)
    (h1 : ∀ (hr : 12 ≤ r.val) (hr' : r.val < 268), y (ix2 ⟨r.val - 12, by omega⟩ d) = G)
    (h2 : ∀ hr : 268 ≤ r.val, z (ix2 ⟨r.val - 268, by omega⟩ d) = G) :
    concatenate (⟨2, ![280, 768]⟩ : Shape) 0 [⟨⟨2, ![12, 768]⟩, x⟩, ⟨⟨2, ![256, 768]⟩, y⟩, ⟨⟨2, ![12, 768]⟩, z⟩] h (ix2 r d) = G := by
  by_cases hlow : r.val < 12
  · refine (concatenate_apply_piece 0 _ h _ 0 (by decide : 0 < 3) _ x rfl rfl 0 rfl (ix2 ⟨r.val, hlow⟩ d) ?_ ?_).trans (h0 hlow)
    · intro b hb
      match b with
      | ⟨0, _⟩ => exact absurd rfl hb
      | ⟨1, _⟩ => rfl
    · show 0 + r.val = r.val; omega
  · by_cases hmid : r.val < 268
    · refine (concatenate_apply_piece 0 _ h _ 1 (by decide : 1 < 3) _ y rfl rfl 12 rfl (ix2 ⟨r.val - 12, by omega⟩ d) ?_ ?_).trans (h1 (by omega) hmid)
      · intro b hb
        match b with
        | ⟨0, _⟩ => exact absurd rfl hb
        | ⟨1, _⟩ => rfl
      · show 12 + (r.val - 12) = r.val; omega
    · refine (concatenate_apply_piece 0 _ h _ 2 (by decide : 2 < 3) _ z rfl rfl 268 rfl (ix2 ⟨r.val - 268, by omega⟩ d) ?_ ?_).trans (h2 (by omega))
      · intro b hb
        match b with
        | ⟨0, _⟩ => exact absurd rfl hb
        | ⟨1, _⟩ => rfl
      · show 268 + (r.val - 268) = r.val; omega

/-! ## Unit axes and copied rows -/

theorem dropUnit (n : ℕ) (x : (⟨3, ![1, n, 768]⟩ : Shape).Idx → EReal) (h) (r : Fin n) (d : Fin 768) :
    shapeCast (⟨2, ![n, 768]⟩ : Shape) x h (ix2 r d) = x (ix3 0 r d) :=
  shapeCast_apply x h _ _ (by
    rw [Shape.rowMajor_val_three, Shape.rowMajor_val_two]
    show (0 * n + r.val) * 768 + d.val = r.val * 768 + d.val
    omega)

theorem addUnit (n : ℕ) (x : (⟨2, ![n, 768]⟩ : Shape).Idx → EReal) (h) (r : Fin n) (d : Fin 768) :
    shapeCast (⟨3, ![1, n, 768]⟩ : Shape) x h (ix3 0 r d) = x (ix2 r d) :=
  shapeCast_apply x h _ _ (by
    rw [Shape.rowMajor_val_three, Shape.rowMajor_val_two]
    show r.val * 768 + d.val = (0 * n + r.val) * 768 + d.val
    omega)

/-- A one-row vector copied into every row. -/
theorem broadcastRow (n k : ℕ) (hk : k ≠ 1) (x : (⟨2, ![1, k]⟩ : Shape).Idx → EReal) (h) (r : Fin n) (d : Fin k) :
    broadcastTo (⟨2, ![n, k]⟩ : Shape) x h (ix2 r d) = x (ix2 0 d) :=
  broadcastTo_apply x h _ _ fun a => by
    match a with
    | ⟨0, _⟩ => show (0 : ℕ) = if (1 : ℕ) = 1 then 0 else _; rw [if_pos rfl]
    | ⟨1, _⟩ => show d.val = if k = 1 then 0 else d.val; rw [if_neg hk]

/-- The same of a column of words. -/
theorem broadcastColumn (x : (⟨2, ![280, 1]⟩ : Shape).Idx → BitVec 1) (h) (r : Fin 280) (d : Fin 768) :
    broadcastTo (⟨2, ![280, 768]⟩ : Shape) x h (ix2 r d) = x (ix2 r 0) :=
  broadcastTo_apply x h _ _ fun a => by
    match a with
    | ⟨0, _⟩ => show r.val = if (280 : ℕ) = 1 then 0 else r.val; rw [if_neg (by decide)]
    | ⟨1, _⟩ => show (0 : ℕ) = if (1 : ℕ) = 1 then 0 else d.val; rw [if_pos rfl]

/-! ## Constants -/

/-- `25` as the reference writes it. -/
theorem ofBits_25 : Ideal.ofBits .f32 0x41C80000#32 = ((25 : ℝ) : EReal) := by
  simp [Ideal.ofBits, Ideal.ieee, -EReal.coe_mul]; norm_num

/-- Dividing by 25 is multiplying by one twenty-fifth. -/
theorem div_25 (x : EReal) : Ideal.div x (Ideal.ofBits .f32 0x41C80000#32) = x * ((1 / 25 : ℝ) : EReal) := by
  rw [ofBits_25, Ideal.div_coe (by norm_num)]

end Cert.MovingAverage

end
-- ==== Proof.FfnWords.lean ====
/-
  The words the feed-forward body compares to find the rows of its tile that lie beyond the two ends of the sequence.
-/
module

public import Idealize.ShloMosaic.Lib.ValueIdx

@[expose] public section

namespace Cert.KernelIdeal.Payload

open Idealize.ShloMosaic

/-- The row numbers the body compares, as words: row `r` of the tile of grid column `n` is before the first time step … -/
theorem before_first : ∀ (n : Fin 32) (r : Fin 280), IntOp.cmpi .slt (IntOp.addi (BitVec.ofNat 32 r.val) (Scalar.subi (Scalar.muli (BitVec.ofNat 32 n.val) 256#32) 12#32)) 0#32
    = BitVec.ofBool (decide (256 * n.val + r.val < 12)) := by decide +kernel

/-- … and after the last. -/
theorem after_last : ∀ (n : Fin 32) (r : Fin 280), IntOp.cmpi .sgt (IntOp.addi (BitVec.ofNat 32 r.val) (Scalar.subi (Scalar.muli (BitVec.ofNat 32 n.val) 256#32) 12#32)) 8191#32
    = BitVec.ofBool (decide (8204 ≤ 256 * n.val + r.val)) := by decide +kernel

end Cert.KernelIdeal.Payload
-- ==== Proof.FfnPayload.lean ====
/-
  What the feed-forward body computes from the blocks it loads, read at an index over the extended reals: the 280-row tile
  it builds holds the sum of the two inputs at the rows `256 tt - 12 … 256 tt + 267` of one batch row, the rows beyond the
  ends replaced by the first and the last; then the mean of 25 rows, the remainder, and the two-layer network on it.
-/
module

public import proofs.«01_k».proof.Proof.Gen.KernelIdeal.Skeleton
public import proofs.«01_k».proof.Proof.MovingAverage
public import proofs.«01_k».proof.Proof.FfnWords
public import Idealize.ShloMosaic.Lib.MatmulPlain
public import Idealize.ShloMosaic.PureOps.IdealRules

@[expose] public section

set_option maxRecDepth 16384

noncomputable section

namespace Cert.KernelIdeal.Payload

open Idealize.ShloMosaic Idealize.ShloMosaic.ValueIdx Cert.KernelIdeal.Gen Cert.MovingAverage

/-! ## The tile -/

variable (i : grid0.Coords) (v1 : Vec Ideal S1x256x768 .f32) (v3 : Vec Ideal S1x24x768 .f32) (v6 : Vec Ideal S1x12x768 .f32) (v8 : Vec Ideal S1x256x768 .f32) (v10 : Vec Ideal S1x12x768 .f32)

/-- The two tiles the body builds by concatenation, added up. -/
def sums : FVec Ideal S280x768 .f32 :=
  addf (concatenate S280x768 0 [⟨S256x768, shapeCast S256x768 v1 shapeCasts_S1x256x768_S256x768⟩, ⟨S24x768, shapeCast S24x768 v3 shapeCasts_S1x24x768_S24x768⟩] concatenates_S256x768_S24x768_S280x768_d0)
    (concatenate S280x768 0 [⟨S12x768, shapeCast S12x768 v6 shapeCasts_S1x12x768_S12x768⟩, ⟨S256x768, shapeCast S256x768 v8 shapeCasts_S1x256x768_S256x768⟩, ⟨S12x768, shapeCast S12x768 v10 shapeCasts_S1x12x768_S12x768⟩] concatenates_S12x768_S256x768_S12x768_S280x768_d0)

/-- The blocks of the point at grid column `n` hold these rows of one batch row of the two inputs `s` and `a`, where they
    hold a row of them. -/
structure Rows (n : ℕ) (s a : Fin 8192 → Fin 768 → EReal) : Prop where
  low : ∀ (r : Fin 256) (d : Fin 768), 12 ≤ 256 * n + r.val → v1 (ix3 0 r d) = s (crow (256 * n + r.val)) d
  high : ∀ (r : Fin 24) (d : Fin 768), 256 * n + 256 + r.val < 8204 → v3 (ix3 0 r d) = s (crow (256 * n + (256 + r.val))) d
  before : ∀ (r : Fin 12) (d : Fin 768), n ≠ 0 → v6 (ix3 0 r d) = a (crow (256 * n + r.val)) d
  at' : ∀ (r : Fin 256) (d : Fin 768), v8 (ix3 0 r d) = a (crow (256 * n + (12 + r.val))) d
  after : ∀ (r : Fin 12) (d : Fin 768), n ≠ 31 → v10 (ix3 0 r d) = a (crow (256 * n + (268 + r.val))) d

variable {v1 v3 v6 v8 v10} {n : ℕ} {s a : Fin 8192 → Fin 768 → EReal}

/-- At a row of the tile that is a row of the inputs, the tile holds their sum there. -/
theorem sums_apply (hn : n < 32) (H : Rows v1 v3 v6 v8 v10 n s a) (r : Fin 280) (d : Fin 768) (h1 : 12 ≤ 256 * n + r.val) (h2 : 256 * n + r.val < 8204) :
    sums v1 v3 v6 v8 v10 (ix2 r d) = s (crow (256 * n + r.val)) d + a (crow (256 * n + r.val)) d := by
  have hr := r.isLt
  unfold sums
  rw [addf_apply]
  refine congrArg₂ (· + ·) (concat_tail _ _ _ r d _ ?_ ?_) (concat_halo _ _ _ _ r d _ ?_ ?_ ?_)
  · intro hl; rw [dropUnit 256]; exact H.low ⟨r.val, hl⟩ d h1
  · intro hl
    rw [dropUnit 24, H.high _ _ (show 256 * n + 256 + (r.val - 256) < 8204 by omega)]
    exact congrArg (fun q => s (crow q) d) (show 256 * n + (256 + (r.val - 256)) = 256 * n + r.val by omega)
  · intro hl; rw [dropUnit 12]; exact H.before ⟨r.val, hl⟩ d (by omega)
  · intro hl hl'
    rw [dropUnit 256, H.at']
    exact congrArg (fun q => a (crow q) d) (show 256 * n + (12 + (r.val - 12)) = 256 * n + r.val by omega)
  · intro hl
    rw [dropUnit 12, H.after _ _ (by omega)]
    exact congrArg (fun q => a (crow q) d) (show 256 * n + (268 + (r.val - 268)) = 256 * n + r.val by omega)

/-- One row of the tile as a one-row vector. -/
theorem slice_one (k : Fin 280) (x : (⟨2, ![280, 768]⟩ : Shape).Idx → EReal) (h : (⟨2, ![280, 768]⟩ : Shape).Slices ![k.val, 0] ⟨2, ![1, 768]⟩) (d : Fin 768) :
    extractStridedSlice (⟨2, ![1, 768]⟩ : Shape) ![k.val, 0] x h (ix2 0 d) = x (ix2 k d) :=
  extractStridedSlice_apply _ x h _ _ fun b => by
    match b with
    | ⟨0, _⟩ => show k.val = k.val + 0; omega
    | ⟨1, _⟩ => show d.val = 0 + d.val; omega

theorem select_ofBool (b : Bool) (x y : EReal) : Scalar.select (BitVec.ofBool b) x y = if b = true then x else y := by
  cases b <;> rfl

/-- Row `r` of the tile the means are taken over is the sum of the inputs at row `256 n + r` of them extended. -/
theorem tile_apply (hi : (i 1).val = n) (hn : n < 32) (H : Rows v1 v3 v6 v8 v10 n s a) (r : Fin 280) (d : Fin 768) :
    k0_pay3 i v1 v3 v6 v8 v10 (ix2 r d) = s (crow (256 * n + r.val)) d + a (crow (256 * n + r.val)) d := by
  have hr := r.isLt
  have hs : k0_pay3 i v1 v3 v6 v8 v10 (ix2 r d)
      = Scalar.select (IntOp.cmpi .slt (IntOp.addi (BitVec.ofNat 32 r.val) (Scalar.subi (Scalar.muli (BitVec.ofNat 32 (i 1).val) 256#32) 12#32)) 0#32)
          (sums v1 v3 v6 v8 v10 (ix2 (⟨12, by decide⟩ : Fin 280) d))
          (Scalar.select (IntOp.cmpi .sgt (IntOp.addi (BitVec.ofNat 32 r.val) (Scalar.subi (Scalar.muli (BitVec.ofNat 32 (i 1).val) 256#32) 12#32)) 8191#32)
            (sums v1 v3 v6 v8 v10 (ix2 (⟨267, by decide⟩ : Fin 280) d)) (sums v1 v3 v6 v8 v10 (ix2 r d))) := by
    unfold k0_pay3
    dsimp only
    rw [select_apply, select_apply, broadcastColumn, broadcastColumn, broadcastRow 280 768 (by decide), broadcastRow 280 768 (by decide),
      shapeCast_self, shapeCast_self, shapeCast_self, shapeCast_self]
    have e1 : extractStridedSlice S1x768 ![12, 0] (sums v1 v3 v6 v8 v10) slices_S280x768_o12_0_S1x768 (ix2 0 d) = sums v1 v3 v6 v8 v10 (ix2 (⟨12, by decide⟩ : Fin 280) d) :=
      slice_one ⟨12, by decide⟩ _ _ d
    have e2 : extractStridedSlice S1x768 ![267, 0] (sums v1 v3 v6 v8 v10) slices_S280x768_o267_0_S1x768 (ix2 0 d) = sums v1 v3 v6 v8 v10 (ix2 (⟨267, by decide⟩ : Fin 280) d) :=
      slice_one ⟨267, by decide⟩ _ _ d
    have e3 : iota .tc S280x1 32 [0] iota_S280x1_d0_w32 (ix2 r 0) = BitVec.ofNat 32 r.val := iota_single_apply _ _ _ _ _ _
    rw [← e1, ← e2, ← e3]
    rfl
  rw [hs, hi, before_first ⟨n, hn⟩ r, after_last ⟨n, hn⟩ r, select_ofBool, select_ofBool]
  by_cases h1 : 256 * n + r.val < 12
  · rw [if_pos (by simpa using h1), sums_apply hn H _ _ (by show 12 ≤ 256 * n + 12; omega) (by show 256 * n + 12 < 8204; omega),
      show crow (256 * n + (⟨12, by decide⟩ : Fin 280).val) = crow (256 * n + r.val) from
        Fin.ext (by show min (256 * n + 12 - 12) 8191 = min (256 * n + r.val - 12) 8191; omega)]
  · rw [if_neg (by simpa using h1)]
    by_cases h2 : 8204 ≤ 256 * n + r.val
    · rw [if_pos (by simpa using h2), sums_apply hn H _ _ (by show 12 ≤ 256 * n + 267; omega) (by show 256 * n + 267 < 8204; omega),
        show crow (256 * n + (⟨267, by decide⟩ : Fin 280).val) = crow (256 * n + r.val) from
          Fin.ext (by show min (256 * n + 267 - 12) 8191 = min (256 * n + r.val - 12) 8191; omega)]
    · rw [if_neg (by simpa using h2), sums_apply hn H r d (by omega) (by omega)]

/-! ## The mean and the remainder -/

/-- The mean of 25 rows, from any tile `x` whose row `r` is row `256 n + r` of an array extended. -/
theorem mean_apply (x : FVec Ideal S280x768 .f32) (r : Fin 256) (d : Fin 768) :
    k0_pay5 x (addf (addf (extractStridedSlice S256x768 ![0, 0] x slices_S280x768_o0_0_S256x768) (extractStridedSlice S256x768 ![1, 0] x slices_S280x768_o1_0_S256x768)) (extractStridedSlice S256x768 ![2, 0] x slices_S280x768_o2_0_S256x768)) (ix2 r d)
      = (∑ k ∈ Finset.range 25, x (ix2 (trow (r.val + k)) d)) * ((1 / 25 : ℝ) : EReal) := by
  unfold k0_pay5
  rw [mulf_apply, broadcast_apply, IdealRules.named_const.ideal_named_scalar _ _ _ _ rfl]
  refine congrArg (· * ((1 / 25 : ℝ) : EReal)) ?_
  simp only [addf_apply]
  rw [slice_row_trow 0 (by decide), slice_row_trow 1 (by decide), slice_row_trow 2 (by decide), slice_row_trow 3 (by decide), slice_row_trow 4 (by decide),
    slice_row_trow 5 (by decide), slice_row_trow 6 (by decide), slice_row_trow 7 (by decide), slice_row_trow 8 (by decide), slice_row_trow 9 (by decide),
    slice_row_trow 10 (by decide), slice_row_trow 11 (by decide), slice_row_trow 12 (by decide), slice_row_trow 13 (by decide), slice_row_trow 14 (by decide),
    slice_row_trow 15 (by decide), slice_row_trow 16 (by decide), slice_row_trow 17 (by decide), slice_row_trow 18 (by decide), slice_row_trow 19 (by decide),
    slice_row_trow 20 (by decide), slice_row_trow 21 (by decide), slice_row_trow 22 (by decide), slice_row_trow 23 (by decide), slice_row_trow 24 (by decide)]
  simp only [Finset.sum_range_succ, Finset.sum_range_zero, zero_add]

end Cert.KernelIdeal.Payload

end
-- ==== Proof.FfnBody.lean ====
/-
  The feed-forward network as mathematics over the extended reals, and the body's two stored blocks as its values.
-/
module

public import proofs.«01_k».proof.Proof.FfnPayload

@[expose] public section

set_option maxRecDepth 16384

noncomputable section

/-! ## The mathematics -/

namespace Cert.MovingAverage

open Idealize.ShloMosaic Idealize.ShloMosaic.ValueIdx

/-- One half and one, as both programs write them. -/
abbrev half : EReal := Ideal.ofBits .f32 0x3F000000#32
abbrev one : EReal := Ideal.ofBits .f32 0x3F800000#32

/-- The exact GELU: `h / 2 * (1 + erf (h / √2))`. -/
def gelu (h : EReal) : EReal := h * half * (one + Ideal.erf (h * (((Real.sqrt 2)⁻¹ : ℝ) : EReal)))

/-- The hidden layer before its activation, from what is left of `x` when its moving average is taken off. -/
def hidden (x : Arr) (W1 : (⟨2, ![768, 3072]⟩ : Shape).Idx → EReal) (b1 : (⟨1, ![3072]⟩ : Shape).Idx → EReal) (b : Fin 4) (t : Fin 8192) (f : Fin 3072) : EReal :=
  (∑ k : Fin 768, rest x b t k * W1 (ix2 k f)) + b1 (ix1 f)

/-- The block's first result: the remainder plus the network's output on it. -/
def season (x : Arr) (W1 : (⟨2, ![768, 3072]⟩ : Shape).Idx → EReal) (b1 : (⟨1, ![3072]⟩ : Shape).Idx → EReal)
    (W2 : (⟨2, ![3072, 768]⟩ : Shape).Idx → EReal) (b2 : (⟨1, ![768]⟩ : Shape).Idx → EReal) (b : Fin 4) (t : Fin 8192) (d : Fin 768) : EReal :=
  rest x b t d + ((∑ f : Fin 3072, gelu (hidden x W1 b1 b t f) * W2 (ix2 f d)) + b2 (ix1 d))

end Cert.MovingAverage

/-! ## The body -/

namespace Cert.KernelIdeal.Payload

open Idealize.ShloMosaic Idealize.ShloMosaic.ValueIdx Cert.KernelIdeal.Gen Cert.MovingAverage

theorem dot1_eq : dot_S256x768_S768x3072_S256x3072_1_0_0_1_n_n = DotDims.plain 256 768 3072 := rfl
theorem dot2_eq : dot_S256x3072_S3072x768_S256x768_1_0_0_1_n_n = DotDims.plain 256 3072 768 := rfl

/-- A one-row vector flattened and laid out as a row again is itself. -/
theorem flatten_row (k : ℕ) (x : (⟨2, ![1, k]⟩ : Shape).Idx → EReal) (h) (h') : shapeCast (⟨2, ![1, k]⟩ : Shape) (shapeCast (⟨1, ![k]⟩ : Shape) x h) h' = x := by
  rw [shapeCast_shapeCast]

variable {i : grid0.Coords} {v1 : Vec Ideal S1x256x768 .f32} {v3 : Vec Ideal S1x24x768 .f32} {v6 : Vec Ideal S1x12x768 .f32} {v8 : Vec Ideal S1x256x768 .f32} {v10 : Vec Ideal S1x12x768 .f32}
  {n : ℕ} {s a : Fin 8192 → Fin 768 → EReal} {x : Arr} {b : Fin 4}

/-- The time step at row `r` of the tile of grid column `n`. -/
def time (n : ℕ) (hn : n < 32) (r : Fin 256) : Fin 8192 := ⟨256 * n + r.val, by have := r.isLt; omega⟩

theorem pay5_apply (hi : (i 1).val = n) (hn : n < 32) (H : Rows v1 v3 v6 v8 v10 n s a) (hx : ∀ t d, s t d + a t d = x (ix3 b t d)) (r : Fin 256) (d : Fin 768) :
    k0_pay5 (k0_pay3 i v1 v3 v6 v8 v10) (k0_pay4 i v1 v3 v6 v8 v10) (ix2 r d) = mean x b (time n hn r) d := by
  refine (mean_apply (k0_pay3 i v1 v3 v6 v8 v10) r d).trans ?_
  unfold mean
  refine congrArg (· * ((1 / 25 : ℝ) : EReal)) (Finset.sum_congr rfl fun k hk => ?_)
  have hk' : k < 25 := Finset.mem_range.1 hk
  have hr := r.isLt
  rw [tile_apply i hi hn H, hx]
  exact congrArg (fun q => x (ix3 b (crow q) d)) (show 256 * n + min (r.val + k) 279 = 256 * n + r.val + k by omega)

theorem pay6_apply (hi : (i 1).val = n) (hn : n < 32) (H : Rows v1 v3 v6 v8 v10 n s a) (hx : ∀ t d, s t d + a t d = x (ix3 b t d)) (r : Fin 256) (d : Fin 768) :
    k0_pay6 (k0_pay3 i v1 v3 v6 v8 v10) (k0_pay4 i v1 v3 v6 v8 v10) (ix2 r d) = rest x b (time n hn r) d := by
  have hr := r.isLt
  unfold k0_pay6 rest
  rw [subf_apply, pay5_apply hi hn H hx, slice_row_trow 12 (by decide), tile_apply i hi hn H, hx]
  refine congrArg (fun q => x (ix3 b q d) - _) ?_
  refine Eq.trans ?_ (crow_add (time n hn r))
  exact congrArg crow (show 256 * n + min (r.val + 12) 279 = 256 * n + r.val + 12 by omega)

theorem pay7_apply (hi : (i 1).val = n) (hn : n < 32) (H : Rows v1 v3 v6 v8 v10 n s a) (hx : ∀ t d, s t d + a t d = x (ix3 b t d))
    (w : Vec Ideal S768x3072 .f32) (r : Fin 256) (f : Fin 3072) :
    k0_pay7 (k0_pay3 i v1 v3 v6 v8 v10) (k0_pay4 i v1 v3 v6 v8 v10) w (ix2 r f) = ∑ k : Fin 768, rest x b (time n hn r) k * w (ix2 k f) := by
  unfold k0_pay7
  simp only [matmul]
  rw [dot1_eq, Ideal.matmul_plain_apply, constant_apply, Ideal.ofBits_zero_f32, zero_add]
  exact Finset.sum_congr rfl fun k _ => by rw [pay6_apply hi hn H hx]

theorem pay8_apply (w : Vec Ideal S1x3072 .f32) (r : Fin 256) (f : Fin 3072) : k0_pay8 (F := Ideal) w (ix2 r f) = w (ix2 0 f) := by
  unfold k0_pay8
  rw [broadcastRow 256 3072 (by decide), flatten_row]

/-- The error function at an index. -/
theorem erf_at {s : Shape} (x : FVec Ideal s .f32) (i : s.Idx) : erf x i = Ideal.erf (x i) := rfl

theorem pay1_apply (u : FVec Ideal S256x768 .f32) (p q : FVec Ideal S256x3072 .f32) (w : Vec Ideal S3072x768 .f32) (z : Vec Ideal S1x768 .f32) (r : Fin 256) (d : Fin 768) :
    k0_pay1 u p q w z (ix3 0 r d) = u (ix2 r d) + ((∑ f : Fin 3072, gelu (p (ix2 r f) + q (ix2 r f)) * w (ix2 f d)) + z (ix2 0 d)) := by
  unfold k0_pay1
  rw [addUnit 256, addf_apply, addf_apply, broadcastRow 256 768 (by decide), flatten_row]
  refine congrArg (fun e => u (ix2 r d) + (e + z (ix2 0 d))) ?_
  simp only [matmul]
  rw [dot2_eq, Ideal.matmul_plain_apply, constant_apply, Ideal.ofBits_zero_f32, zero_add]
  refine Finset.sum_congr rfl fun f _ => congrArg (· * w (ix2 f d)) ?_
  rw [mulf_apply, mulf_apply, addf_apply, addf_apply, broadcast_apply, broadcast_apply, erf_at, mulf_apply, addf_apply, broadcast_apply,
    IdealRules.named_const.ideal_named_scalar _ _ _ _ rfl]
  rfl

theorem pay2_apply (u : FVec Ideal S256x768 .f32) (z : Vec Ideal S1x256x768 .f32) (r : Fin 256) (d : Fin 768) :
    k0_pay2 u z (ix3 0 r d) = z (ix3 0 r d) + u (ix2 r d) := by
  unfold k0_pay2
  rw [addUnit 256, addf_apply, dropUnit 256]

end Cert.KernelIdeal.Payload

end
-- ==== Proof.FfnBlocks.lean ====
/-
  The feed-forward call's blocks and its two result arrays, at the ideal values: what every window's block holds as entries
  of the arguments, so what every grid point writes back, so what the two arrays hold when the grid is done.
-/
module

public import proofs.«01_k».proof.Proof.FfnIdealRun
public import proofs.«01_k».proof.Proof.FfnBody
public import Idealize.ShloMosaic.Lib.StableHlo.ReadAt

@[expose] public section

set_option maxRecDepth 16384

noncomputable section

namespace Cert.KernelIdeal.Blocks

open Cert.KernelIdeal Cert.KernelIdeal.Gen Cert.KernelIdeal.Run Cert.KernelIdeal.Payload Cert.MovingAverage
open Idealize.ShloMosaic.TcCoe Idealize.SL.Sem Idealize.ShloMosaic.ValueIdx
open Idealize.ShloMosaic hiding ix0 ix1 ix2 ix3 ix4 ix5 eq_ix3
open Idealize.ShloMosaic.Pipeline (Dat)

variable (m : (ℓ : Loc nD τ sig) → Buf (Elt Ideal) ℓ) (ρ : Dev nD → PrngReg) (c : Dev nD)

/-! ## The arrays the host prepares -/

/-- The first bias as one row. -/
theorem V_bias1 (f : Fin 3072) : V m c main_v1 (ix2 (0 : Fin 1) f) = m ((c : Thread nD τ).loc main_arg4) (ix1 f) := by
  unfold V hostOps0 hostOps0_1 hostOps0_2
  after_reads_at
  rfl

/-- The second bias as one row. -/
theorem V_bias2 (d : Fin 768) : V m c main_v2 (ix2 (0 : Fin 1) d) = m ((c : Thread nD τ).loc main_arg6) (ix1 d) := by
  unfold V hostOps0 hostOps0_1 hostOps0_2
  after_reads_at
  rfl

/-- The first argument between 12 rows of zeros at both ends: at a row of the argument it holds that row. -/
theorem V_pad (b : Fin 4) (n : Fin 8216) (d : Fin 768) (h1 : 12 ≤ n.val) (h2 : n.val < 8204) :
    V m c main_v0 (ix3 b n d) = m ((c : Thread nD τ).loc main_arg0) (ix3 b (crow n.val) d) := by
  have hc : crow n.val = ⟨n.val - 12, by omega⟩ := Fin.ext (by show min (n.val - 12) 8191 = n.val - 12; omega)
  rw [hc]
  unfold V hostOps0 hostOps0_1 hostOps0_2
  after_reads_at
  exact dif_pos (show 12 ≤ n.val ∧ n.val - 12 < 8192 from ⟨h1, by omega⟩)

/-! ## Where the windows' blocks lie -/

/-- The batch row of a grid point. -/
def batch (t : Fin cfg0.N) : Fin 4 := ⟨t.val / 32, by have : t.val < 128 := t.isLt; omega⟩
/-- The tile of a grid point. -/
def tile (t : Fin cfg0.N) : ℕ := t.val % 32
theorem tile_lt (t : Fin cfg0.N) : tile t < 32 := Nat.mod_lt _ (by decide)

theorem coords_tile : ∀ t : Fin cfg0.N, (cfg0.grid.coords t 1).val = tile t := by decide +kernel
theorem index0 : ∀ t : Fin cfg0.N, win0_0.index t 0 = t.val / 32 ∧ win0_0.index t 1 = tile t ∧ win0_0.index t 2 = 0 := by decide +kernel
theorem index1 : ∀ t : Fin cfg0.N, win0_1.index t 0 = t.val / 32 ∧ win0_1.index t 1 = (tile t + 1) * 8 ∧ win0_1.index t 2 = 0 := by decide +kernel
theorem index2 : ∀ t : Fin cfg0.N, win0_2.index t 0 = t.val / 32 ∧ win0_2.index t 1 = tile t ∧ win0_2.index t 2 = 0 := by decide +kernel
theorem index3 : ∀ t : Fin cfg0.N, win0_3.index t 0 = t.val / 32 ∧ win0_3.index t 1 = tile t * 8 - 1 ∧ win0_3.index t 2 = 0 := by decide +kernel
theorem index4 : ∀ t : Fin cfg0.N, win0_4.index t 0 = t.val / 32 ∧ win0_4.index t 1 = min ((tile t + 1) * 8) 255 ∧ win0_4.index t 2 = 0 := by decide +kernel
theorem index5 : ∀ t : Fin cfg0.N, win0_5.index t 0 = t.val / 32 ∧ win0_5.index t 1 = tile t ∧ win0_5.index t 2 = 0 := by decide +kernel
theorem index10 : ∀ t : Fin cfg0.N, win0_10.index t 0 = t.val / 32 ∧ win0_10.index t 1 = tile t ∧ win0_10.index t 2 = 0 := by decide +kernel
theorem index11 : ∀ t : Fin cfg0.N, win0_11.index t 0 = t.val / 32 ∧ win0_11.index t 1 = tile t ∧ win0_11.index t 2 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel
theorem index9 : ∀ t : Fin cfg0.N, win0_9.index t 0 = 0 ∧ win0_9.index t 1 = 0 := by decide +kernel

/-! ## What the blocks hold -/

theorem block0 (t : Fin cfg0.N) (r : Fin 256) (d : Fin 768) (h : 12 ≤ 256 * tile t + r.val) :
    View.ld (X0_0 m c t) r0_0 (ix3 0 r d) = m ((c : Thread nD τ).loc main_arg0) (ix3 (batch t) (crow (256 * tile t + r.val)) d) := by
  have hr := r.isLt
  have hn := tile_lt t
  obtain ⟨e0, e1, e2⟩ := index0 t
  show (cfg0.win 0).fill (cfg0.grid.coords t) _ (iblk m c 0 t) (r0_0.idx (ix3 0 r d)) = _
  unfold Pipeline.Window.fill
  rw [dif_pos (moved0_0 t (r0_0.idx (ix3 0 r d)))]
  unfold iblk
  rw [View.read_apply]
  rw [← V_pad m c (batch t) ⟨256 * tile t + r.val, by omega⟩ d (by show 12 ≤ 256 * tile t + r.val; omega) (by show 256 * tile t + r.val < 8204; omega)]
  show V m c main_v0 _ = _
  refine congrArg (V m c main_v0) (funext fun a => Fin.ext ?_)
  match a with
  | ⟨0, _⟩ => show win0_0.index t 0 * 1 + 1 * (0 + 1 * 0) = t.val / 32; rw [e0]; omega
  | ⟨1, _⟩ => show win0_0.index t 1 * 256 + 1 * (0 + 1 * r.val) = 256 * tile t + r.val; rw [e1]; omega
  | ⟨2, _⟩ => show win0_0.index t 2 * 768 + 1 * (0 + 1 * d.val) = d.val; rw [e2]; omega

theorem block1 (t : Fin cfg0.N) (r : Fin 24) (d : Fin 768) (h : 256 * tile t + 256 + r.val < 8204) :
    View.ld (X0_1 m c t) r0_1 (ix3 0 r d) = m ((c : Thread nD τ).loc main_arg0) (ix3 (batch t) (crow (256 * tile t + (256 + r.val))) d) := by
  have hr := r.isLt
  have hn := tile_lt t
  obtain ⟨e0, e1, e2⟩ := index1 t
  show (cfg0.win 1).fill (cfg0.grid.coords t) _ (iblk m c 1 t) (r0_1.idx (ix3 0 r d)) = _
  unfold Pipeline.Window.fill
  rw [dif_pos (moved0_1 t (ix3 0 r d))]
  unfold iblk
  rw [View.read_apply]
  rw [← V_pad m c (batch t) ⟨256 * tile t + (256 + r.val), by omega⟩ d (by show 12 ≤ 256 * tile t + (256 + r.val); omega) (by show 256 * tile t + (256 + r.val) < 8204; omega)]
  show V m c main_v0 _ = _
  refine congrArg (V m c main_v0) (funext fun a => Fin.ext ?_)
  match a with
  | ⟨0, _⟩ => show win0_1.index t 0 * 1 + 1 * (0 + 1 * 0) = t.val / 32; rw [e0]; omega
  | ⟨1, _⟩ => show win0_1.index t 1 * 32 + 1 * (0 + 1 * r.val) = 256 * tile t + (256 + r.val); rw [e1]; omega
  | ⟨2, _⟩ => show win0_1.index t 2 * 768 + 1 * (0 + 1 * d.val) = d.val; rw [e2]; omega

theorem block2 (t : Fin cfg0.N) (r : Fin 256) (d : Fin 768) :
    View.ld (iblk m c 2 t) r0_0 (ix3 0 r d) = m ((c : Thread nD τ).loc main_arg1) (ix3 (batch t) (crow (256 * tile t + (12 + r.val))) d) := by
  have hr := r.isLt
  have hn := tile_lt t
  obtain ⟨e0, e1, e2⟩ := index2 t
  show iblk m c 2 t (r0_0.idx (ix3 0 r d)) = _
  unfold iblk
  rw [View.read_apply]
  show V m c main_arg1 _ = _
  rw [V_main_arg1]
  refine congrArg (m ((c : Thread nD τ).loc main_arg1)) (funext fun a => Fin.ext ?_)
  match a with
  | ⟨0, _⟩ => show win0_2.index t 0 * 1 + 1 * (0 + 1 * 0) = t.val / 32; rw [e0]; omega
  | ⟨1, _⟩ => show win0_2.index t 1 * 256 + 1 * (0 + 1 * r.val) = min (256 * tile t + (12 + r.val) - 12) 8191; rw [e1]; omega
  | ⟨2, _⟩ => show win0_2.index t 2 * 768 + 1 * (0 + 1 * d.val) = d.val; rw [e2]; omega

theorem block3 (t : Fin cfg0.N) (r : Fin 12) (d : Fin 768) (h : tile t ≠ 0) :
    View.ld (iblk m c 3 t) r0_2 (ix3 0 r d) = m ((c : Thread nD τ).loc main_arg1) (ix3 (batch t) (crow (256 * tile t + r.val)) d) := by
  have hr := r.isLt
  have hn := tile_lt t
  obtain ⟨e0, e1, e2⟩ := index3 t
  show iblk m c 3 t (r0_2.idx (ix3 0 r d)) = _
  unfold iblk
  rw [View.read_apply]
  show V m c main_arg1 _ = _
  rw [V_main_arg1]
  refine congrArg (m ((c : Thread nD τ).loc main_arg1)) (funext fun a => Fin.ext ?_)
  match a with
  | ⟨0, _⟩ => show win0_3.index t 0 * 1 + 1 * (0 + 1 * 0) = t.val / 32; rw [e0]; omega
  | ⟨1, _⟩ => show win0_3.index t 1 * 32 + 1 * (20 + 1 * r.val) = min (256 * tile t + r.val - 12) 8191; rw [e1]; omega
  | ⟨2, _⟩ => show win0_3.index t 2 * 768 + 1 * (0 + 1 * d.val) = d.val; rw [e2]; omega

theorem block4 (t : Fin cfg0.N) (r : Fin 12) (d : Fin 768) (h : tile t ≠ 31) :
    View.ld (iblk m c 4 t) r0_3 (ix3 0 r d) = m ((c : Thread nD τ).loc main_arg1) (ix3 (batch t) (crow (256 * tile t + (268 + r.val))) d) := by
  have hr := r.isLt
  have hn := tile_lt t
  obtain ⟨e0, e1, e2⟩ := index4 t
  show iblk m c 4 t (r0_3.idx (ix3 0 r d)) = _
  unfold iblk
  rw [View.read_apply]
  show V m c main_arg1 _ = _
  rw [V_main_arg1]
  refine congrArg (m ((c : Thread nD τ).loc main_arg1)) (funext fun a => Fin.ext ?_)
  match a with
  | ⟨0, _⟩ => show win0_4.index t 0 * 1 + 1 * (0 + 1 * 0) = t.val / 32; rw [e0]; omega
  | ⟨1, _⟩ => show win0_4.index t 1 * 32 + 1 * (0 + 1 * r.val) = min (256 * tile t + (268 + r.val) - 12) 8191; rw [e1]; omega
  | ⟨2, _⟩ => show win0_4.index t 2 * 768 + 1 * (0 + 1 * d.val) = d.val; rw [e2]; omega

theorem block5 (t : Fin cfg0.N) (r : Fin 256) (d : Fin 768) :
    View.ld (iblk m c 5 t) r0_0 (ix3 0 r d) = m ((c : Thread nD τ).loc main_arg2) (ix3 (batch t) (time (tile t) (tile_lt t) r) d) := by
  have hr := r.isLt
  have hn := tile_lt t
  obtain ⟨e0, e1, e2⟩ := index5 t
  show iblk m c 5 t (r0_0.idx (ix3 0 r d)) = _
  unfold iblk
  rw [View.read_apply]
  show V m c main_arg2 _ = _
  rw [V_main_arg2]
  refine congrArg (m ((c : Thread nD τ).loc main_arg2)) (funext fun a => Fin.ext ?_)
  match a with
  | ⟨0, _⟩ => show win0_5.index t 0 * 1 + 1 * (0 + 1 * 0) = t.val / 32; rw [e0]; omega
  | ⟨1, _⟩ => show win0_5.index t 1 * 256 + 1 * (0 + 1 * r.val) = 256 * tile t + r.val; rw [e1]; omega
  | ⟨2, _⟩ => show win0_5.index t 2 * 768 + 1 * (0 + 1 * d.val) = d.val; rw [e2]; omega

theorem block6 (t : Fin cfg0.N) (r : Fin 768) (d : Fin 3072) :
    View.ld (iblk m c 6 t) r0_4 (ix2 r d) = m ((c : Thread nD τ).loc main_arg3) (ix2 r d) := by
  obtain ⟨e0, e1⟩ := index6 t
  show iblk m c 6 t (r0_4.idx (ix2 r d)) = _
  unfold iblk
  rw [View.read_apply]
  show V m c main_arg3 _ = _
  rw [V_main_arg3]
  refine congrArg (m ((c : Thread nD τ).loc main_arg3)) (funext fun a => Fin.ext ?_)
  match a with
  | ⟨0, _⟩ => show win0_6.index t 0 * 768 + 1 * (0 + 1 * r.val) = r.val; rw [e0]; omega
  | ⟨1, _⟩ => show win0_6.index t 1 * 3072 + 1 * (0 + 1 * d.val) = d.val; rw [e1]; omega

theorem block7 (t : Fin cfg0.N) (d : Fin 3072) :
    View.ld (iblk m c 7 t) r0_5 (ix2 (0 : Fin 1) d) = m ((c : Thread nD τ).loc main_arg4) (ix1 d) := by
  obtain ⟨e0, e1⟩ := index7 t
  refine Eq.trans ?_ (V_bias1 m c d)
  show iblk m c 7 t (r0_5.idx (ix2 (0 : Fin 1) d)) = _
  unfold iblk
  rw [View.read_apply]
  show V m c main_v1 _ = _
  refine congrArg (V m c main_v1) (funext fun a => Fin.ext ?_)
  match a with
  | ⟨0, _⟩ => show win0_7.index t 0 * 1 + 1 * (0 + 1 * 0) = 0; rw [e0]
  | ⟨1, _⟩ => show win0_7.index t 1 * 3072 + 1 * (0 + 1 * d.val) = d.val; rw [e1]; omega

theorem block8 (t : Fin cfg0.N) (r : Fin 3072) (d : Fin 768) :
    View.ld (iblk m c 8 t) r0_6 (ix2 r d) = m ((c : Thread nD τ).loc main_arg5) (ix2 r d) := by
  obtain ⟨e0, e1⟩ := index8 t
  show iblk m c 8 t (r0_6.idx (ix2 r d)) = _
  unfold iblk
  rw [View.read_apply]
  show V m c main_arg5 _ = _
  rw [V_main_arg5]
  refine congrArg (m ((c : Thread nD τ).loc main_arg5)) (funext fun a => Fin.ext ?_)
  match a with
  | ⟨0, _⟩ => show win0_8.index t 0 * 3072 + 1 * (0 + 1 * r.val) = r.val; rw [e0]; omega
  | ⟨1, _⟩ => show win0_8.index t 1 * 768 + 1 * (0 + 1 * d.val) = d.val; rw [e1]; omega

theorem block9 (t : Fin cfg0.N) (d : Fin 768) :
    View.ld (iblk m c 9 t) r0_7 (ix2 (0 : Fin 1) d) = m ((c : Thread nD τ).loc main_arg6) (ix1 d) := by
  obtain ⟨e0, e1⟩ := index9 t
  refine Eq.trans ?_ (V_bias2 m c d)
  show iblk m c 9 t (r0_7.idx (ix2 (0 : Fin 1) d)) = _
  unfold iblk
  rw [View.read_apply]
  show V m c main_v2 _ = _
  refine congrArg (V m c main_v2) (funext fun a => Fin.ext ?_)
  match a with
  | ⟨0, _⟩ => show win0_9.index t 0 * 1 + 1 * (0 + 1 * 0) = 0; rw [e0]
  | ⟨1, _⟩ => show win0_9.index t 1 * 768 + 1 * (0 + 1 * d.val) = d.val; rw [e1]; omega

/-- The first three arguments, as arrays of extended reals. -/
abbrev seas : Arr := m ((c : Thread nD τ).loc main_arg0)
abbrev corr : Arr := m ((c : Thread nD τ).loc main_arg1)
abbrev trend : Arr := m ((c : Thread nD τ).loc main_arg2)

/-- The sum of the first two arguments. -/
def inp : Arr := fun j => seas m c j + corr m c j

/-- The blocks the tile is built from hold the rows it wants. -/
theorem rows (t : Fin cfg0.N) : Rows (View.ld (X0_0 m c t) r0_0) (View.ld (X0_1 m c t) r0_1) (View.ld (iblk m c 3 t) r0_2) (View.ld (iblk m c 2 t) r0_0) (View.ld (iblk m c 4 t) r0_3) (tile t)
    (fun n d => seas m c (ix3 (batch t) n d)) (fun n d => corr m c (ix3 (batch t) n d)) where
  low r d h := block0 m c t r d h
  high r d h := block1 m c t r d h
  before r d h := block3 m c t r d h
  at' r d := block2 m c t r d
  after r d h := block4 m c t r d h

/-! ## What a grid point writes back -/

theorem zero3 : (![0, 0, 0] : Fin 3 → Nat) = fun _ => 0 := funext fun a => by fin_cases a <;> rfl

/-- The first result, as one function of the arguments. -/
def G10 : Arr := fun j => season (inp m c) (m ((c : Thread nD τ).loc main_arg3)) (m ((c : Thread nD τ).loc main_arg4)) (m ((c : Thread nD τ).loc main_arg5)) (m ((c : Thread nD τ).loc main_arg6)) (j 0) (j 1) (j 2)
/-- The second result. -/
def G11 : Arr := fun j => trend m c j + mean (inp m c) (j 0) (j 1) (j 2)

/-- The body's first stored block, from any input blocks that hold the rows it wants. -/
theorem out10_eq (i : grid0.Coords) (x0 : Vec Ideal S1x256x768 .f32) (x1 : Vec Ideal S1x32x768 .f32) (x2 : Vec Ideal S1x256x768 .f32) (x3 : Vec Ideal S1x32x768 .f32) (x4 : Vec Ideal S1x32x768 .f32) (x5 : Vec Ideal S1x256x768 .f32) (x6 : Vec Ideal S768x3072 .f32) (x7 : Vec Ideal S1x3072 .f32) (x8 : Vec Ideal S3072x768 .f32) (x9 : Vec Ideal S1x768 .f32)
    {n : ℕ} {s a : Fin 8192 → Fin 768 → EReal} {x : Arr} {b : Fin 4} (hi : (i 1).val = n) (hn : n < 32)
    (H : Rows (View.ld x0 r0_0) (View.ld x1 r0_1) (View.ld x3 r0_2) (View.ld x2 r0_0) (View.ld x4 r0_3) n s a) (hx : ∀ t d, s t d + a t d = x (ix3 b t d)) (r : Fin 256) (d : Fin 768) :
    out0_10 (F := Ideal) i x0 x1 x2 x3 x4 x5 x6 x7 x8 x9 (ix3 0 r d)
      = rest x b (time n hn r) d + ((∑ f : Fin 3072, gelu ((∑ k : Fin 768, rest x b (time n hn r) k * View.ld x6 r0_4 (ix2 k f)) + View.ld x7 r0_5 (ix2 0 f)) * View.ld x8 r0_6 (ix2 f d)) + View.ld x9 r0_7 (ix2 0 d)) := by
  unfold out0_10
  rw [View.canon_unit_zero zero3]
  unfold k0_pay9 k0_pay10
  rw [pay1_apply, pay6_apply hi hn H hx]
  refine congrArg (fun e => _ + (e + _)) (Finset.sum_congr rfl fun f _ => ?_)
  rw [pay7_apply hi hn H hx, pay8_apply]

/-- The second. -/
theorem out11_eq (i : grid0.Coords) (x0 : Vec Ideal S1x256x768 .f32) (x1 : Vec Ideal S1x32x768 .f32) (x2 : Vec Ideal S1x256x768 .f32) (x3 : Vec Ideal S1x32x768 .f32) (x4 : Vec Ideal S1x32x768 .f32) (x5 : Vec Ideal S1x256x768 .f32) (x6 : Vec Ideal S768x3072 .f32) (x7 : Vec Ideal S1x3072 .f32) (x8 : Vec Ideal S3072x768 .f32) (x9 : Vec Ideal S1x768 .f32)
    {n : ℕ} {s a : Fin 8192 → Fin 768 → EReal} {x : Arr} {b : Fin 4} (hi : (i 1).val = n) (hn : n < 32)
    (H : Rows (View.ld x0 r0_0) (View.ld x1 r0_1) (View.ld x3 r0_2) (View.ld x2 r0_0) (View.ld x4 r0_3) n s a) (hx : ∀ t d, s t d + a t d = x (ix3 b t d)) (r : Fin 256) (d : Fin 768) :
    out0_11 (F := Ideal) i x0 x1 x2 x3 x4 x5 x6 x7 x8 x9 (ix3 0 r d) = View.ld x5 r0_0 (ix3 0 r d) + mean x b (time n hn r) d := by
  unfold out0_11
  rw [View.canon_unit_zero zero3]
  unfold k0_pay9 k0_pay10
  rw [pay2_apply, pay5_apply hi hn H hx]

theorem out10_apply (t : Fin cfg0.N) (r : Fin 256) (d : Fin 768) :
    out0_10 (grid0.coords t) (X0_0 m c t) (X0_1 m c t) (iblk m c 2 t) (iblk m c 3 t) (iblk m c 4 t) (iblk m c 5 t) (iblk m c 6 t) (iblk m c 7 t) (iblk m c 8 t) (iblk m c 9 t) (ix3 0 r d)
      = G10 m c (ix3 (batch t) (time (tile t) (tile_lt t) r) d) := by
  refine (out10_eq (grid0.coords t) _ _ _ _ _ _ _ _ _ _ (coords_tile t) (tile_lt t) (rows m c t) (x := inp m c) (b := batch t) (fun _ _ => rfl) r d).trans ?_
  show _ = season _ _ _ _ _ (batch t) (time (tile t) (tile_lt t) r) d
  unfold season Cert.MovingAverage.hidden
  exact congrArg₂ (· + ·) rfl (congrArg₂ (· + ·) (Finset.sum_congr rfl fun f _ => congrArg₂ (· * ·)
    (congrArg gelu (congrArg₂ (· + ·) (Finset.sum_congr rfl fun k _ => congrArg₂ (· * ·) rfl (block6 m c t k f)) (block7 m c t f))) (block8 m c t f d)) (block9 m c t d))

theorem out11_apply (t : Fin cfg0.N) (r : Fin 256) (d : Fin 768) :
    out0_11 (grid0.coords t) (X0_0 m c t) (X0_1 m c t) (iblk m c 2 t) (iblk m c 3 t) (iblk m c 4 t) (iblk m c 5 t) (iblk m c 6 t) (iblk m c 7 t) (iblk m c 8 t) (iblk m c 9 t) (ix3 0 r d)
      = G11 m c (ix3 (batch t) (time (tile t) (tile_lt t) r) d) :=
  (out11_eq (grid0.coords t) _ _ _ _ _ _ _ _ _ _ (coords_tile t) (tile_lt t) (rows m c t) (x := inp m c) (b := batch t) (fun _ _ => rfl) r d).trans
    (congrArg₂ (· + ·) (block5 m c t r d) rfl)

/-! ## The two arrays after the run -/

theorem flushed10 (t : Fin cfg0.N) (hf : (cfg0.win 10).flush t = true) :
    (dats m 0 c).flushed 10 t = ((cfg0.win 10).blk t).view.read (Elt Ideal) (G10 m c) := by
  show (cfg0.win 10).cut (grid0.coords t) ((dats m 0 c).after 10 t) = _
  rw [after0_10]
  funext j
  obtain ⟨z, r, d, rfl⟩ : ∃ (z : Fin 1) (r : Fin 256) (d : Fin 768), j = ix3 z r d := ⟨_, _, _, eq_ix3 (j : (⟨3, ![1, 256, 768]⟩ : Shape).Idx)⟩
  obtain rfl : z = 0 := Subsingleton.elim _ _
  rw [View.read_apply]
  refine (out10_apply m c t r d).trans ?_
  obtain ⟨e0, e1, e2⟩ := index10 t
  show G10 m c _ = G10 m c _
  refine congrArg (G10 m c) (funext fun a => Fin.ext ?_)
  match a with
  | ⟨0, _⟩ => show t.val / 32 = win0_10.index t 0 * 1 + 1 * 0; rw [e0]; omega
  | ⟨1, _⟩ => show 256 * tile t + r.val = win0_10.index t 1 * 256 + 1 * r.val; rw [e1]; omega
  | ⟨2, _⟩ => show d.val = win0_10.index t 2 * 768 + 1 * d.val; rw [e2]; omega

theorem flushes10 : ∀ t : Fin cfg0.N, (cfg0.win 10).flush t = true := by decide +kernel

theorem final10 : (dats m 0 c).arrAt 10 cfg0.N = G10 m c :=
  (dats m 0 c).arrAt_eq_of_cover 10 (G10 m c) (flushed10 m c) fun i => by
    have h0 : (i 0).val < 4 := (i 0).isLt
    have h1 : (i 1).val < 8192 := (i 1).isLt
    have h2 : (i 2).val < 768 := (i 2).isLt
    refine ⟨⟨(i 0).val * 32 + (i 1).val / 256, by show _ < 128; omega⟩, flushes10 _, ?_⟩
    generalize ht : (⟨(i 0).val * 32 + (i 1).val / 256, _⟩ : Fin cfg0.N) = t
    have hv : t.val = (i 0).val * 32 + (i 1).val / 256 := by rw [← ht]
    obtain ⟨e0, e1, e2⟩ := index10 t
    have hk : tile t = (i 1).val / 256 := by unfold tile; omega
    show i ∈ ((View.whole main_v3_0).slice (win0_10.rect t)).set
    rw [View.set_slice_whole, Rect.mem_set_unit]
    intro a
    match a with
    | ⟨0, _⟩ => show win0_10.index t 0 * 1 ≤ (i 0).val ∧ (i 0).val < win0_10.index t 0 * 1 + 1; rw [e0]; omega
    | ⟨1, _⟩ => show win0_10.index t 1 * 256 ≤ (i 1).val ∧ (i 1).val < win0_10.index t 1 * 256 + 256; rw [e1]; omega
    | ⟨2, _⟩ => show win0_10.index t 2 * 768 ≤ (i 2).val ∧ (i 2).val < win0_10.index t 2 * 768 + 768; rw [e2]; omega

theorem flushed11 (t : Fin cfg0.N) (hf : (cfg0.win 11).flush t = true) :
    (dats m 0 c).flushed 11 t = ((cfg0.win 11).blk t).view.read (Elt Ideal) (G11 m c) := by
  show (cfg0.win 11).cut (grid0.coords t) ((dats m 0 c).after 11 t) = _
  rw [after0_11]
  funext j
  obtain ⟨z, r, d, rfl⟩ : ∃ (z : Fin 1) (r : Fin 256) (d : Fin 768), j = ix3 z r d := ⟨_, _, _, eq_ix3 (j : (⟨3, ![1, 256, 768]⟩ : Shape).Idx)⟩
  obtain rfl : z = 0 := Subsingleton.elim _ _
  rw [View.read_apply]
  refine (out11_apply m c t r d).trans ?_
  obtain ⟨e0, e1, e2⟩ := index11 t
  show G11 m c _ = G11 m c _
  refine congrArg (G11 m c) (funext fun a => Fin.ext ?_)
  match a with
  | ⟨0, _⟩ => show t.val / 32 = win0_11.index t 0 * 1 + 1 * 0; rw [e0]; omega
  | ⟨1, _⟩ => show 256 * tile t + r.val = win0_11.index t 1 * 256 + 1 * r.val; rw [e1]; omega
  | ⟨2, _⟩ => show d.val = win0_11.index t 2 * 768 + 1 * d.val; rw [e2]; omega

theorem flushes11 : ∀ t : Fin cfg0.N, (cfg0.win 11).flush t = true := by decide +kernel

theorem final11 : (dats m 0 c).arrAt 11 cfg0.N = G11 m c :=
  (dats m 0 c).arrAt_eq_of_cover 11 (G11 m c) (flushed11 m c) fun i => by
    have h0 : (i 0).val < 4 := (i 0).isLt
    have h1 : (i 1).val < 8192 := (i 1).isLt
    have h2 : (i 2).val < 768 := (i 2).isLt
    refine ⟨⟨(i 0).val * 32 + (i 1).val / 256, by show _ < 128; omega⟩, flushes11 _, ?_⟩
    generalize ht : (⟨(i 0).val * 32 + (i 1).val / 256, _⟩ : Fin cfg0.N) = t
    have hv : t.val = (i 0).val * 32 + (i 1).val / 256 := by rw [← ht]
    obtain ⟨e0, e1, e2⟩ := index11 t
    have hk : tile t = (i 1).val / 256 := by unfold tile; omega
    show i ∈ ((View.whole main_v3_1).slice (win0_11.rect t)).set
    rw [View.set_slice_whole, Rect.mem_set_unit]
    intro a
    match a with
    | ⟨0, _⟩ => show win0_11.index t 0 * 1 ≤ (i 0).val ∧ (i 0).val < win0_11.index t 0 * 1 + 1; rw [e0]; omega
    | ⟨1, _⟩ => show win0_11.index t 1 * 256 ≤ (i 1).val ∧ (i 1).val < win0_11.index t 1 * 256 + 256; rw [e1]; omega
    | ⟨2, _⟩ => show win0_11.index t 2 * 768 ≤ (i 2).val ∧ (i 2).val < win0_11.index t 2 * 768 + 768; rw [e2]; omega

/-- Every execution ends with the two result arrays at `G10` and `G11`, the arguments unchanged. -/
theorem run : θ_run defs (onTc (τ := τ) (main (F := Ideal))) ⟨m, fun _ => 0, ρ⟩ fun r => ∀ c : Dev nD,
      r.2.mem ((c : Thread nD τ).loc main_v3_0) = G10 m c
      ∧ r.2.mem ((c : Thread nD τ).loc main_v3_1) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).1 10).trans (final10 m c), ((h c).1 11).trans (final11 m c),
    ((h c).2 main_arg0 (Pipeline.mem_restRefs_of main_arg0 (by decide) (by decide))).trans (V_main_arg0 m c),
    ((h c).1 4).trans (((dats m 0 c).arrAt_in 4 rfl _).trans ((A_eq m c 4).trans (V_main_arg1 m c))),
    ((h c).1 5).trans (((dats m 0 c).arrAt_in 5 rfl _).trans ((A_eq m c 5).trans (V_main_arg2 m c))),
    ((h c).1 6).trans (((dats m 0 c).arrAt_in 6 rfl _).trans ((A_eq m c 6).trans (V_main_arg3 m c))),
    ((h c).2 main_arg4 (Pipeline.mem_restRefs_of main_arg4 (by decide) (by decide))).trans (V_main_arg4 m c),
    ((h c).1 8).trans (((dats m 0 c).arrAt_in 8 rfl _).trans ((A_eq m c 8).trans (V_main_arg5 m c))),
    ((h c).2 main_arg6 (Pipeline.mem_restRefs_of main_arg6 (by decide) (by decide))).trans (V_main_arg6 m c)⟩) (run_main m ρ)

end Cert.KernelIdeal.Blocks

end
-- ==== Proof.FfnReference.lean ====
/-
  The reference, read at an index: its two results are the mathematics of the feed-forward block.
-/
module

public import proofs.«01_k».proof.Proof.Gen.ReferenceIdeal.Read
public import proofs.«01_k».proof.Proof.FfnBody

@[expose] public section

set_option maxRecDepth 16384

noncomputable section

namespace Cert.ReferenceIdeal.Reading

open Cert.ReferenceIdeal Cert.ReferenceIdeal.Gen Cert.ReferenceIdeal.Read Cert.MovingAverage
open Idealize.ShloMosaic Idealize.ShloMosaic.TcCoe Idealize.ShloMosaic.ValueIdx

variable (x0 x1 x2 : Arr) (w1 : (⟨2, ![768, 3072]⟩ : Shape).Idx → EReal) (b1 : (⟨1, ![3072]⟩ : Shape).Idx → EReal)
  (w2 : (⟨2, ![3072, 768]⟩ : Shape).Idx → EReal) (b2 : (⟨1, ![768]⟩ : Shape).Idx → EReal)

/-- The input of the block: the sum of the first two arguments. -/
def inp : Arr := fun j => x0 j + x1 j

theorem v0_apply (b : Fin 4) (t : Fin 8192) (d : Fin 768) : val_main_v0 (F := Ideal) x0 x1 (ix3 b t d) = inp x0 x1 (ix3 b t d) := rfl

theorem first_rows (b : Fin 4) (r : Fin 12) (d : Fin 768) : val_main_v2 (F := Ideal) x0 x1 (ix3 b r d) = inp x0 x1 (ix3 b 0 d) := by
  rw [val_main_v2_apply, val_main_v1_apply]
  exact congrArg (inp x0 x1) (funext fun a => by match a with | ⟨0, _⟩ => rfl | ⟨1, _⟩ => rfl | ⟨2, _⟩ => rfl)

theorem last_rows (b : Fin 4) (r : Fin 12) (d : Fin 768) : val_main_v4 (F := Ideal) x0 x1 (ix3 b r d) = inp x0 x1 (ix3 b 8191 d) := by
  rw [val_main_v4_apply, val_main_v3_apply]
  exact congrArg (inp x0 x1) (funext fun a => by match a with | ⟨0, _⟩ => rfl | ⟨1, _⟩ => rfl | ⟨2, _⟩ => rfl)

theorem v7_apply (b : Fin 4) (t : Fin 8192) (d : Fin 768) :
    val_main_v7 (F := Ideal) x0 x1 (ix3 b t d) = ∑ k ∈ Finset.range 25, inp x0 x1 (ix3 b (crow (t.val + k)) d) := by
  unfold val_main_v7
  refine (reduceWindowAdd_apply _ _ (fun i => ?_) _ _ b t d).trans (Finset.sum_congr rfl fun k hk => ?_)
  · rw [val_main_v6_apply, val_main_cst_apply]
    exact Ideal.ofBits_zero_f32
  · have hk' : k < 25 := Finset.mem_range.1 hk
    have ht := t.isLt
    exact concat_apply _ _ (inp x0 x1) _ (first_rows x0 x1) (last_rows x0 x1) b (t.val + k) (by omega) d

theorem v9_apply (b : Fin 4) (t : Fin 8192) (d : Fin 768) : val_main_v9 (F := Ideal) x0 x1 (ix3 b t d) = mean (inp x0 x1) b t d := by
  rw [val_main_v9_apply]
  refine Eq.trans (congrArg₂ Ideal.div (v7_apply x0 x1 b t d) (show _ = Ideal.ofBits .f32 0x41C80000#32 from ?_)) (div_25 _)
  rw [val_main_v8_apply, val_main_cst_0_apply]
  rfl

theorem v10_apply (b : Fin 4) (t : Fin 8192) (d : Fin 768) : val_main_v10 (F := Ideal) x0 x1 (ix3 b t d) = rest (inp x0 x1) b t d := by
  rw [val_main_v10_apply, v9_apply, v0_apply]
  rfl

theorem v14_apply (b : Fin 4) (t : Fin 8192) (f : Fin 3072) : val_main_v14 (F := Ideal) x0 x1 w1 b1 (ix3 b t f) = Cert.MovingAverage.hidden (inp x0 x1) w1 b1 b t f := by
  rw [val_main_v14_apply, val_main_v11_apply, val_main_v13_apply, val_main_v12_apply]
  refine congrArg₂ (· + ·) (Finset.sum_congr rfl fun k _ => congrArg₂ (· * ·) ?_ ?_) ?_
  · refine Eq.trans ?_ (v10_apply x0 x1 b t k)
    exact congrArg (val_main_v10 (F := Ideal) x0 x1) (funext fun a => by match a with | ⟨0, _⟩ => rfl | ⟨1, _⟩ => rfl | ⟨2, _⟩ => rfl)
  · exact congrArg w1 (funext fun a => by match a with | ⟨0, _⟩ => rfl | ⟨1, _⟩ => rfl)
  · exact congrArg b1 (funext fun a => by match a with | ⟨0, _⟩ => rfl)

theorem ofBits_two : Ideal.ofBits .f32 0x40000000#32 = ((2 : ℝ) : EReal) := by
  simp [Ideal.ofBits, Ideal.ieee, -EReal.coe_mul]; norm_num

theorem sqrt_two : Ideal.sqrt (Ideal.ofBits .f32 0x40000000#32) = ((Real.sqrt 2 : ℝ) : EReal) := by
  rw [ofBits_two]
  show (if (2 : ℝ) < 0 then ⊥ else ((Real.sqrt 2 : ℝ) : EReal)) = _
  rw [if_neg (by norm_num)]

theorem div_sqrt_two (h : EReal) : Ideal.div h (Ideal.sqrt (Ideal.ofBits .f32 0x40000000#32)) = h * (((Real.sqrt 2)⁻¹ : ℝ) : EReal) := by
  rw [sqrt_two, Ideal.div_coe (by positivity), one_div]

theorem v23_apply (b : Fin 4) (t : Fin 8192) (f : Fin 3072) : val_main_v23 (F := Ideal) x0 x1 w1 b1 (ix3 b t f) = gelu (Cert.MovingAverage.hidden (inp x0 x1) w1 b1 b t f) := by
  rw [val_main_v23_apply, val_main_v16_apply, val_main_v15_apply, val_main_cst_1_apply, val_main_v22_apply, val_main_v21_apply, val_main_v20_apply, val_main_v19_apply,
    val_main_v18_apply, val_main_v17_apply, val_main_cst_2_apply, v14_apply]
  generalize Cert.MovingAverage.hidden (inp x0 x1) w1 b1 b t f = h
  show half * h * (one + Ideal.erf (Ideal.div h (Ideal.sqrt (Ideal.ofBits .f32 0x40000000#32)))) = gelu h
  rw [div_sqrt_two, mul_comm half h]
  rfl

/-- The first result. -/
theorem season_apply (b : Fin 4) (t : Fin 8192) (d : Fin 768) :
    val_main_v28 (F := Ideal) x0 x1 w1 b1 w2 b2 (ix3 b t d) = season (inp x0 x1) w1 b1 w2 b2 b t d := by
  rw [val_main_v28_apply, val_main_v27_apply, val_main_v24_apply, val_main_v26_apply, val_main_v25_apply, v10_apply]
  refine congrArg₂ (· + ·) rfl (congrArg₂ (· + ·) (Finset.sum_congr rfl fun f _ => congrArg₂ (· * ·) ?_ ?_) ?_)
  · refine Eq.trans ?_ (v23_apply x0 x1 w1 b1 b t f)
    exact congrArg (val_main_v23 (F := Ideal) x0 x1 w1 b1) (funext fun a => by match a with | ⟨0, _⟩ => rfl | ⟨1, _⟩ => rfl | ⟨2, _⟩ => rfl)
  · exact congrArg w2 (funext fun a => by match a with | ⟨0, _⟩ => rfl | ⟨1, _⟩ => rfl)
  · exact congrArg b2 (funext fun a => by match a with | ⟨0, _⟩ => rfl)

/-- The second result. -/
theorem trend_apply (b : Fin 4) (t : Fin 8192) (d : Fin 768) :
    val_main_v29 (F := Ideal) x0 x1 x2 (ix3 b t d) = x2 (ix3 b t d) + mean (inp x0 x1) b t d := by
  rw [val_main_v29_apply, v9_apply]
  rfl

end Cert.ReferenceIdeal.Reading

end
-- ==== Proof.FfnClaims.lean ====
/-
  The feed-forward call's claims: its two frames, the reference's frame, the two named constants, and the equality
  of the kernel's results with the reference's at the ideal values.
-/
module

public import proofs.«01_k».proof.Defs
public import proofs.«01_k».proof.Proof.FfnRun
public import proofs.«01_k».proof.Proof.FfnBlocks
public import proofs.«01_k».proof.Proof.FfnReference
public import Idealize.ShloMosaic.Adequacy
public import Idealize.ShloMosaic.Init

@[expose] public section

noncomputable section

namespace Cert.Proof.Ffn

open Idealize.ShloMosaic Idealize.SL.Sem

theorem frameKernel : Cert.quiescent_Kernel := fun m ρ _ => Cert.Kernel.Run.frame m ρ

theorem frameIdeal : Cert.quiescent_KernelIdeal := fun m ρ _ => Cert.KernelIdeal.Run.frame m ρ

/-- The reference writes none of its arguments, and declares no semaphore. -/
theorem frameReference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The two literals of the kernel that stand for 1/25 and for the inverse of √2. -/
theorem constants : Cert.preserves_Kernel_KernelIdeal :=
  ⟨IdealRules.named_const.statement Cert.KernelIdeal.κ "inv_25" .f32 0x3D23D70A#32 ((1 / 25 : ℝ) : EReal) rfl,
    IdealRules.named_const.statement Cert.KernelIdeal.κ "inv_sqrt2" .f32 0x3F3504F3#32
      (((Real.sqrt 2)⁻¹ : ℝ) : EReal) rfl⟩

/-- Both programs end with the same two arrays: `Blocks.G10`, the seasonal part, and `Blocks.G11`, the trend. -/
theorem equal : Cert.algebraic_KernelIdeal_ReferenceIdeal := by
  intro m g m' g' _ ha
  refine ⟨Cert.KernelIdeal.Blocks.G10 m, Cert.KernelIdeal.Blocks.G11 m, Cert.KernelIdeal.Blocks.run m g, ?_⟩
  refine (θ_run Cert.ReferenceIdeal.defs _ _).mono (fun r h c => ⟨(h c).1.trans ?_, (h c).2.1.trans ?_, (h c).2.2⟩)
    (Cert.ReferenceIdeal.Value.run (F := Ideal) m' g')
  · obtain ⟨h0, h1, h2, h3, h4, h5, h6⟩ := ha c
    refine (Cert.ReferenceIdeal.Read.val_main_v28_eq m' c).trans ?_
    rw [h0, h1, h3, h4, h5, h6]
    funext j
    rw [ValueIdx.eq_ix3 j]
    exact Cert.ReferenceIdeal.Reading.season_apply _ _ _ _ _ _ _ _ _
  · obtain ⟨h0, h1, h2, h3, h4, h5, h6⟩ := ha c
    refine (Cert.ReferenceIdeal.Read.val_main_v29_eq _ _ _).trans ?_
    rw [h0, h1, h2]
    funext j
    rw [ValueIdx.eq_ix3 j]
    exact Cert.ReferenceIdeal.Reading.trend_apply _ _ _ _ _ _

end Cert.Proof.Ffn

end
-- ==== Proof.DecompIdealRun.lean ====
/-
  The first call, run: at any float values, from any memory with zero counters, every weakly fair execution of
  `Kernel2Ideal` ends with every array the pipeline stages at what its blocks' write-backs leave, every argument unchanged and
  every semaphore counter at zero.

  The host lines in front of the call repeat the first and the last row of the input, twelve times each. The two windows
  on that padded array are clipped windows, and the second one's last block of each batch row overhangs the array.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel2Ideal.Run

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The host operations before the region write none of the arguments. -/
theorem V_of (c : Dev nD) (b : Ref sig .tc)
    (hb : (List.flatten [hostOps0 (F := F), hostOps0_1, hostOps0_2]).Forall fun op => Proc.devRef .tc b ∉ op.writes) :
    V m c b = m ((c : Thread nD τ).loc b) :=
  StableHlo.after_of_forall_not_mem (b := Proc.devRef .tc b) _ _ (List.forall_iff_forall_mem.mp hb)

theorem V_main_arg0 (c : Dev nD) : V m c main_arg0 = m ((c : Thread nD τ).loc main_arg0) := V_of m c _ (by
  simp only [hostOps0, hostOps0_1, hostOps0_2, List.flatten_cons, List.flatten_nil, List.append_nil, List.cons_append,
    List.nil_append, List.Forall, StableHlo.nullary_writes, StableHlo.unary_writes, StableHlo.nary_writes,
    StableHlo.reshape_writes, Finset.mem_singleton]
  repeat' apply And.intro
  all_goals exact StableHlo.devRef_ne_of_ne (by decide))
theorem V_main_arg1 (c : Dev nD) : V m c main_arg1 = m ((c : Thread nD τ).loc main_arg1) := V_of m c _ (by
  simp only [hostOps0, hostOps0_1, hostOps0_2, List.flatten_cons, List.flatten_nil, List.append_nil, List.cons_append,
    List.nil_append, List.Forall, StableHlo.nullary_writes, StableHlo.unary_writes, StableHlo.nary_writes,
    StableHlo.reshape_writes, Finset.mem_singleton]
  repeat' apply And.intro
  all_goals exact StableHlo.devRef_ne_of_ne (by decide))
theorem V_main_arg2 (c : Dev nD) : V m c main_arg2 = m ((c : Thread nD τ).loc main_arg2) := V_of m c _ (by
  simp only [hostOps0, hostOps0_1, hostOps0_2, List.flatten_cons, List.flatten_nil, List.append_nil, List.cons_append,
    List.nil_append, List.Forall, StableHlo.nullary_writes, StableHlo.unary_writes, StableHlo.nary_writes,
    StableHlo.reshape_writes, Finset.mem_singleton]
  repeat' apply And.intro
  all_goals exact StableHlo.devRef_ne_of_ne (by decide))
theorem V_main_arg3 (c : Dev nD) : V m c main_arg3 = m ((c : Thread nD τ).loc main_arg3) := V_of m c _ (by
  simp only [hostOps0, hostOps0_1, hostOps0_2, List.flatten_cons, List.flatten_nil, List.append_nil, List.cons_append,
    List.nil_append, List.Forall, StableHlo.nullary_writes, StableHlo.unary_writes, StableHlo.nary_writes,
    StableHlo.reshape_writes, Finset.mem_singleton]
  repeat' apply And.intro
  all_goals exact StableHlo.devRef_ne_of_ne (by decide))
theorem V_main_arg4 (c : Dev nD) : V m c main_arg4 = m ((c : Thread nD τ).loc main_arg4) := V_of m c _ (by
  simp only [hostOps0, hostOps0_1, hostOps0_2, List.flatten_cons, List.flatten_nil, List.append_nil, List.cons_append,
    List.nil_append, List.Forall, StableHlo.nullary_writes, StableHlo.unary_writes, StableHlo.nary_writes,
    StableHlo.reshape_writes, Finset.mem_singleton]
  repeat' apply And.intro
  all_goals exact StableHlo.devRef_ne_of_ne (by decide))
theorem V_main_arg5 (c : Dev nD) : V m c main_arg5 = m ((c : Thread nD τ).loc main_arg5) := V_of m c _ (by
  simp only [hostOps0, hostOps0_1, hostOps0_2, List.flatten_cons, List.flatten_nil, List.append_nil, List.cons_append,
    List.nil_append, List.Forall, StableHlo.nullary_writes, StableHlo.unary_writes, StableHlo.nary_writes,
    StableHlo.reshape_writes, Finset.mem_singleton]
  repeat' apply And.intro
  all_goals exact StableHlo.devRef_ne_of_ne (by decide))
theorem V_main_arg6 (c : Dev nD) : V m c main_arg6 = m ((c : Thread nD τ).loc main_arg6) := V_of m c _ (by
  simp only [hostOps0, hostOps0_1, hostOps0_2, List.flatten_cons, List.flatten_nil, List.append_nil, List.cons_append,
    List.nil_append, List.Forall, StableHlo.nullary_writes, StableHlo.unary_writes, StableHlo.nary_writes,
    StableHlo.reshape_writes, Finset.mem_singleton]
  repeat' apply And.intro
  all_goals exact StableHlo.devRef_ne_of_ne (by decide))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A filler for window 0's buffer; no result depends on it. -/
def dflt0_0 : (cfg0.win 0).block.Idx → Elt F (cfg0.win 0).elt := fun _ => Classical.choice inferInstance
/-- What window 0's buffer holds when the body runs at `t`: its block, filled out with `dflt0_0`. -/
def X0_0 (c : Dev nD) (t : Fin cfg0.N) : (cfg0.win 0).block.Idx → Elt F (cfg0.win 0).elt :=
  (cfg0.win 0).fill (cfg0.grid.coords t) dflt0_0 (iblk m c 0 t)
/-- No block of window 0 is cut: the blocks the grid reaches all lie inside the padded array. -/
theorem xsize0_0 : ∀ t : Fin cfg0.N, ∀ a, (cfg0.win 0).xsize (cfg0.grid.coords t) a = (cfg0.win 0).size a := by decide +kernel
/-- So every index of the block is one a fetch writes, -/
theorem moved0_0 (t : Fin cfg0.N) (j : (cfg0.win 0).block.Idx) : (cfg0.win 0).moved (cfg0.grid.coords t) j = true :=
  ((cfg0.win 0).moved_iff _ j).mpr fun a => by rw [xsize0_0 t a]; exact (j a).isLt
/-- and a fetch leaves nothing of what the buffer held. -/
theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0_0 t j), dif_pos (moved0_0 t j)]
/-- Window 0's buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = X0_0 m c t) (t : Fin cfg0.N) (d) : dat.before 0 t d = X0_0 m c t :=
  (dat.before_in_eq_fetched 0 rfl (fun _ => rfl)
      (fun t t' h => funext fun a => congrArg (fun n => Pipeline.Clip.of n ((cfg0.win 0).size a) (S4x8216x768.size a)) (congrFun h a))
      (fun t => by rw [hafter]; unfold X0_0; rw [Pipeline.Window.cut_fill]; unfold Dat.blockOf iblk; rw [hA]; try rfl) t d).trans
    (by unfold Dat.fetched X0_0; rw [fill0_0 t d dflt0_0]; unfold Dat.blockOf iblk; rw [hA]; try rfl)
/-- Window 2's buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4's buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5's buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6's buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7's buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run of the pipeline, for any proof data on the arrays as the region finds them: the arguments end unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).1 4).trans (((dats 0 c).arrAt_in 4 rfl _).trans ((hA c 4).trans (V_main_arg3 m c))),
      ((h c).2 main_arg4 (Pipeline.mem_restRefs_of main_arg4 (by decide) (by decide))).trans (V_main_arg4 m c),
      ((h c).1 6).trans (((dats 0 c).arrAt_in 6 rfl _).trans ((hA c 6).trans (V_main_arg5 m c))),
      ((h c).2 main_arg6 (Pipeline.mem_restRefs_of main_arg6 (by decide) (by decide))).trans (V_main_arg6 m c)⟩) h

/-! ## The body's accesses -/

abbrev r0_0 : Rect S1x512x768 := Rect.unit (s := S1x512x768) ![0, 0, 0] S1x512x768.size inb_S1x512x768_S1x512x768_0_0_0
abbrev r0_1 : Rect S1x32x768 := Rect.unit (s := S1x32x768) ![0, 0, 0] S1x24x768.size inb_S1x32x768_S1x24x768_0_0_0
abbrev r0_2 : Rect S768x768 := Rect.unit (s := S768x768) ![0, 0] S768x768.size inb_S768x768_S768x768_0_0
abbrev r0_3 : Rect S1x768 := Rect.unit (s := S1x768) ![0, 0] S1x768.size inb_S1x768_S1x768_0_0

/-! ## What the body leaves in each output window's buffer -/

/-! ### Values of the body that the stores' payloads, spelt out, would write more than once

    Each is a vector the body binds (often a part call's result), stated over the input windows' blocks and
    numbered on from the skeleton's payload functions (`k0_pay10` …, after `k0_pay9`), so that
    `out0_W` and the values after it name it instead of spelling it out (`unfold_out out0_W` opens a canon
    with them, `unfold_payloads` opens them with the payloads); the comment after each is the printed function's
    name for the value (a count appended where that name is bound again). -/

def k0_pay10 (x0 : Vec F S1x512x768 .f32) (x1 : Vec F S1x32x768 .f32) (x2 : Vec F S768x768 .f32) (x3 : Vec F S1x768 .f32) (x4 : Vec F S768x768 .f32) (x5 : Vec F S1x768 .f32) (x6 : Vec F S768x768 .f32) (x7 : Vec F S1x768 .f32) : FVec F S536x768 .f32 :=
  k0_pay2 (View.ld x0 r0_0) (View.ld x1 r0_1) -- `v4`
def k0_pay11 (x0 : Vec F S1x512x768 .f32) (x1 : Vec F S1x32x768 .f32) (x2 : Vec F S768x768 .f32) (x3 : Vec F S1x768 .f32) (x4 : Vec F S768x768 .f32) (x5 : Vec F S1x768 .f32) (x6 : Vec F S768x768 .f32) (x7 : Vec F S1x768 .f32) : FVec F S512x768 .f32 :=
  k0_pay3 (View.ld x0 r0_0) (View.ld x1 r0_1) -- `v51`

/-- Window 8's staging buffer after the body, from the input windows' blocks: its 1 store as pieces, LAST
    FIRST (Lib/Pipeline/FrameBody.lean `View.canon`; the payloads are the skeleton's and the values stated above). -/
def out0_8 (x0 : Vec F S1x512x768 .f32) (x1 : Vec F S1x32x768 .f32) (x2 : Vec F S768x768 .f32) (x3 : Vec F S1x768 .f32) (x4 : Vec F S768x768 .f32) (x5 : Vec F S1x768 .f32) (x6 : Vec F S768x768 .f32) (x7 : Vec F S1x768 .f32) : Vec F S1x512x768 .f32 :=
  View.canon [⟨r0_0, k0_pay6 (k0_pay10 x0 x1 x2 x3 x4 x5 x6 x7) (k0_pay11 x0 x1 x2 x3 x4 x5 x6 x7)⟩]

/-- Its stores tile the buffer (checked by evaluation), so they cover it. -/
theorem cover0_8 (p0 : Vec F S1x512x768 .f32) (y : S1x512x768.Idx) :
    ∃ pc ∈ ([⟨r0_0, p0⟩] : List (View.Piece (Elt F) S1x512x768 .f32)), y ∈ pc.1.set :=
  View.cover_of_tiled [⟨r0_0, p0⟩] S1x512x768.size (by rfl) y

/-- Window 9's staging buffer after the body, from the input windows' blocks: its 1 store as pieces, LAST
    FIRST (Lib/Pipeline/FrameBody.lean `View.canon`; the payloads are the skeleton's and the values stated above). -/
def out0_9 (x0 : Vec F S1x512x768 .f32) (x1 : Vec F S1x32x768 .f32) (x2 : Vec F S768x768 .f32) (x3 : Vec F S1x768 .f32) (x4 : Vec F S768x768 .f32) (x5 : Vec F S1x768 .f32) (x6 : Vec F S768x768 .f32) (x7 : Vec F S1x768 .f32) : Vec F S1x512x768 .f32 :=
  View.canon [⟨r0_0, k0_pay7 (k0_pay10 x0 x1 x2 x3 x4 x5 x6 x7) (k0_pay11 x0 x1 x2 x3 x4 x5 x6 x7)⟩]

/-- Its stores tile the buffer (checked by evaluation), so they cover it. -/
theorem cover0_9 (p0 : Vec F S1x512x768 .f32) (y : S1x512x768.Idx) :
    ∃ pc ∈ ([⟨r0_0, p0⟩] : List (View.Piece (Elt F) S1x512x768 .f32)), y ∈ pc.1.set :=
  View.cover_of_tiled [⟨r0_0, p0⟩] S1x512x768.size (by rfl) y

/-- Window 10's staging buffer after the body, from the input windows' blocks: its 1 store as pieces, LAST
    FIRST (Lib/Pipeline/FrameBody.lean `View.canon`; the payloads are the skeleton's and the values stated above). -/
def out0_10 (x0 : Vec F S1x512x768 .f32) (x1 : Vec F S1x32x768 .f32) (x2 : Vec F S768x768 .f32) (x3 : Vec F S1x768 .f32) (x4 : Vec F S768x768 .f32) (x5 : Vec F S1x768 .f32) (x6 : Vec F S768x768 .f32) (x7 : Vec F S1x768 .f32) : Vec F S1x512x768 .f32 :=
  View.canon [⟨r0_0, k0_pay8 (k0_pay10 x0 x1 x2 x3 x4 x5 x6 x7) (k0_pay11 x0 x1 x2 x3 x4 x5 x6 x7) (View.ld x2 r0_2) (View.ld x3 r0_3)⟩]

/-- Its stores tile the buffer (checked by evaluation), so they cover it. -/
theorem cover0_10 (p0 : Vec F S1x512x768 .f32) (y : S1x512x768.Idx) :
    ∃ pc ∈ ([⟨r0_0, p0⟩] : List (View.Piece (Elt F) S1x512x768 .f32)), y ∈ pc.1.set :=
  View.cover_of_tiled [⟨r0_0, p0⟩] S1x512x768.size (by rfl) y

/-- Window 11's staging buffer after the body, from the input windows' blocks: its 1 store as pieces, LAST
    FIRST (Lib/Pipeline/FrameBody.lean `View.canon`; the payloads are the skeleton's and the values stated above). -/
def out0_11 (x0 : Vec F S1x512x768 .f32) (x1 : Vec F S1x32x768 .f32) (x2 : Vec F S768x768 .f32) (x3 : Vec F S1x768 .f32) (x4 : Vec F S768x768 .f32) (x5 : Vec F S1x768 .f32) (x6 : Vec F S768x768 .f32) (x7 : Vec F S1x768 .f32) : Vec F S1x512x768 .f32 :=
  View.canon [⟨r0_0, k0_pay9 (k0_pay10 x0 x1 x2 x3 x4 x5 x6 x7) (k0_pay11 x0 x1 x2 x3 x4 x5 x6 x7) (View.ld x4 r0_2) (View.ld x5 r0_3)⟩]

/-- Its stores tile the buffer (checked by evaluation), so they cover it. -/
theorem cover0_11 (p0 : Vec F S1x512x768 .f32) (y : S1x512x768.Idx) :
    ∃ pc ∈ ([⟨r0_0, p0⟩] : List (View.Piece (Elt F) S1x512x768 .f32)), y ∈ pc.1.set :=
  View.cover_of_tiled [⟨r0_0, p0⟩] S1x512x768.size (by rfl) y

/-- Window 12's staging buffer after the body, from the input windows' blocks: its 1 store as pieces, LAST
    FIRST (Lib/Pipeline/FrameBody.lean `View.canon`; the payloads are the skeleton's and the values stated above). -/
def out0_12 (x0 : Vec F S1x512x768 .f32) (x1 : Vec F S1x32x768 .f32) (x2 : Vec F S768x768 .f32) (x3 : Vec F S1x768 .f32) (x4 : Vec F S768x768 .f32) (x5 : Vec F S1x768 .f32) (x6 : Vec F S768x768 .f32) (x7 : Vec F S1x768 .f32) : Vec F S1x512x768 .f32 :=
  View.canon [⟨r0_0, k0_pay1 (k0_pay5 (k0_pay10 x0 x1 x2 x3 x4 x5 x6 x7) (k0_pay11 x0 x1 x2 x3 x4 x5 x6 x7)) (View.ld x6 r0_2) (View.ld x7 r0_3)⟩]

/-- Its stores tile the buffer (checked by evaluation), so they cover it. -/
theorem cover0_12 (p0 : Vec F S1x512x768 .f32) (y : S1x512x768.Idx) :
    ∃ pc ∈ ([⟨r0_0, p0⟩] : List (View.Piece (Elt F) S1x512x768 .f32)), y ∈ pc.1.set :=
  View.cover_of_tiled [⟨r0_0, p0⟩] S1x512x768.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x512x768 .f32) (harg2 : arg2.IsWhole) (arg3 : Memref sig .tc .vmem S1x32x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S1x512x768 .f32) (harg10 : arg10.IsWhole) (arg11 : Memref sig .tc .vmem S1x512x768 .f32) (harg11 : arg11.IsWhole) (arg12 : Memref sig .tc .vmem S1x512x768 .f32) (harg12 : arg12.IsWhole) (arg13 : Memref sig .tc .vmem S1x512x768 .f32) (harg13 : arg13.IsWhole) (arg14 : Memref sig .tc .vmem S1x512x768 .f32) (harg14 : arg14.IsWhole)
    (x0 : Vec F S1x512x768 .f32) (x1 : Vec F S1x32x768 .f32) (x2 : Vec F S768x768 .f32) (x3 : Vec F S1x768 .f32) (x4 : Vec F S768x768 .f32) (x5 : Vec F S1x768 .f32) (x6 : Vec F S768x768 .f32) (x7 : Vec F S1x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0_8 x0 x1 x2 x3 x4 x5 x6 x7) ∗ owns (c : Thread nD τ) arg11 fullShare (out0_9 x0 x1 x2 x3 x4 x5 x6 x7) ∗ owns (c : Thread nD τ) arg12 fullShare (out0_10 x0 x1 x2 x3 x4 x5 x6 x7) ∗ owns (c : Thread nD τ) arg13 fullShare (out0_11 x0 x1 x2 x3 x4 x5 x6 x7) ∗ owns (c : Thread nD τ) arg14 fullShare (out0_12 x0 x1 x2 x3 x4 x5 x6 x7)) -∗ K ⟨⟩))
      ⊢ wp frame (wpE (defs₀ (F := F)) Variants.none c none) E (cc0__decomp_qkv_body i arg2 harg2 arg3 harg3 arg4 harg4 arg5 harg5 arg6 harg6 arg7 harg7 arg8 harg8 arg9 harg9 arg10 harg10 arg11 harg11 arg12 harg12 arg13 harg13 arg14 harg14) K := by
  simp only [cc0__decomp_qkv_body_eq_skeleton]; unfold cc0__decomp_qkv_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  iexists _; isplitr
  swap; · iexact H12
  ipureintro
  refine (View.read_writes_eq_canon _ _ _ (cover0_12 _)).trans ?_
  rfl

/-! ## The two windows on the padded array

    Window 0 is never cut. Window 1's last block of each batch row overhangs the padded array: past the array's end
    its buffer holds what it held before. The body reads the buffer's first 24 rows only, which every block has inside
    the array (`rows_inside`), so what it computes does not depend on the rest (`ld_fill`). -/

/-- A filler for the rows of window 1's buffer that no fetch writes; no result depends on it. -/
def dflt0_1 : (cfg0.win 1).block.Idx → Elt F (cfg0.win 1).elt := fun _ => Classical.choice inferInstance
/-- Window 1's block at point `t`, filled out with `dflt0_1`. -/
def X0_1 (c : Dev nD) (t : Fin cfg0.N) : (cfg0.win 1).block.Idx → Elt F (cfg0.win 1).elt :=
  (cfg0.win 1).fill (cfg0.grid.coords t) dflt0_1 (iblk m c 1 t)
theorem cut_X0_1 (c : Dev nD) (t : Fin cfg0.N) : (cfg0.win 1).cut (grid0.coords t) (X0_1 m c t) = iblk m c 1 t := by
  unfold X0_1; exact Pipeline.Window.cut_fill _ _ _ _

/-- At every point the part of window 1's block inside the array has at least 24 rows. -/
theorem rows_inside : ∀ t : Fin cfg0.N, ∀ a, (S1x24x768.size a) ≤ (cfg0.win 1).xsize (cfg0.grid.coords t) a := by decide +kernel

/-- Every index of the first 24 rows is one a fetch writes. -/
theorem moved0_1 (t : Fin cfg0.N) (j : S1x24x768.Idx) : (cfg0.win 1).moved (cfg0.grid.coords t) (r0_1.idx j) = true :=
  ((cfg0.win 1).moved_iff _ _).mpr fun a => by
    refine Nat.lt_of_lt_of_le ?_ (rows_inside t a)
    match a with
    | ⟨0, _⟩ => exact (show 0 + 1 * (j 0).val < S1x24x768.size 0 from by have := (j 0).isLt; omega)
    | ⟨1, _⟩ => exact (show 0 + 1 * (j 1).val < S1x24x768.size 1 from by have := (j 1).isLt; omega)
    | ⟨2, _⟩ => exact (show 0 + 1 * (j 2).val < S1x24x768.size 2 from by have := (j 2).isLt; omega)

/-- What the body reads of window 1's buffer does not depend on what fills it out. -/
theorem ld_fill (t : Fin cfg0.N) (d d' : (cfg0.win 1).block.Idx → Elt F (cfg0.win 1).elt) (g) :
    View.ld (Val := Elt F) (e' := .f32) ((cfg0.win 1).fill (cfg0.grid.coords t) d g) r0_1 = View.ld ((cfg0.win 1).fill (cfg0.grid.coords t) d' g) r0_1 := by
  funext j
  show (cfg0.win 1).fill (cfg0.grid.coords t) d g (r0_1.idx j) = (cfg0.win 1).fill (cfg0.grid.coords t) d' g (r0_1.idx j)
  unfold Pipeline.Window.fill
  rw [dif_pos (moved0_1 t j), dif_pos (moved0_1 t j)]

theorem out0_8_congr (x0) (x1 y1 : S1x32x768.Idx → Elt F .f32) (h : View.ld (Val := Elt F) (e' := .f32) x1 r0_1 = View.ld y1 r0_1) (x2) (x3) (x4) (x5) (x6) (x7) :
    out0_8 (F := F) x0 x1 x2 x3 x4 x5 x6 x7 = out0_8 x0 y1 x2 x3 x4 x5 x6 x7 := by
  unfold out0_8 k0_pay10 k0_pay11
  try rw [h]

theorem out0_8_fill (c : Dev nD) (t : Fin cfg0.N) (d : (cfg0.win 1).block.Idx → Elt F (cfg0.win 1).elt) :
    out0_8 (X0_0 m c t) ((cfg0.win 1).fill (grid0.coords t) d (iblk m c 1 t)) (iblk m c 2 t) (iblk m c 3 t) (iblk m c 4 t) (iblk m c 5 t) (iblk m c 6 t) (iblk m c 7 t)
      = out0_8 (X0_0 m c t) (X0_1 m c t) (iblk m c 2 t) (iblk m c 3 t) (iblk m c 4 t) (iblk m c 5 t) (iblk m c 6 t) (iblk m c 7 t) :=
  out0_8_congr _ _ _ (ld_fill t d dflt0_1 _) _ _ _ _ _ _

theorem out0_9_congr (x0) (x1 y1 : S1x32x768.Idx → Elt F .f32) (h : View.ld (Val := Elt F) (e' := .f32) x1 r0_1 = View.ld y1 r0_1) (x2) (x3) (x4) (x5) (x6) (x7) :
    out0_9 (F := F) x0 x1 x2 x3 x4 x5 x6 x7 = out0_9 x0 y1 x2 x3 x4 x5 x6 x7 := by
  unfold out0_9 k0_pay10 k0_pay11
  try rw [h]

theorem out0_9_fill (c : Dev nD) (t : Fin cfg0.N) (d : (cfg0.win 1).block.Idx → Elt F (cfg0.win 1).elt) :
    out0_9 (X0_0 m c t) ((cfg0.win 1).fill (grid0.coords t) d (iblk m c 1 t)) (iblk m c 2 t) (iblk m c 3 t) (iblk m c 4 t) (iblk m c 5 t) (iblk m c 6 t) (iblk m c 7 t)
      = out0_9 (X0_0 m c t) (X0_1 m c t) (iblk m c 2 t) (iblk m c 3 t) (iblk m c 4 t) (iblk m c 5 t) (iblk m c 6 t) (iblk m c 7 t) :=
  out0_9_congr _ _ _ (ld_fill t d dflt0_1 _) _ _ _ _ _ _

theorem out0_10_congr (x0) (x1 y1 : S1x32x768.Idx → Elt F .f32) (h : View.ld (Val := Elt F) (e' := .f32) x1 r0_1 = View.ld y1 r0_1) (x2) (x3) (x4) (x5) (x6) (x7) :
    out0_10 (F := F) x0 x1 x2 x3 x4 x5 x6 x7 = out0_10 x0 y1 x2 x3 x4 x5 x6 x7 := by
  unfold out0_10 k0_pay10 k0_pay11
  try rw [h]

theorem out0_10_fill (c : Dev nD) (t : Fin cfg0.N) (d : (cfg0.win 1).block.Idx → Elt F (cfg0.win 1).elt) :
    out0_10 (X0_0 m c t) ((cfg0.win 1).fill (grid0.coords t) d (iblk m c 1 t)) (iblk m c 2 t) (iblk m c 3 t) (iblk m c 4 t) (iblk m c 5 t) (iblk m c 6 t) (iblk m c 7 t)
      = out0_10 (X0_0 m c t) (X0_1 m c t) (iblk m c 2 t) (iblk m c 3 t) (iblk m c 4 t) (iblk m c 5 t) (iblk m c 6 t) (iblk m c 7 t) :=
  out0_10_congr _ _ _ (ld_fill t d dflt0_1 _) _ _ _ _ _ _

theorem out0_11_congr (x0) (x1 y1 : S1x32x768.Idx → Elt F .f32) (h : View.ld (Val := Elt F) (e' := .f32) x1 r0_1 = View.ld y1 r0_1) (x2) (x3) (x4) (x5) (x6) (x7) :
    out0_11 (F := F) x0 x1 x2 x3 x4 x5 x6 x7 = out0_11 x0 y1 x2 x3 x4 x5 x6 x7 := by
  unfold out0_11 k0_pay10 k0_pay11
  try rw [h]

theorem out0_11_fill (c : Dev nD) (t : Fin cfg0.N) (d : (cfg0.win 1).block.Idx → Elt F (cfg0.win 1).elt) :
    out0_11 (X0_0 m c t) ((cfg0.win 1).fill (grid0.coords t) d (iblk m c 1 t)) (iblk m c 2 t) (iblk m c 3 t) (iblk m c 4 t) (iblk m c 5 t) (iblk m c 6 t) (iblk m c 7 t)
      = out0_11 (X0_0 m c t) (X0_1 m c t) (iblk m c 2 t) (iblk m c 3 t) (iblk m c 4 t) (iblk m c 5 t) (iblk m c 6 t) (iblk m c 7 t) :=
  out0_11_congr _ _ _ (ld_fill t d dflt0_1 _) _ _ _ _ _ _

theorem out0_12_congr (x0) (x1 y1 : S1x32x768.Idx → Elt F .f32) (h : View.ld (Val := Elt F) (e' := .f32) x1 r0_1 = View.ld y1 r0_1) (x2) (x3) (x4) (x5) (x6) (x7) :
    out0_12 (F := F) x0 x1 x2 x3 x4 x5 x6 x7 = out0_12 x0 y1 x2 x3 x4 x5 x6 x7 := by
  unfold out0_12 k0_pay10 k0_pay11
  try rw [h]

theorem out0_12_fill (c : Dev nD) (t : Fin cfg0.N) (d : (cfg0.win 1).block.Idx → Elt F (cfg0.win 1).elt) :
    out0_12 (X0_0 m c t) ((cfg0.win 1).fill (grid0.coords t) d (iblk m c 1 t)) (iblk m c 2 t) (iblk m c 3 t) (iblk m c 4 t) (iblk m c 5 t) (iblk m c 6 t) (iblk m c 7 t)
      = out0_12 (X0_0 m c t) (X0_1 m c t) (iblk m c 2 t) (iblk m c 3 t) (iblk m c 4 t) (iblk m c 5 t) (iblk m c 6 t) (iblk m c 7 t) :=
  out0_12_congr _ _ _ (ld_fill t d dflt0_1 _) _ _ _ _ _ _

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (X0_0 m c t) (X0_1 m c t) (iblk m c 2 t) (iblk m c 3 t) (iblk m c 4 t) (iblk m c 5 t) (iblk m c 6 t) (iblk m c 7 t)
    | ⟨9, _⟩ => out0_9 (X0_0 m c t) (X0_1 m c t) (iblk m c 2 t) (iblk m c 3 t) (iblk m c 4 t) (iblk m c 5 t) (iblk m c 6 t) (iblk m c 7 t)
    | ⟨10, _⟩ => out0_10 (X0_0 m c t) (X0_1 m c t) (iblk m c 2 t) (iblk m c 3 t) (iblk m c 4 t) (iblk m c 5 t) (iblk m c 6 t) (iblk m c 7 t)
    | ⟨11, _⟩ => out0_11 (X0_0 m c t) (X0_1 m c t) (iblk m c 2 t) (iblk m c 3 t) (iblk m c 4 t) (iblk m c 5 t) (iblk m c 6 t) (iblk m c 7 t)
    | ⟨12, _⟩ => out0_12 (X0_0 m c t) (X0_1 m c t) (iblk m c 2 t) (iblk m c 3 t) (iblk m c 4 t) (iblk m c 5 t) (iblk m c 6 t) (iblk m c 7 t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (X0_0 m c t) (X0_1 m c t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (X0_0 m c t) (X0_1 m c t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = out0_10 (X0_0 m c t) (X0_1 m c t) (iblk m c 2 t) (iblk m c 3 t) (iblk m c 4 t) (iblk m c 5 t) (iblk m c 6 t) (iblk m c 7 t) := by dsimp only [dats]
theorem after0_11 (c : Dev nD) (t : Fin cfg0.N) : (dats m 0 c).after 11 t = out0_11 (X0_0 m c t) (X0_1 m c t) (iblk m c 2 t) (iblk m c 3 t) (iblk m c 4 t) (iblk m c 5 t) (iblk m c 6 t) (iblk m c 7 t) := by dsimp only [dats]
theorem after0_12 (c : Dev nD) (t : Fin cfg0.N) : (dats m 0 c).after 12 t = out0_12 (X0_0 m c t) (X0_1 m c t) (iblk m c 2 t) (iblk m c 3 t) (iblk m c 4 t) (iblk m c 5 t) (iblk m c 6 t) (iblk m c 7 t) := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = (cfg0.win 1).fill (grid0.coords t) d (iblk m c 1 t) :=
  (((dats m 0 c).before_in_eq_fetched 1 rfl (fun _ => rfl)
      (fun t t' h => funext fun a => congrArg (fun n => Pipeline.Clip.of n ((cfg0.win 1).size a) (S4x8216x768.size a)) (congrFun h a))
      (fun t => by rw [after0_1]; unfold X0_1; rw [Pipeline.Window.cut_fill]; unfold Dat.blockOf iblk; rw [A_eq]; try rfl) t d).trans
    (by unfold Dat.fetched Dat.blockOf iblk; rw [A_eq]; try rfl))
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (grid0.coords t) d ((cfg0.win 0).cut (grid0.coords t) ((dats m 0 c).after 0 t))))
    ∗ (∃ d, owns (c : Thread nD τ) (st0_1 t) fullShare ((cfg0.win 1).fill (grid0.coords t) d ((cfg0.win 1).cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (X0_0 m c t) ((cfg0.win 1).fill (grid0.coords t) d1 (iblk m c 1 t)) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  rw [out0_8_fill m c t d1, out0_9_fill m c t d1, out0_10_fill m c t d1, out0_11_fill m c t d1, out0_12_fill m c t d1]
  isplitl [HΦ]; · iexact HΦ
  isplitl [Ho]; · iexact Ho
  isplitl [H0]
  · iexists X0_0 m c t; rw [Pipeline.Window.fill_cut]; iexact H0
  isplitl [H1]
  · iexists d1; rw [cut_X0_1]; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- Every fair execution ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel2Ideal.Run

end
-- ==== Proof.DecompPad.lean ====
/-
  The arrays the host lines of the first call prepare, read at an index: the input with its first and its last row
  repeated twelve times at the ends, and the biases as rows.
-/
module

public import proofs.«01_k».proof.Proof.DecompIdealRun
public import proofs.«01_k».proof.Proof.MovingAverage
public import Idealize.ShloMosaic.Lib.StableHlo.ReadAt

@[expose] public section

set_option maxRecDepth 16384

noncomputable section

namespace Cert.Kernel2Ideal.Pad

open Cert.Kernel2Ideal Cert.Kernel2Ideal.Gen Cert.Kernel2Ideal.Run Cert.MovingAverage
open Idealize.ShloMosaic.TcCoe Idealize.SL.Sem Idealize.ShloMosaic.ValueIdx
open Idealize.ShloMosaic hiding ix0 ix1 ix2 ix3 ix4 ix5 eq_ix3

/-! ## A concatenation whose ends are empty is its middle; the row repeated twelve times -/

section Generic

theorem concat_mid0 (u w : (⟨3, ![0, 8192, 768]⟩ : Shape).Idx → EReal) (x : Arr) (h) (b : Fin 4) (n : Fin 8192) (d : Fin 768) :
    concatenate (⟨3, ![4, 8192, 768]⟩ : Shape) 0 [⟨⟨3, ![0, 8192, 768]⟩, u⟩, ⟨⟨3, ![4, 8192, 768]⟩, x⟩, ⟨⟨3, ![0, 8192, 768]⟩, w⟩] h (ix3 b n d)
      = x (ix3 b n d) := by
  refine concatenate_apply_piece 0 _ h _ 1 (by decide : 1 < 3) _ x rfl rfl 0 rfl (ix3 b n d) ?_ ?_
  · intro a ha
    rfl
  · show 0 + b.val = b.val; omega

theorem concat_mid2 (u w : (⟨3, ![4, 8216, 0]⟩ : Shape).Idx → EReal) (x : (⟨3, ![4, 8216, 768]⟩ : Shape).Idx → EReal) (h)
    (b : Fin 4) (n : Fin 8216) (d : Fin 768) :
    concatenate (⟨3, ![4, 8216, 768]⟩ : Shape) 2 [⟨⟨3, ![4, 8216, 0]⟩, u⟩, ⟨⟨3, ![4, 8216, 768]⟩, x⟩, ⟨⟨3, ![4, 8216, 0]⟩, w⟩] h (ix3 b n d)
      = x (ix3 b n d) := by
  refine concatenate_apply_piece 2 _ h _ 1 (by decide : 1 < 3) _ x rfl rfl 0 rfl (ix3 b n d) ?_ ?_
  · intro a ha
    rfl
  · show 0 + d.val = d.val; omega

/-- Row `q` of the array, repeated twelve times. -/
theorem repeat_row (q : Fin 8192) (x : Arr) (hs : (⟨3, ![4, 8192, 768]⟩ : Shape).Slices ![0, q.val, 0] ⟨3, ![4, 1, 768]⟩) (hb) (hn)
    (b : Fin 4) (r : Fin 12) (d : Fin 768) :
    shapeCast (⟨3, ![4, 12, 768]⟩ : Shape)
      (broadcastInDim (⟨4, ![4, 1, 12, 768]⟩ : Shape) ![0, 1, 3] hb (extractStridedSlice (⟨3, ![4, 1, 768]⟩ : Shape) ![0, q.val, 0] x hs)) hn
      (ix3 b r d) = x (ix3 b q d) := by
  refine (shapeCast_apply _ hn (ix3 b r d) (ix4 b (0 : Fin 1) r d) ?_).trans ?_
  · rw [Shape.rowMajor_val_four, Shape.rowMajor_val_three]
    show ((b.val * 1 + 0) * 12 + r.val) * 768 + d.val = (b.val * 12 + r.val) * 768 + d.val
    omega
  · refine (broadcastInDim_apply _ hb _ (ix4 b (0 : Fin 1) r d) (ix3 b (0 : Fin 1) d) ?_).trans ?_
    · intro a
      match a with
      | ⟨0, _⟩ => rfl
      | ⟨1, _⟩ => rfl
      | ⟨2, _⟩ => rfl
    · refine extractStridedSlice_apply _ x hs _ _ fun a => ?_
      match a with
      | ⟨0, _⟩ => show b.val = 0 + b.val; omega
      | ⟨1, _⟩ => show q.val = q.val + 0; omega
      | ⟨2, _⟩ => show d.val = 0 + d.val; omega

end Generic

variable (m : (ℓ : Loc nD τ sig) → Buf (Elt Ideal) ℓ) (c : Dev nD)

/-- The buffers after the first `n` host operations. -/
def W (n : ℕ) (b : Ref sig .tc) : Buf (Elt Ideal) ((c : Thread nD τ).loc b) :=
  StableHlo.upto (List.flatten [hostOps0, hostOps0_1, hostOps0_2]) (fun b => m (c, b)) n b

set_option maxHeartbeats 4000000 in
theorem V_pad2 : V m c main_v0
    = concatenate S4x8216x768 2 [⟨S4x8216x0, W m c 21 main_call0_v16⟩, ⟨S4x8216x768, W m c 21 main_call0_v13⟩, ⟨S4x8216x0, W m c 21 main_call0_v19⟩]
        concatenates_S4x8216x0_S4x8216x768_S4x8216x0_S4x8216x768_d2 := by
  unfold V hostOps0 hostOps0_1 hostOps0_2
  after_reads_simp
  rfl

theorem W_pad1 : W m c 21 main_call0_v13
    = concatenate S4x8216x768 1 [⟨S4x12x768, W m c 14 main_call0_v9⟩, ⟨S4x8192x768, W m c 14 main_call0_v6⟩, ⟨S4x12x768, W m c 14 main_call0_v12⟩]
        concatenates_S4x12x768_S4x8192x768_S4x12x768_S4x8216x768_d1 := by
  show StableHlo.upto _ _ 21 _ = _
  unfold hostOps0 hostOps0_1 hostOps0_2
  after_reads_simp
  rfl

theorem W_pad0 : W m c 14 main_call0_v6
    = concatenate S4x8192x768 0 [⟨S0x8192x768, W m c 7 main_call0_v2⟩, ⟨S4x8192x768, m ((c : Thread nD τ).loc main_arg0)⟩, ⟨S0x8192x768, W m c 7 main_call0_v5⟩]
        concatenates_S0x8192x768_S4x8192x768_S0x8192x768_S4x8192x768_d0 := by
  show StableHlo.upto _ _ 14 _ = _
  unfold hostOps0 hostOps0_1 hostOps0_2
  after_reads_simp
  rfl

theorem W_first : W m c 14 main_call0_v9
    = shapeCast S4x12x768 (broadcastInDim S4x1x12x768 ![0, 1, 3] bcast_S4x1x768_S4x1x12x768_0_1_3
        (extractStridedSlice S4x1x768 ![0, 0, 0] (W m c 14 main_call0_v6) slices_S4x8192x768_S4x1x768_0_0_0)) shapeCasts_S4x1x12x768_S4x12x768 := by
  rw [W_pad0]
  show StableHlo.upto _ _ 14 _ = _
  unfold hostOps0 hostOps0_1 hostOps0_2
  after_reads_simp
  rfl

theorem W_last : W m c 14 main_call0_v12
    = shapeCast S4x12x768 (broadcastInDim S4x1x12x768 ![0, 1, 3] bcast_S4x1x768_S4x1x12x768_0_1_3
        (extractStridedSlice S4x1x768 ![0, 8191, 0] (W m c 14 main_call0_v6) slices_S4x8192x768_S4x1x768_0_8191_0)) shapeCasts_S4x1x12x768_S4x12x768 := by
  rw [W_pad0]
  show StableHlo.upto _ _ 14 _ = _
  unfold hostOps0 hostOps0_1 hostOps0_2
  after_reads_simp
  rfl

theorem W_v6 (b : Fin 4) (n : Fin 8192) (d : Fin 768) : W m c 14 main_call0_v6 (ix3 b n d) = m ((c : Thread nD τ).loc main_arg0) (ix3 b n d) := by
  rw [W_pad0]
  exact concat_mid0 _ _ _ _ b n d

theorem V_pad (b : Fin 4) (n : Fin 8216) (d : Fin 768) :
    V m c main_v0 (ix3 b n d) = m ((c : Thread nD τ).loc main_arg0) (ix3 b (crow n.val) d) := by
  rw [V_pad2]
  refine (concat_mid2 _ _ _ _ b n d).trans ?_
  rw [W_pad1]
  have hn : n = prow n.val := Fin.ext (by have := n.isLt; show n.val = min n.val 8215; omega)
  have hx : W m c 14 main_call0_v6 = (m ((c : Thread nD τ).loc main_arg0) : Arr) := funext fun i => by
    rw [eq_ix3 i]; exact W_v6 m c _ _ _
  refine (congrArg (fun q => concatenate S4x8216x768 1 [⟨S4x12x768, W m c 14 main_call0_v9⟩, ⟨S4x8192x768, W m c 14 main_call0_v6⟩, ⟨S4x12x768, W m c 14 main_call0_v12⟩]
        concatenates_S4x12x768_S4x8192x768_S4x12x768_S4x8216x768_d1 (ix3 b q d)) hn).trans ?_
  refine (concat_apply _ _ _ _ ?_ ?_ b n.val n.isLt d).trans ?_
  · intro b r d
    rw [W_first]
    exact repeat_row 0 _ _ _ _ b r d
  · intro b r d
    rw [W_last]
    exact repeat_row 8191 _ _ _ _ b r d
  · exact congrFun hx _

theorem V_bq (d : Fin 768) : V m c main_v1 (ix2 (0 : Fin 1) d) = m ((c : Thread nD τ).loc main_arg2) (ix1 d) := by
  unfold V hostOps0 hostOps0_1 hostOps0_2
  after_reads_at
  rfl

theorem V_bk (d : Fin 768) : V m c main_v2 (ix2 (0 : Fin 1) d) = m ((c : Thread nD τ).loc main_arg4) (ix1 d) := by
  unfold V hostOps0 hostOps0_1 hostOps0_2
  after_reads_at
  rfl

theorem V_bv (d : Fin 768) : V m c main_v3 (ix2 (0 : Fin 1) d) = m ((c : Thread nD τ).loc main_arg6) (ix1 d) := by
  unfold V hostOps0 hostOps0_1 hostOps0_2
  after_reads_at
  rfl

end Cert.Kernel2Ideal.Pad

end
-- ==== Proof.DecompBody.lean ====
/-
  What the first call's body computes from the blocks it loads, read at an index over the extended reals: the 536-row tile
  it builds holds the rows `512 tt - 12 … 512 tt + 523` of one batch row of the input extended by its first and last
  rows; then the mean of 25 rows, the remainder, and the three linear maps of the remainder.
-/
module

public import proofs.«01_k».proof.Proof.Gen.Kernel2Ideal.Skeleton
public import proofs.«01_k».proof.Proof.MovingAverage
public import Idealize.ShloMosaic.Lib.MatmulPlain
public import Idealize.ShloMosaic.PureOps.IdealRules

@[expose] public section

set_option maxRecDepth 16384

noncomputable section

/-! ## The mathematics -/

namespace Cert.MovingAverage

open Idealize.ShloMosaic Idealize.ShloMosaic.ValueIdx

/-- A linear map with a bias, applied at each time step to what is left when the moving average is taken off. -/
def linear (x : Arr) (w : (⟨2, ![768, 768]⟩ : Shape).Idx → EReal) (z : (⟨1, ![768]⟩ : Shape).Idx → EReal) (b : Fin 4) (t : Fin 8192) (d : Fin 768) : EReal :=
  (∑ k : Fin 768, rest x b t k * w (ix2 k d)) + z (ix1 d)

end Cert.MovingAverage

/-! ## The body -/

namespace Cert.Kernel2Ideal.Payload

open Idealize.ShloMosaic Idealize.ShloMosaic.ValueIdx Cert.Kernel2Ideal.Gen Cert.MovingAverage

theorem dot_eq : dot_S512x768_S768x768_S512x768_1_0_0_1_n_n = DotDims.plain 512 768 768 := rfl

/-- The tile's row `r`, for any number `r`. -/
def trow (r : ℕ) : Fin 536 := ⟨min r 535, by omega⟩

/-- A row slice of the tile. -/
theorem slice_row_trow (k : ℕ) (hk : k < 25) (v : (⟨2, ![536, 768]⟩ : Shape).Idx → EReal) (h : (⟨2, ![536, 768]⟩ : Shape).Slices ![k, 0] ⟨2, ![512, 768]⟩)
    (r : Fin 512) (d : Fin 768) :
    extractStridedSlice (⟨2, ![512, 768]⟩ : Shape) ![k, 0] v h (ix2 r d) = v (ix2 (trow (r.val + k)) d) :=
  extractStridedSlice_apply _ v h _ _ fun a => by
    have := r.isLt
    match a with
    | ⟨0, _⟩ => show min (r.val + k) 535 = k + r.val; omega
    | ⟨1, _⟩ => show d.val = 0 + d.val; omega

/-- A one-row vector flattened and laid out as a row again is itself. -/
theorem flatten_row (k : ℕ) (x : (⟨2, ![1, k]⟩ : Shape).Idx → EReal) (h) (h') : shapeCast (⟨2, ![1, k]⟩ : Shape) (shapeCast (⟨1, ![k]⟩ : Shape) x h) h' = x := by
  rw [shapeCast_shapeCast]

variable {v0 : Vec Ideal S1x512x768 .f32} {v2 : Vec Ideal S1x24x768 .f32} {n : ℕ} {x : Arr} {b : Fin 4}

/-- The time step at row `r` of the tile of grid column `n`. -/
def time (n : ℕ) (hn : n < 16) (r : Fin 512) : Fin 8192 := ⟨512 * n + r.val, by have := r.isLt; omega⟩

/-- The two blocks of the point at grid column `n` hold these rows of batch row `b`, extended. -/
structure Rows (v0 : Vec Ideal S1x512x768 .f32) (v2 : Vec Ideal S1x24x768 .f32) (n : ℕ) (x : Arr) (b : Fin 4) : Prop where
  low : ∀ (r : Fin 512) (d : Fin 768), v0 (ix3 0 r d) = x (ix3 b (crow (512 * n + r.val)) d)
  high : ∀ (r : Fin 24) (d : Fin 768), v2 (ix3 0 r d) = x (ix3 b (crow (512 * n + (512 + r.val))) d)

/-- A tile of 512 rows and 24 more. -/
theorem concat_tail (x : (⟨2, ![512, 768]⟩ : Shape).Idx → EReal) (y : (⟨2, ![24, 768]⟩ : Shape).Idx → EReal) (h)
    (r : Fin 536) (d : Fin 768) (G : EReal)
    (h0 : ∀ hr : r.val < 512, x (ix2 ⟨r.val, hr⟩ d) = G)
    (h1 : ∀ hr : 512 ≤ r.val, y (ix2 ⟨r.val - 512, by omega⟩ d) = G) :
    concatenate (⟨2, ![536, 768]⟩ : Shape) 0 [⟨⟨2, ![512, 768]⟩, x⟩, ⟨⟨2, ![24, 768]⟩, y⟩] h (ix2 r d) = G := by
  by_cases hlow : r.val < 512
  · refine (concatenate_apply_piece 0 _ h _ 0 (by decide : 0 < 2) _ x rfl rfl 0 rfl (ix2 ⟨r.val, hlow⟩ d) ?_ ?_).trans (h0 hlow)
    · intro b hb
      match b with
      | ⟨0, _⟩ => exact absurd rfl hb
      | ⟨1, _⟩ => rfl
    · show 0 + r.val = r.val; omega
  · refine (concatenate_apply_piece 0 _ h _ 1 (by decide : 1 < 2) _ y rfl rfl 512 rfl (ix2 ⟨r.val - 512, by omega⟩ d) ?_ ?_).trans (h1 (by omega))
    · intro b hb
      match b with
      | ⟨0, _⟩ => exact absurd rfl hb
      | ⟨1, _⟩ => rfl
    · show 512 + (r.val - 512) = r.val; omega

theorem tile_apply (H : Rows v0 v2 n x b) (r : Fin 536) (d : Fin 768) : k0_pay2 v0 v2 (ix2 r d) = x (ix3 b (crow (512 * n + r.val)) d) := by
  unfold k0_pay2
  refine concat_tail _ _ _ r d _ ?_ ?_
  · intro hl; rw [dropUnit 512]; exact H.low ⟨r.val, hl⟩ d
  · intro hl
    rw [dropUnit 24, H.high]
    exact congrArg (fun q => x (ix3 b (crow q) d)) (show 512 * n + (512 + (r.val - 512)) = 512 * n + r.val by omega)

theorem sum_apply (v0 : Vec Ideal S1x512x768 .f32) (v2 : Vec Ideal S1x24x768 .f32) (r : Fin 512) (d : Fin 768) :
    k0_pay4 (k0_pay2 v0 v2) (k0_pay3 v0 v2) (ix2 r d) = (∑ k ∈ Finset.range 25, k0_pay2 v0 v2 (ix2 (trow (r.val + k)) d)) * ((1 / 25 : ℝ) : EReal) := by
  unfold k0_pay4 k0_pay3
  generalize k0_pay2 v0 v2 = y
  dsimp only
  rw [mulf_apply, broadcast_apply, IdealRules.named_const.ideal_named_scalar _ _ _ _ rfl]
  refine congrArg (· * ((1 / 25 : ℝ) : EReal)) ?_
  simp only [addf_apply]
  rw [slice_row_trow 0 (by decide), slice_row_trow 1 (by decide), slice_row_trow 2 (by decide), slice_row_trow 3 (by decide), slice_row_trow 4 (by decide),
    slice_row_trow 5 (by decide), slice_row_trow 6 (by decide), slice_row_trow 7 (by decide), slice_row_trow 8 (by decide), slice_row_trow 9 (by decide),
    slice_row_trow 10 (by decide), slice_row_trow 11 (by decide), slice_row_trow 12 (by decide), slice_row_trow 13 (by decide), slice_row_trow 14 (by decide),
    slice_row_trow 15 (by decide), slice_row_trow 16 (by decide), slice_row_trow 17 (by decide), slice_row_trow 18 (by decide), slice_row_trow 19 (by decide),
    slice_row_trow 20 (by decide), slice_row_trow 21 (by decide), slice_row_trow 22 (by decide), slice_row_trow 23 (by decide), slice_row_trow 24 (by decide)]
  simp only [Finset.sum_range_succ, Finset.sum_range_zero, zero_add]

theorem mean_apply (hn : n < 16) (H : Rows v0 v2 n x b) (r : Fin 512) (d : Fin 768) :
    k0_pay4 (k0_pay2 v0 v2) (k0_pay3 v0 v2) (ix2 r d) = mean x b (time n hn r) d := by
  refine (sum_apply v0 v2 r d).trans ?_
  unfold mean
  refine congrArg (· * ((1 / 25 : ℝ) : EReal)) (Finset.sum_congr rfl fun k hk => ?_)
  have hk' : k < 25 := Finset.mem_range.1 hk
  have hr := r.isLt
  rw [tile_apply H]
  exact congrArg (fun q => x (ix3 b (crow q) d)) (show 512 * n + min (r.val + k) 535 = 512 * n + r.val + k by omega)

theorem rest_apply (hn : n < 16) (H : Rows v0 v2 n x b) (r : Fin 512) (d : Fin 768) :
    k0_pay5 (k0_pay2 v0 v2) (k0_pay3 v0 v2) (ix2 r d) = rest x b (time n hn r) d := by
  have hr := r.isLt
  unfold k0_pay5 rest
  rw [subf_apply, mean_apply hn H, slice_row_trow 12 (by decide), tile_apply H]
  refine congrArg (fun q => x (ix3 b q d) - _) ?_
  refine Eq.trans ?_ (crow_add (time n hn r))
  exact congrArg crow (show 512 * n + min (r.val + 12) 535 = 512 * n + r.val + 12 by omega)

theorem pay1_apply (u : FVec Ideal S512x768 .f32) (w : Vec Ideal S768x768 .f32) (z : Vec Ideal S1x768 .f32) (r : Fin 512) (d : Fin 768) :
    k0_pay1 u w z (ix3 0 r d) = (∑ k : Fin 768, u (ix2 r k) * w (ix2 k d)) + z (ix2 0 d) := by
  unfold k0_pay1
  rw [addUnit 512, addf_apply, broadcastRow 512 768 (by decide), flatten_row]
  refine congrArg (· + z (ix2 0 d)) ?_
  simp only [matmul]
  rw [dot_eq, Ideal.matmul_plain_apply, constant_apply, Ideal.ofBits_zero_f32, zero_add]

theorem pay1_rest (hn : n < 16) (H : Rows v0 v2 n x b) (w : Vec Ideal S768x768 .f32) (z : Vec Ideal S1x768 .f32) (r : Fin 512) (d : Fin 768) :
    k0_pay1 (k0_pay5 (k0_pay2 v0 v2) (k0_pay3 v0 v2)) w z (ix3 0 r d) = (∑ k : Fin 768, rest x b (time n hn r) k * w (ix2 k d)) + z (ix2 0 d) := by
  rw [pay1_apply]
  exact congrArg (· + z (ix2 0 d)) (Finset.sum_congr rfl fun k _ => by rw [rest_apply hn H])

/-- The three linear maps are stored by one and the same expression. -/
theorem pay8_eq (v4 : FVec Ideal S536x768 .f32) (v51 : FVec Ideal S512x768 .f32) (w : Vec Ideal S768x768 .f32) (z : Vec Ideal S1x768 .f32) :
    k0_pay8 v4 v51 w z = k0_pay1 (k0_pay5 v4 v51) w z := rfl
theorem pay9_eq (v4 : FVec Ideal S536x768 .f32) (v51 : FVec Ideal S512x768 .f32) (w : Vec Ideal S768x768 .f32) (z : Vec Ideal S1x768 .f32) :
    k0_pay9 v4 v51 w z = k0_pay1 (k0_pay5 v4 v51) w z := rfl

theorem pay6_apply (hn : n < 16) (H : Rows v0 v2 n x b) (r : Fin 512) (d : Fin 768) :
    k0_pay6 (k0_pay2 v0 v2) (k0_pay3 v0 v2) (ix3 0 r d) = rest x b (time n hn r) d := by
  unfold k0_pay6
  rw [addUnit 512, rest_apply hn H]

theorem pay7_apply (hn : n < 16) (H : Rows v0 v2 n x b) (r : Fin 512) (d : Fin 768) :
    k0_pay7 (k0_pay2 v0 v2) (k0_pay3 v0 v2) (ix3 0 r d) = mean x b (time n hn r) d := by
  unfold k0_pay7
  rw [addUnit 512, mean_apply hn H]

end Cert.Kernel2Ideal.Payload

end
-- ==== Proof.DecompBlocks.lean ====
/-
  The first call's blocks and its five result arrays, at the ideal values: what every window's block holds as entries
  of the arguments, so what every grid point writes back, so what the arrays hold when the grid is done.
-/
module

public import proofs.«01_k».proof.Proof.DecompPad
public import proofs.«01_k».proof.Proof.DecompBody

@[expose] public section

set_option maxRecDepth 16384

noncomputable section

namespace Cert.Kernel2Ideal.Blocks

open Cert.Kernel2Ideal Cert.Kernel2Ideal.Gen Cert.Kernel2Ideal.Run Cert.Kernel2Ideal.Payload Cert.Kernel2Ideal.Pad Cert.MovingAverage
open Idealize.ShloMosaic.TcCoe Idealize.SL.Sem Idealize.ShloMosaic.ValueIdx
open Idealize.ShloMosaic hiding ix0 ix1 ix2 ix3 ix4 ix5 eq_ix3
open Idealize.ShloMosaic.Pipeline (Dat)

variable (m : (ℓ : Loc nD τ sig) → Buf (Elt Ideal) ℓ) (ρ : Dev nD → PrngReg) (c : Dev nD)

/-! ## Where the windows' blocks lie -/

/-- The batch row of a grid point. -/
def batch (t : Fin cfg0.N) : Fin 4 := ⟨t.val / 16, by have : t.val < 64 := t.isLt; omega⟩
/-- The tile of a grid point. -/
def tile (t : Fin cfg0.N) : ℕ := t.val % 16
theorem tile_lt (t : Fin cfg0.N) : tile t < 16 := Nat.mod_lt _ (by decide)

theorem index0 : ∀ t : Fin cfg0.N, win0_0.index t 0 = t.val / 16 ∧ win0_0.index t 1 = tile t ∧ win0_0.index t 2 = 0 := by decide +kernel
theorem index1 : ∀ t : Fin cfg0.N, win0_1.index t 0 = t.val / 16 ∧ win0_1.index t 1 = (tile t + 1) * 16 ∧ win0_1.index t 2 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = t.val / 16 ∧ win0_8.index t 1 = tile t ∧ win0_8.index t 2 = 0 := by decide +kernel
theorem index9 : ∀ t : Fin cfg0.N, win0_9.index t 0 = t.val / 16 ∧ win0_9.index t 1 = tile t ∧ win0_9.index t 2 = 0 := by decide +kernel
theorem index10 : ∀ t : Fin cfg0.N, win0_10.index t 0 = t.val / 16 ∧ win0_10.index t 1 = tile t ∧ win0_10.index t 2 = 0 := by decide +kernel
theorem index11 : ∀ t : Fin cfg0.N, win0_11.index t 0 = t.val / 16 ∧ win0_11.index t 1 = tile t ∧ win0_11.index t 2 = 0 := by decide +kernel
theorem index12 : ∀ t : Fin cfg0.N, win0_12.index t 0 = t.val / 16 ∧ win0_12.index t 1 = tile t ∧ win0_12.index t 2 = 0 := by decide +kernel

/-! ## What the blocks hold -/

theorem block0 (t : Fin cfg0.N) (r : Fin 512) (d : Fin 768) :
    View.ld (X0_0 m c t) r0_0 (ix3 0 r d) = m ((c : Thread nD τ).loc main_arg0) (ix3 (batch t) (crow (512 * tile t + r.val)) d) := by
  have hr := r.isLt
  have hn := tile_lt t
  obtain ⟨e0, e1, e2⟩ := index0 t
  show (cfg0.win 0).fill (cfg0.grid.coords t) _ (iblk m c 0 t) (r0_0.idx (ix3 0 r d)) = _
  unfold Pipeline.Window.fill
  rw [dif_pos (moved0_0 t (r0_0.idx (ix3 0 r d)))]
  unfold iblk
  rw [View.read_apply]
  rw [← V_pad m c (batch t) ⟨512 * tile t + r.val, by omega⟩ d]
  show V m c main_v0 _ = _
  refine congrArg (V m c main_v0) (funext fun a => Fin.ext ?_)
  match a with
  | ⟨0, _⟩ => show win0_0.index t 0 * 1 + 1 * (0 + 1 * 0) = t.val / 16; rw [e0]; omega
  | ⟨1, _⟩ => show win0_0.index t 1 * 512 + 1 * (0 + 1 * r.val) = 512 * tile t + r.val; rw [e1]; omega
  | ⟨2, _⟩ => show win0_0.index t 2 * 768 + 1 * (0 + 1 * d.val) = d.val; rw [e2]; omega

theorem block1 (t : Fin cfg0.N) (r : Fin 24) (d : Fin 768) :
    View.ld (X0_1 m c t) r0_1 (ix3 0 r d) = m ((c : Thread nD τ).loc main_arg0) (ix3 (batch t) (crow (512 * tile t + (512 + r.val))) d) := by
  have hr := r.isLt
  have hn := tile_lt t
  obtain ⟨e0, e1, e2⟩ := index1 t
  show (cfg0.win 1).fill (cfg0.grid.coords t) _ (iblk m c 1 t) (r0_1.idx (ix3 0 r d)) = _
  unfold Pipeline.Window.fill
  rw [dif_pos (moved0_1 t (ix3 0 r d))]
  unfold iblk
  rw [View.read_apply]
  rw [← V_pad m c (batch t) ⟨512 * tile t + (512 + r.val), by omega⟩ d]
  show V m c main_v0 _ = _
  refine congrArg (V m c main_v0) (funext fun a => Fin.ext ?_)
  match a with
  | ⟨0, _⟩ => show win0_1.index t 0 * 1 + 1 * (0 + 1 * 0) = t.val / 16; rw [e0]; omega
  | ⟨1, _⟩ => show win0_1.index t 1 * 32 + 1 * (0 + 1 * r.val) = 512 * tile t + (512 + r.val); rw [e1]; omega
  | ⟨2, _⟩ => show win0_1.index t 2 * 768 + 1 * (0 + 1 * d.val) = d.val; rw [e2]; omega

theorem block2 (t : Fin cfg0.N) (r : Fin 768) (d : Fin 768) :
    View.ld (iblk m c 2 t) r0_2 (ix2 r d) = m ((c : Thread nD τ).loc main_arg1) (ix2 r d) := by
  obtain ⟨e0, e1⟩ := index2 t
  show iblk m c 2 t (r0_2.idx (ix2 r d)) = _
  unfold iblk
  rw [View.read_apply]
  show V m c main_arg1 _ = _
  rw [V_main_arg1]
  refine congrArg (m ((c : Thread nD τ).loc main_arg1)) (funext fun a => Fin.ext ?_)
  match a with
  | ⟨0, _⟩ => show win0_2.index t 0 * 768 + 1 * (0 + 1 * r.val) = r.val; rw [e0]; omega
  | ⟨1, _⟩ => show win0_2.index t 1 * 768 + 1 * (0 + 1 * d.val) = d.val; rw [e1]; omega

theorem block4 (t : Fin cfg0.N) (r : Fin 768) (d : Fin 768) :
    View.ld (iblk m c 4 t) r0_2 (ix2 r d) = m ((c : Thread nD τ).loc main_arg3) (ix2 r d) := by
  obtain ⟨e0, e1⟩ := index4 t
  show iblk m c 4 t (r0_2.idx (ix2 r d)) = _
  unfold iblk
  rw [View.read_apply]
  show V m c main_arg3 _ = _
  rw [V_main_arg3]
  refine congrArg (m ((c : Thread nD τ).loc main_arg3)) (funext fun a => Fin.ext ?_)
  match a with
  | ⟨0, _⟩ => show win0_4.index t 0 * 768 + 1 * (0 + 1 * r.val) = r.val; rw [e0]; omega
  | ⟨1, _⟩ => show win0_4.index t 1 * 768 + 1 * (0 + 1 * d.val) = d.val; rw [e1]; omega

theorem block6 (t : Fin cfg0.N) (r : Fin 768) (d : Fin 768) :
    View.ld (iblk m c 6 t) r0_2 (ix2 r d) = m ((c : Thread nD τ).loc main_arg5) (ix2 r d) := by
  obtain ⟨e0, e1⟩ := index6 t
  show iblk m c 6 t (r0_2.idx (ix2 r d)) = _
  unfold iblk
  rw [View.read_apply]
  show V m c main_arg5 _ = _
  rw [V_main_arg5]
  refine congrArg (m ((c : Thread nD τ).loc main_arg5)) (funext fun a => Fin.ext ?_)
  match a with
  | ⟨0, _⟩ => show win0_6.index t 0 * 768 + 1 * (0 + 1 * r.val) = r.val; rw [e0]; omega
  | ⟨1, _⟩ => show win0_6.index t 1 * 768 + 1 * (0 + 1 * d.val) = d.val; rw [e1]; omega

theorem block3 (t : Fin cfg0.N) (d : Fin 768) :
    View.ld (iblk m c 3 t) r0_3 (ix2 (0 : Fin 1) d) = m ((c : Thread nD τ).loc main_arg2) (ix1 d) := by
  obtain ⟨e0, e1⟩ := index3 t
  refine Eq.trans ?_ (V_bq m c d)
  show iblk m c 3 t (r0_3.idx (ix2 (0 : Fin 1) d)) = _
  unfold iblk
  rw [View.read_apply]
  show V m c main_v1 _ = _
  refine congrArg (V m c main_v1) (funext fun a => Fin.ext ?_)
  match a with
  | ⟨0, _⟩ => show win0_3.index t 0 * 1 + 1 * (0 + 1 * 0) = 0; rw [e0]
  | ⟨1, _⟩ => show win0_3.index t 1 * 768 + 1 * (0 + 1 * d.val) = d.val; rw [e1]; omega

theorem block5 (t : Fin cfg0.N) (d : Fin 768) :
    View.ld (iblk m c 5 t) r0_3 (ix2 (0 : Fin 1) d) = m ((c : Thread nD τ).loc main_arg4) (ix1 d) := by
  obtain ⟨e0, e1⟩ := index5 t
  refine Eq.trans ?_ (V_bk m c d)
  show iblk m c 5 t (r0_3.idx (ix2 (0 : Fin 1) d)) = _
  unfold iblk
  rw [View.read_apply]
  show V m c main_v2 _ = _
  refine congrArg (V m c main_v2) (funext fun a => Fin.ext ?_)
  match a with
  | ⟨0, _⟩ => show win0_5.index t 0 * 1 + 1 * (0 + 1 * 0) = 0; rw [e0]
  | ⟨1, _⟩ => show win0_5.index t 1 * 768 + 1 * (0 + 1 * d.val) = d.val; rw [e1]; omega

theorem block7 (t : Fin cfg0.N) (d : Fin 768) :
    View.ld (iblk m c 7 t) r0_3 (ix2 (0 : Fin 1) d) = m ((c : Thread nD τ).loc main_arg6) (ix1 d) := by
  obtain ⟨e0, e1⟩ := index7 t
  refine Eq.trans ?_ (V_bv m c d)
  show iblk m c 7 t (r0_3.idx (ix2 (0 : Fin 1) d)) = _
  unfold iblk
  rw [View.read_apply]
  show V m c main_v3 _ = _
  refine congrArg (V m c main_v3) (funext fun a => Fin.ext ?_)
  match a with
  | ⟨0, _⟩ => show win0_7.index t 0 * 1 + 1 * (0 + 1 * 0) = 0; rw [e0]
  | ⟨1, _⟩ => show win0_7.index t 1 * 768 + 1 * (0 + 1 * d.val) = d.val; rw [e1]; omega

/-- The input, as an array of extended reals. -/
abbrev inp : Arr := m ((c : Thread nD τ).loc main_arg0)

/-- The blocks the tile is built from hold the rows it wants. -/
theorem rows (t : Fin cfg0.N) : Rows (View.ld (X0_0 m c t) r0_0) (View.ld (X0_1 m c t) r0_1) (tile t) (inp m c) (batch t) where
  low r d := block0 m c t r d
  high r d := block1 m c t r d

/-! ## What a grid point writes back -/

theorem zero3 : (![0, 0, 0] : Fin 3 → Nat) = fun _ => 0 := funext fun a => by fin_cases a <;> rfl

/-- The five results, each as one function of the arguments: the remainder, the moving average, and three linear maps of
    the remainder. -/
def G8 : Arr := fun j => rest (inp m c) (j 0) (j 1) (j 2)
def G9 : Arr := fun j => mean (inp m c) (j 0) (j 1) (j 2)
def G10 : Arr := fun j => linear (inp m c) (m ((c : Thread nD τ).loc main_arg1)) (m ((c : Thread nD τ).loc main_arg2)) (j 0) (j 1) (j 2)
def G11 : Arr := fun j => linear (inp m c) (m ((c : Thread nD τ).loc main_arg3)) (m ((c : Thread nD τ).loc main_arg4)) (j 0) (j 1) (j 2)
def G12 : Arr := fun j => linear (inp m c) (m ((c : Thread nD τ).loc main_arg5)) (m ((c : Thread nD τ).loc main_arg6)) (j 0) (j 1) (j 2)

section Stored

variable (x0 : Vec Ideal S1x512x768 .f32) (x1 : Vec Ideal S1x32x768 .f32) (x2 : Vec Ideal S768x768 .f32) (x3 : Vec Ideal S1x768 .f32) (x4 : Vec Ideal S768x768 .f32) (x5 : Vec Ideal S1x768 .f32) (x6 : Vec Ideal S768x768 .f32) (x7 : Vec Ideal S1x768 .f32)
  {n : ℕ} {x : Arr} {b : Fin 4} (hn : n < 16) (H : Rows (View.ld x0 r0_0) (View.ld x1 r0_1) n x b) (r : Fin 512) (d : Fin 768)
include H

theorem out8_eq : out0_8 (F := Ideal) x0 x1 x2 x3 x4 x5 x6 x7 (ix3 0 r d) = rest x b (time n hn r) d := by
  unfold out0_8
  rw [View.canon_unit_zero zero3]
  unfold k0_pay10 k0_pay11
  rw [pay6_apply hn H]

theorem out9_eq : out0_9 (F := Ideal) x0 x1 x2 x3 x4 x5 x6 x7 (ix3 0 r d) = mean x b (time n hn r) d := by
  unfold out0_9
  rw [View.canon_unit_zero zero3]
  unfold k0_pay10 k0_pay11
  rw [pay7_apply hn H]

theorem out10_eq : out0_10 (F := Ideal) x0 x1 x2 x3 x4 x5 x6 x7 (ix3 0 r d)
    = (∑ k : Fin 768, rest x b (time n hn r) k * View.ld x2 r0_2 (ix2 k d)) + View.ld x3 r0_3 (ix2 0 d) := by
  unfold out0_10
  rw [View.canon_unit_zero zero3]
  unfold k0_pay10 k0_pay11
  rw [pay8_eq, pay1_rest hn H]

theorem out11_eq : out0_11 (F := Ideal) x0 x1 x2 x3 x4 x5 x6 x7 (ix3 0 r d)
    = (∑ k : Fin 768, rest x b (time n hn r) k * View.ld x4 r0_2 (ix2 k d)) + View.ld x5 r0_3 (ix2 0 d) := by
  unfold out0_11
  rw [View.canon_unit_zero zero3]
  unfold k0_pay10 k0_pay11
  rw [pay9_eq, pay1_rest hn H]

theorem out12_eq : out0_12 (F := Ideal) x0 x1 x2 x3 x4 x5 x6 x7 (ix3 0 r d)
    = (∑ k : Fin 768, rest x b (time n hn r) k * View.ld x6 r0_2 (ix2 k d)) + View.ld x7 r0_3 (ix2 0 d) := by
  unfold out0_12
  rw [View.canon_unit_zero zero3]
  unfold k0_pay10 k0_pay11
  rw [pay1_rest hn H]

end Stored

theorem out8_apply (t : Fin cfg0.N) (r : Fin 512) (d : Fin 768) :
    out0_8 (X0_0 m c t) (X0_1 m c t) (iblk m c 2 t) (iblk m c 3 t) (iblk m c 4 t) (iblk m c 5 t) (iblk m c 6 t) (iblk m c 7 t) (ix3 0 r d) = G8 m c (ix3 (batch t) (time (tile t) (tile_lt t) r) d) := by
  refine (out8_eq _ _ _ _ _ _ _ _ (tile_lt t) (rows m c t) r d).trans ?_
  rfl

theorem out9_apply (t : Fin cfg0.N) (r : Fin 512) (d : Fin 768) :
    out0_9 (X0_0 m c t) (X0_1 m c t) (iblk m c 2 t) (iblk m c 3 t) (iblk m c 4 t) (iblk m c 5 t) (iblk m c 6 t) (iblk m c 7 t) (ix3 0 r d) = G9 m c (ix3 (batch t) (time (tile t) (tile_lt t) r) d) := by
  refine (out9_eq _ _ _ _ _ _ _ _ (tile_lt t) (rows m c t) r d).trans ?_
  rfl

theorem out10_apply (t : Fin cfg0.N) (r : Fin 512) (d : Fin 768) :
    out0_10 (X0_0 m c t) (X0_1 m c t) (iblk m c 2 t) (iblk m c 3 t) (iblk m c 4 t) (iblk m c 5 t) (iblk m c 6 t) (iblk m c 7 t) (ix3 0 r d) = G10 m c (ix3 (batch t) (time (tile t) (tile_lt t) r) d) := by
  refine (out10_eq _ _ _ _ _ _ _ _ (tile_lt t) (rows m c t) r d).trans ?_
  show _ = linear _ _ _ (batch t) (time (tile t) (tile_lt t) r) d
  unfold linear
  exact congrArg₂ (· + ·) (Finset.sum_congr rfl fun k _ => congrArg₂ (· * ·) rfl (block2 m c t k d)) (block3 m c t d)

theorem out11_apply (t : Fin cfg0.N) (r : Fin 512) (d : Fin 768) :
    out0_11 (X0_0 m c t) (X0_1 m c t) (iblk m c 2 t) (iblk m c 3 t) (iblk m c 4 t) (iblk m c 5 t) (iblk m c 6 t) (iblk m c 7 t) (ix3 0 r d) = G11 m c (ix3 (batch t) (time (tile t) (tile_lt t) r) d) := by
  refine (out11_eq _ _ _ _ _ _ _ _ (tile_lt t) (rows m c t) r d).trans ?_
  show _ = linear _ _ _ (batch t) (time (tile t) (tile_lt t) r) d
  unfold linear
  exact congrArg₂ (· + ·) (Finset.sum_congr rfl fun k _ => congrArg₂ (· * ·) rfl (block4 m c t k d)) (block5 m c t d)

theorem out12_apply (t : Fin cfg0.N) (r : Fin 512) (d : Fin 768) :
    out0_12 (X0_0 m c t) (X0_1 m c t) (iblk m c 2 t) (iblk m c 3 t) (iblk m c 4 t) (iblk m c 5 t) (iblk m c 6 t) (iblk m c 7 t) (ix3 0 r d) = G12 m c (ix3 (batch t) (time (tile t) (tile_lt t) r) d) := by
  refine (out12_eq _ _ _ _ _ _ _ _ (tile_lt t) (rows m c t) r d).trans ?_
  show _ = linear _ _ _ (batch t) (time (tile t) (tile_lt t) r) d
  unfold linear
  exact congrArg₂ (· + ·) (Finset.sum_congr rfl fun k _ => congrArg₂ (· * ·) rfl (block6 m c t k d)) (block7 m c t d)

/-! ## The arrays after the run -/

theorem flushed8 (t : Fin cfg0.N) (hf : (cfg0.win 8).flush t = true) :
    (dats m 0 c).flushed 8 t = ((cfg0.win 8).blk t).view.read (Elt Ideal) (G8 m c) := by
  show (cfg0.win 8).cut (grid0.coords t) ((dats m 0 c).after 8 t) = _
  rw [after0_8]
  funext j
  obtain ⟨z, r, d, rfl⟩ : ∃ (z : Fin 1) (r : Fin 512) (d : Fin 768), j = ix3 z r d := ⟨_, _, _, eq_ix3 (j : (⟨3, ![1, 512, 768]⟩ : Shape).Idx)⟩
  obtain rfl : z = 0 := Subsingleton.elim _ _
  rw [View.read_apply]
  refine (out8_apply m c t r d).trans ?_
  obtain ⟨e0, e1, e2⟩ := index8 t
  show G8 m c _ = G8 m c _
  refine congrArg (G8 m c) (funext fun a => Fin.ext ?_)
  match a with
  | ⟨0, _⟩ => show t.val / 16 = win0_8.index t 0 * 1 + 1 * 0; rw [e0]; omega
  | ⟨1, _⟩ => show 512 * tile t + r.val = win0_8.index t 1 * 512 + 1 * r.val; rw [e1]; omega
  | ⟨2, _⟩ => show d.val = win0_8.index t 2 * 768 + 1 * d.val; rw [e2]; omega

theorem flushes8 : ∀ t : Fin cfg0.N, (cfg0.win 8).flush t = true := by decide +kernel

theorem final8 : (dats m 0 c).arrAt 8 cfg0.N = G8 m c :=
  (dats m 0 c).arrAt_eq_of_cover 8 (G8 m c) (flushed8 m c) fun i => by
    have h0 : (i 0).val < 4 := (i 0).isLt
    have h1 : (i 1).val < 8192 := (i 1).isLt
    have h2 : (i 2).val < 768 := (i 2).isLt
    refine ⟨⟨(i 0).val * 16 + (i 1).val / 512, by show _ < 64; omega⟩, flushes8 _, ?_⟩
    generalize ht : (⟨(i 0).val * 16 + (i 1).val / 512, _⟩ : Fin cfg0.N) = t
    have hv : t.val = (i 0).val * 16 + (i 1).val / 512 := by rw [← ht]
    obtain ⟨e0, e1, e2⟩ := index8 t
    have hk : tile t = (i 1).val / 512 := by unfold tile; omega
    show i ∈ ((View.whole main_v4_0).slice (win0_8.rect t)).set
    rw [View.set_slice_whole, Rect.mem_set_unit]
    intro a
    match a with
    | ⟨0, _⟩ => show win0_8.index t 0 * 1 ≤ (i 0).val ∧ (i 0).val < win0_8.index t 0 * 1 + 1; rw [e0]; omega
    | ⟨1, _⟩ => show win0_8.index t 1 * 512 ≤ (i 1).val ∧ (i 1).val < win0_8.index t 1 * 512 + 512; rw [e1]; omega
    | ⟨2, _⟩ => show win0_8.index t 2 * 768 ≤ (i 2).val ∧ (i 2).val < win0_8.index t 2 * 768 + 768; rw [e2]; omega

theorem flushed9 (t : Fin cfg0.N) (hf : (cfg0.win 9).flush t = true) :
    (dats m 0 c).flushed 9 t = ((cfg0.win 9).blk t).view.read (Elt Ideal) (G9 m c) := by
  show (cfg0.win 9).cut (grid0.coords t) ((dats m 0 c).after 9 t) = _
  rw [after0_9]
  funext j
  obtain ⟨z, r, d, rfl⟩ : ∃ (z : Fin 1) (r : Fin 512) (d : Fin 768), j = ix3 z r d := ⟨_, _, _, eq_ix3 (j : (⟨3, ![1, 512, 768]⟩ : Shape).Idx)⟩
  obtain rfl : z = 0 := Subsingleton.elim _ _
  rw [View.read_apply]
  refine (out9_apply m c t r d).trans ?_
  obtain ⟨e0, e1, e2⟩ := index9 t
  show G9 m c _ = G9 m c _
  refine congrArg (G9 m c) (funext fun a => Fin.ext ?_)
  match a with
  | ⟨0, _⟩ => show t.val / 16 = win0_9.index t 0 * 1 + 1 * 0; rw [e0]; omega
  | ⟨1, _⟩ => show 512 * tile t + r.val = win0_9.index t 1 * 512 + 1 * r.val; rw [e1]; omega
  | ⟨2, _⟩ => show d.val = win0_9.index t 2 * 768 + 1 * d.val; rw [e2]; omega

theorem flushes9 : ∀ t : Fin cfg0.N, (cfg0.win 9).flush t = true := by decide +kernel

theorem final9 : (dats m 0 c).arrAt 9 cfg0.N = G9 m c :=
  (dats m 0 c).arrAt_eq_of_cover 9 (G9 m c) (flushed9 m c) fun i => by
    have h0 : (i 0).val < 4 := (i 0).isLt
    have h1 : (i 1).val < 8192 := (i 1).isLt
    have h2 : (i 2).val < 768 := (i 2).isLt
    refine ⟨⟨(i 0).val * 16 + (i 1).val / 512, by show _ < 64; omega⟩, flushes9 _, ?_⟩
    generalize ht : (⟨(i 0).val * 16 + (i 1).val / 512, _⟩ : Fin cfg0.N) = t
    have hv : t.val = (i 0).val * 16 + (i 1).val / 512 := by rw [← ht]
    obtain ⟨e0, e1, e2⟩ := index9 t
    have hk : tile t = (i 1).val / 512 := by unfold tile; omega
    show i ∈ ((View.whole main_v4_1).slice (win0_9.rect t)).set
    rw [View.set_slice_whole, Rect.mem_set_unit]
    intro a
    match a with
    | ⟨0, _⟩ => show win0_9.index t 0 * 1 ≤ (i 0).val ∧ (i 0).val < win0_9.index t 0 * 1 + 1; rw [e0]; omega
    | ⟨1, _⟩ => show win0_9.index t 1 * 512 ≤ (i 1).val ∧ (i 1).val < win0_9.index t 1 * 512 + 512; rw [e1]; omega
    | ⟨2, _⟩ => show win0_9.index t 2 * 768 ≤ (i 2).val ∧ (i 2).val < win0_9.index t 2 * 768 + 768; rw [e2]; omega

theorem flushed10 (t : Fin cfg0.N) (hf : (cfg0.win 10).flush t = true) :
    (dats m 0 c).flushed 10 t = ((cfg0.win 10).blk t).view.read (Elt Ideal) (G10 m c) := by
  show (cfg0.win 10).cut (grid0.coords t) ((dats m 0 c).after 10 t) = _
  rw [after0_10]
  funext j
  obtain ⟨z, r, d, rfl⟩ : ∃ (z : Fin 1) (r : Fin 512) (d : Fin 768), j = ix3 z r d := ⟨_, _, _, eq_ix3 (j : (⟨3, ![1, 512, 768]⟩ : Shape).Idx)⟩
  obtain rfl : z = 0 := Subsingleton.elim _ _
  rw [View.read_apply]
  refine (out10_apply m c t r d).trans ?_
  obtain ⟨e0, e1, e2⟩ := index10 t
  show G10 m c _ = G10 m c _
  refine congrArg (G10 m c) (funext fun a => Fin.ext ?_)
  match a with
  | ⟨0, _⟩ => show t.val / 16 = win0_10.index t 0 * 1 + 1 * 0; rw [e0]; omega
  | ⟨1, _⟩ => show 512 * tile t + r.val = win0_10.index t 1 * 512 + 1 * r.val; rw [e1]; omega
  | ⟨2, _⟩ => show d.val = win0_10.index t 2 * 768 + 1 * d.val; rw [e2]; omega

theorem flushes10 : ∀ t : Fin cfg0.N, (cfg0.win 10).flush t = true := by decide +kernel

theorem final10 : (dats m 0 c).arrAt 10 cfg0.N = G10 m c :=
  (dats m 0 c).arrAt_eq_of_cover 10 (G10 m c) (flushed10 m c) fun i => by
    have h0 : (i 0).val < 4 := (i 0).isLt
    have h1 : (i 1).val < 8192 := (i 1).isLt
    have h2 : (i 2).val < 768 := (i 2).isLt
    refine ⟨⟨(i 0).val * 16 + (i 1).val / 512, by show _ < 64; omega⟩, flushes10 _, ?_⟩
    generalize ht : (⟨(i 0).val * 16 + (i 1).val / 512, _⟩ : Fin cfg0.N) = t
    have hv : t.val = (i 0).val * 16 + (i 1).val / 512 := by rw [← ht]
    obtain ⟨e0, e1, e2⟩ := index10 t
    have hk : tile t = (i 1).val / 512 := by unfold tile; omega
    show i ∈ ((View.whole main_v4_2).slice (win0_10.rect t)).set
    rw [View.set_slice_whole, Rect.mem_set_unit]
    intro a
    match a with
    | ⟨0, _⟩ => show win0_10.index t 0 * 1 ≤ (i 0).val ∧ (i 0).val < win0_10.index t 0 * 1 + 1; rw [e0]; omega
    | ⟨1, _⟩ => show win0_10.index t 1 * 512 ≤ (i 1).val ∧ (i 1).val < win0_10.index t 1 * 512 + 512; rw [e1]; omega
    | ⟨2, _⟩ => show win0_10.index t 2 * 768 ≤ (i 2).val ∧ (i 2).val < win0_10.index t 2 * 768 + 768; rw [e2]; omega

theorem flushed11 (t : Fin cfg0.N) (hf : (cfg0.win 11).flush t = true) :
    (dats m 0 c).flushed 11 t = ((cfg0.win 11).blk t).view.read (Elt Ideal) (G11 m c) := by
  show (cfg0.win 11).cut (grid0.coords t) ((dats m 0 c).after 11 t) = _
  rw [after0_11]
  funext j
  obtain ⟨z, r, d, rfl⟩ : ∃ (z : Fin 1) (r : Fin 512) (d : Fin 768), j = ix3 z r d := ⟨_, _, _, eq_ix3 (j : (⟨3, ![1, 512, 768]⟩ : Shape).Idx)⟩
  obtain rfl : z = 0 := Subsingleton.elim _ _
  rw [View.read_apply]
  refine (out11_apply m c t r d).trans ?_
  obtain ⟨e0, e1, e2⟩ := index11 t
  show G11 m c _ = G11 m c _
  refine congrArg (G11 m c) (funext fun a => Fin.ext ?_)
  match a with
  | ⟨0, _⟩ => show t.val / 16 = win0_11.index t 0 * 1 + 1 * 0; rw [e0]; omega
  | ⟨1, _⟩ => show 512 * tile t + r.val = win0_11.index t 1 * 512 + 1 * r.val; rw [e1]; omega
  | ⟨2, _⟩ => show d.val = win0_11.index t 2 * 768 + 1 * d.val; rw [e2]; omega

theorem flushes11 : ∀ t : Fin cfg0.N, (cfg0.win 11).flush t = true := by decide +kernel

theorem final11 : (dats m 0 c).arrAt 11 cfg0.N = G11 m c :=
  (dats m 0 c).arrAt_eq_of_cover 11 (G11 m c) (flushed11 m c) fun i => by
    have h0 : (i 0).val < 4 := (i 0).isLt
    have h1 : (i 1).val < 8192 := (i 1).isLt
    have h2 : (i 2).val < 768 := (i 2).isLt
    refine ⟨⟨(i 0).val * 16 + (i 1).val / 512, by show _ < 64; omega⟩, flushes11 _, ?_⟩
    generalize ht : (⟨(i 0).val * 16 + (i 1).val / 512, _⟩ : Fin cfg0.N) = t
    have hv : t.val = (i 0).val * 16 + (i 1).val / 512 := by rw [← ht]
    obtain ⟨e0, e1, e2⟩ := index11 t
    have hk : tile t = (i 1).val / 512 := by unfold tile; omega
    show i ∈ ((View.whole main_v4_3).slice (win0_11.rect t)).set
    rw [View.set_slice_whole, Rect.mem_set_unit]
    intro a
    match a with
    | ⟨0, _⟩ => show win0_11.index t 0 * 1 ≤ (i 0).val ∧ (i 0).val < win0_11.index t 0 * 1 + 1; rw [e0]; omega
    | ⟨1, _⟩ => show win0_11.index t 1 * 512 ≤ (i 1).val ∧ (i 1).val < win0_11.index t 1 * 512 + 512; rw [e1]; omega
    | ⟨2, _⟩ => show win0_11.index t 2 * 768 ≤ (i 2).val ∧ (i 2).val < win0_11.index t 2 * 768 + 768; rw [e2]; omega

theorem flushed12 (t : Fin cfg0.N) (hf : (cfg0.win 12).flush t = true) :
    (dats m 0 c).flushed 12 t = ((cfg0.win 12).blk t).view.read (Elt Ideal) (G12 m c) := by
  show (cfg0.win 12).cut (grid0.coords t) ((dats m 0 c).after 12 t) = _
  rw [after0_12]
  funext j
  obtain ⟨z, r, d, rfl⟩ : ∃ (z : Fin 1) (r : Fin 512) (d : Fin 768), j = ix3 z r d := ⟨_, _, _, eq_ix3 (j : (⟨3, ![1, 512, 768]⟩ : Shape).Idx)⟩
  obtain rfl : z = 0 := Subsingleton.elim _ _
  rw [View.read_apply]
  refine (out12_apply m c t r d).trans ?_
  obtain ⟨e0, e1, e2⟩ := index12 t
  show G12 m c _ = G12 m c _
  refine congrArg (G12 m c) (funext fun a => Fin.ext ?_)
  match a with
  | ⟨0, _⟩ => show t.val / 16 = win0_12.index t 0 * 1 + 1 * 0; rw [e0]; omega
  | ⟨1, _⟩ => show 512 * tile t + r.val = win0_12.index t 1 * 512 + 1 * r.val; rw [e1]; omega
  | ⟨2, _⟩ => show d.val = win0_12.index t 2 * 768 + 1 * d.val; rw [e2]; omega

theorem flushes12 : ∀ t : Fin cfg0.N, (cfg0.win 12).flush t = true := by decide +kernel

theorem final12 : (dats m 0 c).arrAt 12 cfg0.N = G12 m c :=
  (dats m 0 c).arrAt_eq_of_cover 12 (G12 m c) (flushed12 m c) fun i => by
    have h0 : (i 0).val < 4 := (i 0).isLt
    have h1 : (i 1).val < 8192 := (i 1).isLt
    have h2 : (i 2).val < 768 := (i 2).isLt
    refine ⟨⟨(i 0).val * 16 + (i 1).val / 512, by show _ < 64; omega⟩, flushes12 _, ?_⟩
    generalize ht : (⟨(i 0).val * 16 + (i 1).val / 512, _⟩ : Fin cfg0.N) = t
    have hv : t.val = (i 0).val * 16 + (i 1).val / 512 := by rw [← ht]
    obtain ⟨e0, e1, e2⟩ := index12 t
    have hk : tile t = (i 1).val / 512 := by unfold tile; omega
    show i ∈ ((View.whole main_v4_4).slice (win0_12.rect t)).set
    rw [View.set_slice_whole, Rect.mem_set_unit]
    intro a
    match a with
    | ⟨0, _⟩ => show win0_12.index t 0 * 1 ≤ (i 0).val ∧ (i 0).val < win0_12.index t 0 * 1 + 1; rw [e0]; omega
    | ⟨1, _⟩ => show win0_12.index t 1 * 512 ≤ (i 1).val ∧ (i 1).val < win0_12.index t 1 * 512 + 512; rw [e1]; omega
    | ⟨2, _⟩ => show win0_12.index t 2 * 768 ≤ (i 2).val ∧ (i 2).val < win0_12.index t 2 * 768 + 768; rw [e2]; omega

/-- Every execution ends with the five result arrays at `G8` … `G12`, the arguments unchanged. -/
theorem run : θ_run defs (onTc (τ := τ) (main (F := Ideal))) ⟨m, fun _ => 0, ρ⟩ fun r => ∀ c : Dev nD,
      r.2.mem ((c : Thread nD τ).loc main_v4_0) = G8 m c
      ∧ r.2.mem ((c : Thread nD τ).loc main_v4_1) = G9 m c
      ∧ r.2.mem ((c : Thread nD τ).loc main_v4_2) = G10 m c
      ∧ r.2.mem ((c : Thread nD τ).loc main_v4_3) = G11 m c
      ∧ r.2.mem ((c : Thread nD τ).loc main_v4_4) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).1 8).trans (final8 m c),
    ((h c).1 9).trans (final9 m c),
    ((h c).1 10).trans (final10 m c),
    ((h c).1 11).trans (final11 m c),
    ((h c).1 12).trans (final12 m c),
    ((h c).2 main_arg0 (Pipeline.mem_restRefs_of main_arg0 (by decide) (by decide))).trans (V_main_arg0 m c),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).1 4).trans (((dats m 0 c).arrAt_in 4 rfl _).trans ((A_eq m c 4).trans (V_main_arg3 m c))),
    ((h c).2 main_arg4 (Pipeline.mem_restRefs_of main_arg4 (by decide) (by decide))).trans (V_main_arg4 m c),
    ((h c).1 6).trans (((dats m 0 c).arrAt_in 6 rfl _).trans ((A_eq m c 6).trans (V_main_arg5 m c))),
    ((h c).2 main_arg6 (Pipeline.mem_restRefs_of main_arg6 (by decide) (by decide))).trans (V_main_arg6 m c)⟩) (run_main m ρ)

end Cert.Kernel2Ideal.Blocks

end
-- ==== Proof.DecompReference.lean ====
/-
  The first call's reference, read at an index: its five results are the remainder, the moving average and three linear
  maps of the remainder.
-/
module

public import proofs.«01_k».proof.Proof.Gen.Reference2Ideal.Read
public import proofs.«01_k».proof.Proof.DecompBody

@[expose] public section

set_option maxRecDepth 16384

noncomputable section

namespace Cert.Reference2Ideal.Reading

open Cert.Reference2Ideal Cert.Reference2Ideal.Gen Cert.Reference2Ideal.Read Cert.MovingAverage
open Idealize.ShloMosaic Idealize.ShloMosaic.TcCoe Idealize.ShloMosaic.ValueIdx

variable (x : Arr) (w : (⟨2, ![768, 768]⟩ : Shape).Idx → EReal) (z : (⟨1, ![768]⟩ : Shape).Idx → EReal)

theorem first_rows (b : Fin 4) (r : Fin 12) (d : Fin 768) : val_main_v1 (F := Ideal) x (ix3 b r d) = x (ix3 b 0 d) := by
  rw [val_main_v1_apply, val_main_v0_apply]
  exact congrArg x (funext fun a => by match a with | ⟨0, _⟩ => rfl | ⟨1, _⟩ => rfl | ⟨2, _⟩ => rfl)

theorem last_rows (b : Fin 4) (r : Fin 12) (d : Fin 768) : val_main_v3 (F := Ideal) x (ix3 b r d) = x (ix3 b 8191 d) := by
  rw [val_main_v3_apply, val_main_v2_apply]
  exact congrArg x (funext fun a => by match a with | ⟨0, _⟩ => rfl | ⟨1, _⟩ => rfl | ⟨2, _⟩ => rfl)

theorem v6_apply (b : Fin 4) (t : Fin 8192) (d : Fin 768) :
    val_main_v6 (F := Ideal) x (ix3 b t d) = ∑ k ∈ Finset.range 25, x (ix3 b (crow (t.val + k)) d) := by
  unfold val_main_v6
  refine (reduceWindowAdd_apply _ _ (fun i => ?_) _ _ b t d).trans (Finset.sum_congr rfl fun k hk => ?_)
  · rw [val_main_v5_apply, val_main_cst_apply]
    exact Ideal.ofBits_zero_f32
  · have hk' : k < 25 := Finset.mem_range.1 hk
    have ht := t.isLt
    exact concat_apply _ _ x _ (first_rows x) (last_rows x) b (t.val + k) (by omega) d

/-- The moving average. -/
theorem trend_apply (b : Fin 4) (t : Fin 8192) (d : Fin 768) : val_main_v8 (F := Ideal) x (ix3 b t d) = mean x b t d := by
  rw [val_main_v8_apply]
  refine Eq.trans (congrArg₂ Ideal.div (v6_apply x b t d) (show _ = Ideal.ofBits .f32 0x41C80000#32 from ?_)) (div_25 _)
  rw [val_main_v7_apply, val_main_cst_0_apply]
  rfl

/-- The remainder. -/
theorem season_apply (b : Fin 4) (t : Fin 8192) (d : Fin 768) : val_main_v9 (F := Ideal) x (ix3 b t d) = rest x b t d := by
  rw [val_main_v9_apply, trend_apply]
  rfl

/-- Its three linear maps. -/
theorem query_apply (b : Fin 4) (t : Fin 8192) (d : Fin 768) : val_main_v13 (F := Ideal) x w z (ix3 b t d) = linear x w z b t d := by
  rw [val_main_v13_apply, val_main_v10_apply, val_main_v12_apply, val_main_v11_apply]
  refine congrArg₂ (· + ·) (Finset.sum_congr rfl fun k _ => congrArg₂ (· * ·) ?_ ?_) ?_
  · refine Eq.trans ?_ (season_apply x b t k)
    exact congrArg (val_main_v9 (F := Ideal) x) (funext fun a => by match a with | ⟨0, _⟩ => rfl | ⟨1, _⟩ => rfl | ⟨2, _⟩ => rfl)
  · exact congrArg w (funext fun a => by match a with | ⟨0, _⟩ => rfl | ⟨1, _⟩ => rfl)
  · exact congrArg z (funext fun a => by match a with | ⟨0, _⟩ => rfl)

theorem key_apply (b : Fin 4) (t : Fin 8192) (d : Fin 768) : val_main_v17 (F := Ideal) x w z (ix3 b t d) = linear x w z b t d := by
  rw [val_main_v17_apply, val_main_v14_apply, val_main_v16_apply, val_main_v15_apply]
  refine congrArg₂ (· + ·) (Finset.sum_congr rfl fun k _ => congrArg₂ (· * ·) ?_ ?_) ?_
  · refine Eq.trans ?_ (season_apply x b t k)
    exact congrArg (val_main_v9 (F := Ideal) x) (funext fun a => by match a with | ⟨0, _⟩ => rfl | ⟨1, _⟩ => rfl | ⟨2, _⟩ => rfl)
  · exact congrArg w (funext fun a => by match a with | ⟨0, _⟩ => rfl | ⟨1, _⟩ => rfl)
  · exact congrArg z (funext fun a => by match a with | ⟨0, _⟩ => rfl)

theorem value_apply (b : Fin 4) (t : Fin 8192) (d : Fin 768) : val_main_v21 (F := Ideal) x w z (ix3 b t d) = linear x w z b t d := by
  rw [val_main_v21_apply, val_main_v18_apply, val_main_v20_apply, val_main_v19_apply]
  refine congrArg₂ (· + ·) (Finset.sum_congr rfl fun k _ => congrArg₂ (· * ·) ?_ ?_) ?_
  · refine Eq.trans ?_ (season_apply x b t k)
    exact congrArg (val_main_v9 (F := Ideal) x) (funext fun a => by match a with | ⟨0, _⟩ => rfl | ⟨1, _⟩ => rfl | ⟨2, _⟩ => rfl)
  · exact congrArg w (funext fun a => by match a with | ⟨0, _⟩ => rfl | ⟨1, _⟩ => rfl)
  · exact congrArg z (funext fun a => by match a with | ⟨0, _⟩ => rfl)

end Cert.Reference2Ideal.Reading

end
-- ==== Proof.DecompClaims.lean ====
/-
  The first call's claims: its two frames, the reference's frame, the named constant, and the equality of the kernel's
  results with the reference's at the ideal values.
-/
module

public import proofs.«01_k».proof.Defs
public import proofs.«01_k».proof.Proof.Gen.Reference2Ideal.Run
public import proofs.«01_k».proof.Proof.DecompRun
public import proofs.«01_k».proof.Proof.DecompBlocks
public import proofs.«01_k».proof.Proof.DecompReference
public import Idealize.ShloMosaic.Adequacy
public import Idealize.ShloMosaic.Init

@[expose] public section

noncomputable section

namespace Cert.Proof.Decomp

open Idealize.ShloMosaic Idealize.SL.Sem

theorem frameKernel : Cert.quiescent_Kernel2 := fun m ρ _ => Cert.Kernel2.Run.frame m ρ

theorem frameIdeal : Cert.quiescent_Kernel2Ideal := fun m ρ _ => Cert.Kernel2Ideal.Run.frame m ρ

/-- The reference writes none of its arguments, and declares no semaphore. -/
theorem frameReference : Cert.quiescent_Reference2Ideal := fun m ρ _ =>
  (θ_run Cert.Reference2Ideal.defs _ _).mono
    (fun r h => ⟨fun c => (h c).2.2.2.2.2, Idealize.ShloMosaic.sem_eq_zero_of_no_sems (by decide) r.2⟩)
    (Cert.Reference2Ideal.Value.run (F := Ideal) m ρ)

/-- The literal of the kernel that stands for 1/25. -/
theorem constants : Cert.preserves_Kernel2_Kernel2Ideal :=
  IdealRules.named_const.statement Cert.Kernel2Ideal.κ "inv_25" .f32 0x3D23D70A#32 ((1 / 25 : ℝ) : EReal) rfl

/-- Both programs end with the same five arrays. -/
theorem equal : Cert.algebraic_Kernel2Ideal_Reference2Ideal := by
  intro m g m' g' _ ha
  refine ⟨Cert.Kernel2Ideal.Blocks.G8 m, Cert.Kernel2Ideal.Blocks.G9 m, Cert.Kernel2Ideal.Blocks.G10 m,
    Cert.Kernel2Ideal.Blocks.G11 m, Cert.Kernel2Ideal.Blocks.G12 m, Cert.Kernel2Ideal.Blocks.run m g, ?_⟩
  refine (θ_run Cert.Reference2Ideal.defs _ _).mono (fun r h c => ⟨(h c).1.trans ?_, (h c).2.1.trans ?_,
    (h c).2.2.1.trans ?_, (h c).2.2.2.1.trans ?_, (h c).2.2.2.2.1.trans ?_, (h c).2.2.2.2.2⟩)
    (Cert.Reference2Ideal.Value.run (F := Ideal) m' g')
  all_goals obtain ⟨h0, h1, h2, h3, h4, h5, h6⟩ := ha c
  · refine (Cert.Reference2Ideal.Read.val_main_v9_eq _).trans ?_
    rw [h0]
    funext j
    rw [ValueIdx.eq_ix3 j]
    exact Cert.Reference2Ideal.Reading.season_apply _ _ _ _
  · refine (Cert.Reference2Ideal.Read.val_main_v8_eq _).trans ?_
    rw [h0]
    funext j
    rw [ValueIdx.eq_ix3 j]
    exact Cert.Reference2Ideal.Reading.trend_apply _ _ _ _
  · refine (Cert.Reference2Ideal.Read.val_main_v13_eq _ _ _).trans ?_
    rw [h0, h1, h2]
    funext j
    rw [ValueIdx.eq_ix3 j]
    exact Cert.Reference2Ideal.Reading.query_apply _ _ _ _ _ _
  · refine (Cert.Reference2Ideal.Read.val_main_v17_eq _ _ _).trans ?_
    rw [h0, h3, h4]
    funext j
    rw [ValueIdx.eq_ix3 j]
    exact Cert.Reference2Ideal.Reading.key_apply _ _ _ _ _ _
  · refine (Cert.Reference2Ideal.Read.val_main_v21_eq _ _ _).trans ?_
    rw [h0, h5, h6]
    funext j
    rw [ValueIdx.eq_ix3 j]
    exact Cert.Reference2Ideal.Reading.value_apply _ _ _ _ _ _

end Cert.Proof.Decomp

end
-- ==== Proof.TimeShift.lean ====
/-
  The words of a circular shift in time: a time step less a lag, modulo the 8192 time steps, the group of eight that the
  result lies in and its place there, all computed with 32-bit words, are the words of those numbers.
-/
module

public import Idealize.ShloMosaic.Lib.ValueIdx
public import Idealize.ShloMosaic.Lib.Routing.Words

@[expose] public section

namespace Cert.TimeShift

open Idealize.ShloMosaic

/-- The time step `t` less the lag `l`, around the end of the sequence. -/
def back (t l : ℕ) : ℕ := (t + 8192 - l) % 8192

theorem back_lt (t l : ℕ) : back t l < 8192 := Nat.mod_lt _ (by decide)

/-- The first time step a block of 512 takes for a lag, as a word. -/
def start (n : ℕ) (w : BitVec 32) : BitVec 32 :=
  Scalar.remsi (Scalar.addi (Scalar.subi (Scalar.muli (BitVec.ofNat 32 n) 512#32) w) 8192#32) 8192#32
/-- The group of eight time steps a time step lies in, as a word (the quotient by 8 rounded down). -/
def group (s : BitVec 32) : BitVec 32 :=
  Scalar.select (Scalar.andi (Scalar.cmpi .ne (Scalar.subi (Scalar.extui (Scalar.cmpi .sgt s 0#32)) (Scalar.extui (Scalar.cmpi .slt s 0#32)))
      (Scalar.subi (Scalar.extui (Scalar.cmpi .sgt 8#32 0#32)) (Scalar.extui (Scalar.cmpi .slt 8#32 0#32))))
    (Scalar.cmpi .ne (Scalar.remsi s 8#32) 0#32)) (Scalar.subi (Scalar.divsi s 8#32) 1#32) (Scalar.divsi s 8#32)
/-- Its place in the group, held between 0 and 7. -/
def place (s : BitVec 32) : BitVec 32 := Scalar.minsi (Scalar.maxsi (Scalar.subi s (Scalar.muli (group s) 8#32)) 0#32) 7#32

theorem group_place : ∀ s : Fin 8192, group (BitVec.ofNat 32 s.val) = BitVec.ofNat 32 (s.val / 8) ∧ place (BitVec.ofNat 32 s.val) = BitVec.ofNat 32 (s.val % 8) := by
  decide +kernel

theorem start_eq (n l : ℕ) (hn : n < 16) (hl : l < 8192) : start n (BitVec.ofNat 32 l) = BitVec.ofNat 32 (back (512 * n) l) := by
  have e : Scalar.addi (Scalar.subi (Scalar.muli (BitVec.ofNat 32 n) 512#32) (BitVec.ofNat 32 l)) 8192#32 = BitVec.ofNat 32 (512 * n + 8192 - l) := by
    show (BitVec.ofNat 32 n * 512#32 - BitVec.ofNat 32 l) + 8192#32 = _
    apply BitVec.eq_of_toNat_eq
    simp only [BitVec.toNat_add, BitVec.toNat_sub, BitVec.toNat_mul, BitVec.toNat_ofNat]
    omega
  unfold start
  rw [e]
  exact Routing.remsi_word _ (by omega) (by decide) (by decide)

/-- The first group a block takes for the lag `l`, and the one after its last. -/
theorem groups_eq (n l : ℕ) (hn : n < 16) (hl : l < 8192) :
    (Scalar.indexCast (group (start n (BitVec.ofNat 32 l)))).toNat = back (512 * n) l / 8
    ∧ (Scalar.indexCast (Scalar.addi (group (start n (BitVec.ofNat 32 l))) 64#32)).toNat = back (512 * n) l / 8 + 64 := by
  have h := back_lt (512 * n) l
  rw [start_eq n l hn hl, (group_place ⟨back (512 * n) l, h⟩).1]
  constructor
  · show (BitVec.ofNat 32 (back (512 * n) l / 8)).toNat = _
    rw [BitVec.toNat_ofNat]; omega
  · show (BitVec.ofNat 32 (back (512 * n) l / 8) + 64#32).toNat = _
    rw [BitVec.toNat_add, BitVec.toNat_ofNat]
    show (back (512 * n) l / 8 % 2 ^ 32 + 64) % 2 ^ 32 = _
    omega

theorem place_eq (n l : ℕ) (hn : n < 16) (hl : l < 8192) : place (start n (BitVec.ofNat 32 l)) = BitVec.ofNat 32 (back (512 * n) l % 8) := by
  rw [start_eq n l hn hl, (group_place ⟨back (512 * n) l, back_lt _ _⟩).2]

/-! ## The same shift by the remainder with the sign of the divisor -/

/-- The remainder of `a` by 8192 with the sign of the divisor, from the remainder `r` with the sign of the dividend, then
    a negative one counted from the end. -/
def wrapped (r : BitVec 32) : BitVec 32 :=
  let k : BitVec 32 := Scalar.select (IntOp.cmpi .eq 8192#32 0#32) 1#32 8192#32
  let q : BitVec 32 := Scalar.select (IntOp.andi (IntOp.cmpi .ne (IntOp.cmpi .slt r 0#32) (IntOp.cmpi .slt k 0#32)) (IntOp.cmpi .ne r 0#32)) (IntOp.addi r k) r
  Scalar.select (IntOp.cmpi .slt q 0#32) (IntOp.addi q 8192#32) q

theorem wrapped_nonneg : ∀ s : Fin 8192, wrapped (BitVec.ofNat 32 s.val) = BitVec.ofNat 32 s.val
    ∧ IntOp.andi (IntOp.cmpi .sge (BitVec.ofNat 32 s.val) 0#32) (IntOp.cmpi .sle (BitVec.ofNat 32 s.val) 8191#32) = 1#1 := by
  decide +kernel

theorem wrapped_neg : ∀ s : Fin 8192, s.val ≠ 0 → wrapped (0#32 - BitVec.ofNat 32 s.val) = BitVec.ofNat 32 (8192 - s.val) := by
  decide +kernel

theorem remsi_neg : ∀ s : Fin 8192, IntOp.remsi .host (0#32 - BitVec.ofNat 32 s.val) (Scalar.select (IntOp.cmpi .eq 8192#32 0#32) 1#32 8192#32) = 0#32 - BitVec.ofNat 32 s.val := by
  decide +kernel

/-- The time step `t` less the lag `l`, as the gather computes its index. -/
theorem wrapped_eq (t l : ℕ) (ht : t < 8192) (hl : l < 8192) :
    wrapped (IntOp.remsi .host (IntOp.subi (BitVec.ofNat 32 t) (BitVec.ofNat 32 l)) (Scalar.select (IntOp.cmpi .eq 8192#32 0#32) 1#32 8192#32)) = BitVec.ofNat 32 (back t l) := by
  have hk : Scalar.select (IntOp.cmpi .eq 8192#32 0#32) 1#32 8192#32 = BitVec.ofNat 32 8192 := by decide +kernel
  by_cases h : l ≤ t
  · have e : IntOp.subi (BitVec.ofNat 32 t) (BitVec.ofNat 32 l) = BitVec.ofNat 32 (t - l) := by
      show BitVec.ofNat 32 t - BitVec.ofNat 32 l = _
      apply BitVec.eq_of_toNat_eq
      simp only [BitVec.toNat_sub, BitVec.toNat_ofNat]
      omega
    rw [e, hk, Routing.remsi_word .host (by omega) (by decide) (by decide), Nat.mod_eq_of_lt (by omega), (wrapped_nonneg ⟨t - l, by omega⟩).1]
    exact congrArg _ (by show t - l = (t + 8192 - l) % 8192; omega)
  · have e : IntOp.subi (BitVec.ofNat 32 t) (BitVec.ofNat 32 l) = 0#32 - BitVec.ofNat 32 (l - t) := by
      show BitVec.ofNat 32 t - BitVec.ofNat 32 l = _
      apply BitVec.eq_of_toNat_eq
      simp only [BitVec.toNat_sub, BitVec.toNat_ofNat]
      omega
    rw [e, remsi_neg ⟨l - t, by omega⟩, wrapped_neg ⟨l - t, by omega⟩ (by show l - t ≠ 0; omega)]
    exact congrArg _ (by show 8192 - (l - t) = (t + 8192 - l) % 8192; omega)

/-- A word at least 0 and less than 8192 as a signed one is the word of a number below 8192. -/
theorem lag_word (w : BitVec 32) (h : IntOp.andi (IntOp.cmpi .sge w 0#32) (IntOp.cmpi .slt w 8192#32) = 1#1) : ∃ l < 8192, w = BitVec.ofNat 32 l := by
  refine ⟨w.toNat, ?_, (BitVec.ofNat_toNat _ _).symm ▸ (by simp)⟩
  have h0 : BitVec.sle 0#32 w = true ∧ BitVec.slt w 8192#32 = true := by
    have hb : ∀ a b : Bool, BitVec.ofBool a &&& BitVec.ofBool b = 1#1 → a = true ∧ b = true := by decide
    exact hb _ _ h
  have h1 := BitVec.sle_iff_toInt_le.1 h0.1
  have h2 := BitVec.slt_iff_toInt_lt.1 h0.2
  have h3 := BitVec.toInt_eq_toNat_cond w
  have hz : (0#32 : BitVec 32).toInt = 0 := by decide
  have hk : (8192#32 : BitVec 32).toInt = 8192 := by decide
  rw [hz] at h1; rw [hk] at h2
  have hw := w.isLt
  split at h3 <;> omega

end Cert.TimeShift
-- ==== Proof.GatherIdealRun.lean ====
/-
  The call that averages the shifted values, run: at any float values, from any memory with zero counters whose table
  of lags satisfies the side conditions `Hyps`, every weakly fair execution of `Kernel3Ideal` ends with the result array
  at what the blocks' write-backs leave, the arguments unchanged and every semaphore counter at zero.

  At the first time block of each batch row the body copies that row of the extended values into its scratch; the
  other time blocks of the row read what the first one left there. What is carried from point to point is therefore:
  at every point that is not the first of its batch row, the scratch holds the row.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel3Ideal.Run

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The host lines up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host lines up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4x8 .i32 := Memref.whole main_arg1
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin grid0.N, cond0_0 (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x512x768 .f32 := spec0_0.stage ((cfgM m hO).slots t 0)
abbrev hs0_0 (hO : Ok m) (t : Fin (cfgM m hO).N) : (ms0_0 m hO t).IsWhole := hstage0_0 (((cfgM m hO).slots t 0).cast nbuf0_0)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S4x8) (k0_off2 (grid0.coords t)) S1x1.size (k0_off2_inb (grid0.coords t))).toLoadRect (tbl m 0) (Shape.Idx.first (numel1_S1x1.symm ▸ Nat.one_pos)))
    ∧ k0_chk2 (grid0.coords t) (tbM0_0.view.readAt (Elt F) (Rect.unit (s := S4x8) (k0_off5 (grid0.coords t)) S1x1.size (k0_off5_inb (grid0.coords t))).toLoadRect (tbl m 0) (Shape.Idx.first (numel1_S1x1.symm ▸ Nat.one_pos)))
    ∧ k0_chk3 (grid0.coords t) (tbM0_0.view.readAt (Elt F) (Rect.unit (s := S4x8) (k0_off8 (grid0.coords t)) S1x1.size (k0_off8_inb (grid0.coords t))).toLoadRect (tbl m 0) (Shape.Idx.first (numel1_S1x1.symm ▸ Nat.one_pos)))
    ∧ k0_chk4 (grid0.coords t) (tbM0_0.view.readAt (Elt F) (Rect.unit (s := S4x8) (k0_off11 (grid0.coords t)) S1x1.size (k0_off11_inb (grid0.coords t))).toLoadRect (tbl m 0) (Shape.Idx.first (numel1_S1x1.symm ▸ Nat.one_pos)))
    ∧ k0_chk5 (grid0.coords t) (tbM0_0.view.readAt (Elt F) (Rect.unit (s := S4x8) (k0_off14 (grid0.coords t)) S1x1.size (k0_off14_inb (grid0.coords t))).toLoadRect (tbl m 0) (Shape.Idx.first (numel1_S1x1.symm ▸ Nat.one_pos)))
    ∧ k0_chk6 (grid0.coords t) (tbM0_0.view.readAt (Elt F) (Rect.unit (s := S4x8) (k0_off17 (grid0.coords t)) S1x1.size (k0_off17_inb (grid0.coords t))).toLoadRect (tbl m 0) (Shape.Idx.first (numel1_S1x1.symm ▸ Nat.one_pos)))
    ∧ k0_chk7 (grid0.coords t) (tbM0_0.view.readAt (Elt F) (Rect.unit (s := S4x8) (k0_off20 (grid0.coords t)) S1x1.size (k0_off20_inb (grid0.coords t))).toLoadRect (tbl m 0) (Shape.Idx.first (numel1_S1x1.symm ▸ Nat.one_pos)))
    ∧ k0_chk8 (grid0.coords t) (tbM0_0.view.readAt (Elt F) (Rect.unit (s := S4x8) (k0_off23 (grid0.coords t)) S1x1.size (k0_off23_inb (grid0.coords t))).toLoadRect (tbl m 0) (Shape.Idx.first (numel1_S1x1.symm ▸ Nat.one_pos)))

/-- The scratch operands: whole scoped buffers of the kernel's own, passed beside the windows. -/
abbrev scM0_0 : Memref sig .tc .vmem S1089x8x768 .f32 := Memref.whole cc0_scratch0
/-- The operands left in HBM that the body copies into scratch itself, whole. -/
abbrev hbM0_0 : Memref sig .tc .hbm S4x1089x8x768 .f32 := Memref.whole main_v2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 2] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0) := by
  rw [Pipeline.ownSems0_eq_of_list c osem0 [0] (by decide) (by decide)]; rfl
/-- The HBM operands the body moves, as references: unscoped, no window's array, no table (`Pipeline.restRefsP`). -/
def H0 : Finset (Ref sig .tc) := {main_v2}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v2)) := by
  rw [BI.bigSep_eq_bigSepL_of_eq [main_v2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 2) 0) ∗ iprop(hbPt0 c hbM0_0 (V m c main_v2))) := by
  rw [Pipeline.ΦD_eq, scopedRest0_eq, ownSems00_eq, hbmPts0_eq]; simp only [scM0_0, owns_whole]; try rfl

/-! ## What one point computes -/

/-- The choice the body makes among eight shifts of a block, by a word that counts down to zero. -/
def pick {α : Type} (c : BitVec 1) (w : BitVec 32) (a0 a1 a2 a3 a4 a5 a6 a7 : α) : α :=
  if c = 1#1 then
    if Scalar.cmpi .ne (Scalar.subi w 1#32) 0#32 = 1#1 then
      if Scalar.cmpi .ne (Scalar.subi (Scalar.subi w 1#32) 1#32) 0#32 = 1#1 then
        if Scalar.cmpi .ne (Scalar.subi (Scalar.subi (Scalar.subi w 1#32) 1#32) 1#32) 0#32 = 1#1 then
          if Scalar.cmpi .ne (Scalar.subi (Scalar.subi (Scalar.subi (Scalar.subi w 1#32) 1#32) 1#32) 1#32) 0#32 = 1#1 then
            if Scalar.cmpi .ne (Scalar.subi (Scalar.subi (Scalar.subi (Scalar.subi (Scalar.subi w 1#32) 1#32) 1#32) 1#32) 1#32) 0#32 = 1#1 then
              if Scalar.cmpi .ne (Scalar.subi (Scalar.subi (Scalar.subi (Scalar.subi (Scalar.subi (Scalar.subi w 1#32) 1#32) 1#32) 1#32) 1#32) 1#32) 0#32 = 1#1 then a7 else a6
            else a5
          else a4
        else a3
      else a2
    else a1
  else a0

/-- The body's nested conditionals only yield the value `pick` names. -/
theorem pick_bind {E : Type → Type _} {α β : Type} (c : BitVec 1) (w : BitVec 32) (a0 a1 a2 a3 a4 a5 a6 a7 : α) (k : α → Prog E β) :
    (do
      let v39 : α ← if c = 1#1 then do
          let v298 : BitVec 32 := Scalar.subi w 1#32
          let v299 : BitVec 1 := Scalar.cmpi .ne v298 0#32
          let v300 : α ← if v299 = 1#1 then do
              let v301 : BitVec 32 := Scalar.subi v298 1#32
              let v302 : BitVec 1 := Scalar.cmpi .ne v301 0#32
              let v303 : α ← if v302 = 1#1 then do
                  let v304 : BitVec 32 := Scalar.subi v301 1#32
                  let v305 : BitVec 1 := Scalar.cmpi .ne v304 0#32
                  let v306 : α ← if v305 = 1#1 then do
                      let v307 : BitVec 32 := Scalar.subi v304 1#32
                      let v308 : BitVec 1 := Scalar.cmpi .ne v307 0#32
                      let v309 : α ← if v308 = 1#1 then do
                          let v310 : BitVec 32 := Scalar.subi v307 1#32
                          let v311 : BitVec 1 := Scalar.cmpi .ne v310 0#32
                          let v312 : α ← if v311 = 1#1 then do
                              let v313 : BitVec 32 := Scalar.subi v310 1#32
                              let v314 : BitVec 1 := Scalar.cmpi .ne v313 0#32
                              let v315 : α ← if v314 = 1#1 then do
                                  pure a7
                                else do
                                  pure a6
                              pure v315
                            else do
                              pure a5
                          pure v312
                        else do
                          pure a4
                      pure v309
                    else do
                      pure a3
                  pure v306
                else do
                  pure a2
              pure v303
            else do
              pure a1
          pure v300
        else do
          pure a0
      k v39) = k (pick c w a0 a1 a2 a3 a4 a5 a6 a7) := by
  unfold pick
  dsimp only
  repeat' split
  all_goals rfl

theorem bind_congr_right {E : Type → Type _} {α β : Type} {x : Prog E α} {f g : α → Prog E β} (h : ∀ a, f a = g a) : x >>= f = x >>= g :=
  congrArg (x >>= ·) (funext h)

/-- `k0_part2` with each conditional as the value it yields. -/
def part2 (i : grid0.Coords) (arg2 : Memref sig .tc .smem S4x8 .i32) (harg2 : arg2.IsWhole) (arg3 : Memref sig .tc .hbm S4x1089x8x768 .f32) (harg3 : arg3.IsWhole) (arg4 : Memref sig .tc .vmem S1x512x768 .f32) (harg4 : arg4.IsWhole) (arg5 : Memref sig .tc .vmem S1089x8x768 .f32) (harg5 : arg5.IsWhole) (arg6 : DmaSems sig S_) (arg0 : BitVec 32) (v0 : BitVec 32) (v4 : FVec F S512x768 .f32) (v28 : BitVec 32) (v31 : FVec F S512x768 .f32) (v35 : FVec F S8x768 .f32) :
    Prog (TpuEff nD τ sig (Elt F) Λ₀ .tc) (Σ' (v40 : FVec F S512x768 .f32) (v67 : FVec F S512x768 .f32) (v71 : FVec F S8x768 .f32), BitVec 32) := do
  let v36 : BitVec 32 := Scalar.maxsi v28 0#32
  let v37 : BitVec 32 := Scalar.minsi v36 7#32
  let v38 : BitVec 1 := Scalar.cmpi .ne v37 0#32
  let v39 : FVec F S512x768 .f32 := pick v38 v37 v31 (k0_pay20 v31 v35) (k0_pay19 v31 v35) (k0_pay18 v31 v35) (k0_pay17 v31 v35) (k0_pay16 v31 v35) (k0_pay15 v31 v35) (k0_pay14 v31 v35)
  let v42 : Elt F .i32 ← smemLoad arg2 (Rect.unit (s := S4x8) (k0_off5 i) S1x1.size (k0_off5_inb i)) numel1_S1x1 rfl
  have k0_hw2 : k0_chk2 i v42 := (← Prog.lift (TpuEff.assume (k0_chk2 i v42) (k0_chk2.dec i v42))).down
  let v43 : BitVec 32 := Scalar.subi v0 v42
  let v44 : BitVec 32 := Scalar.addi v43 8192#32
  let v45 : BitVec 32 := Scalar.remsi v44 8192#32
  let v46 : BitVec 32 := Scalar.divsi v45 8#32
  let v47 : BitVec 1 := Scalar.cmpi .sgt v45 0#32
  let v48 : BitVec 32 := Scalar.extui v47
  let v49 : BitVec 1 := Scalar.cmpi .slt v45 0#32
  let v50 : BitVec 32 := Scalar.extui v49
  let v51 : BitVec 32 := Scalar.subi v48 v50
  let v52 : BitVec 1 := Scalar.cmpi .sgt 8#32 0#32
  let v53 : BitVec 32 := Scalar.extui v52
  let v54 : BitVec 1 := Scalar.cmpi .slt 8#32 0#32
  let v55 : BitVec 32 := Scalar.extui v54
  let v56 : BitVec 32 := Scalar.subi v53 v55
  let v57 : BitVec 1 := Scalar.cmpi .ne v51 v56
  let v58 : BitVec 32 := Scalar.remsi v45 8#32
  let v59 : BitVec 1 := Scalar.cmpi .ne v58 0#32
  let v60 : BitVec 1 := Scalar.andi v57 v59
  let v61 : BitVec 32 := Scalar.subi v46 1#32
  let v62 : BitVec 32 := Scalar.select v60 v61 v46
  let v63 : BitVec 32 := Scalar.muli v62 8#32
  let v64 : BitVec 32 := Scalar.subi v45 v63
  let v66 : Vec F S64x8x768 .f32 ← Prog.lift (.load arg5 (Rect.unit (s := S1089x8x768) (k0_off6 i v42) S64x8x768.size (k0_off6_inb i v42 k0_hw2)).toLoadRect (View.loadsAt_vmem h_S64x8x768))
  let v70 : Vec F S1x8x768 .f32 ← Prog.lift (.load arg5 (Rect.unit (s := S1089x8x768) (k0_off7 i v42) S1x8x768.size (k0_off7_inb i v42 k0_hw2)).toLoadRect (View.loadsAt_vmem h_S1x8x768))
  let v72 : BitVec 32 := Scalar.maxsi v64 0#32
  let v73 : BitVec 32 := Scalar.minsi v72 7#32
  pure ⟨k0_pay21 v4 v39, k0_pay22 v66, k0_pay23 v70, v73⟩

theorem part2_eq : k0_part2 (F := F) = part2 (F := F) := by
  rw [k0_part2_eq_skeleton]
  funext _ _ _ _ _ _ _ _ _ _ _ _ _ _ _ _
  exact pick_bind _ _ _ _ _ _ _ _ _ _ _

/-- `k0_part3` with each conditional as the value it yields. -/
def part3 (i : grid0.Coords) (arg2 : Memref sig .tc .smem S4x8 .i32) (harg2 : arg2.IsWhole) (arg3 : Memref sig .tc .hbm S4x1089x8x768 .f32) (harg3 : arg3.IsWhole) (arg4 : Memref sig .tc .vmem S1x512x768 .f32) (harg4 : arg4.IsWhole) (arg5 : Memref sig .tc .vmem S1089x8x768 .f32) (harg5 : arg5.IsWhole) (arg6 : DmaSems sig S_) (arg0 : BitVec 32) (v0 : BitVec 32) (v40 : FVec F S512x768 .f32) (v67 : FVec F S512x768 .f32) (v71 : FVec F S8x768 .f32) (v73 : BitVec 32) :
    Prog (TpuEff nD τ sig (Elt F) Λ₀ .tc) (FVec F S512x768 .f32) := do
  let v74 : BitVec 1 := Scalar.cmpi .ne v73 0#32
  let v75 : FVec F S512x768 .f32 := pick v74 v73 v67 (k0_pay30 v67 v71) (k0_pay29 v67 v71) (k0_pay28 v67 v71) (k0_pay27 v67 v71) (k0_pay26 v67 v71) (k0_pay25 v67 v71) (k0_pay24 v67 v71)
  let v78 : Elt F .i32 ← smemLoad arg2 (Rect.unit (s := S4x8) (k0_off8 i) S1x1.size (k0_off8_inb i)) numel1_S1x1 rfl
  have k0_hw3 : k0_chk3 i v78 := (← Prog.lift (TpuEff.assume (k0_chk3 i v78) (k0_chk3.dec i v78))).down
  let v79 : BitVec 32 := Scalar.subi v0 v78
  let v80 : BitVec 32 := Scalar.addi v79 8192#32
  let v81 : BitVec 32 := Scalar.remsi v80 8192#32
  let v82 : BitVec 32 := Scalar.divsi v81 8#32
  let v83 : BitVec 1 := Scalar.cmpi .sgt v81 0#32
  let v84 : BitVec 32 := Scalar.extui v83
  let v85 : BitVec 1 := Scalar.cmpi .slt v81 0#32
  let v86 : BitVec 32 := Scalar.extui v85
  let v87 : BitVec 32 := Scalar.subi v84 v86
  let v88 : BitVec 1 := Scalar.cmpi .sgt 8#32 0#32
  let v89 : BitVec 32 := Scalar.extui v88
  let v90 : BitVec 1 := Scalar.cmpi .slt 8#32 0#32
  let v91 : BitVec 32 := Scalar.extui v90
  let v92 : BitVec 32 := Scalar.subi v89 v91
  let v93 : BitVec 1 := Scalar.cmpi .ne v87 v92
  let v94 : BitVec 32 := Scalar.remsi v81 8#32
  let v95 : BitVec 1 := Scalar.cmpi .ne v94 0#32
  let v96 : BitVec 1 := Scalar.andi v93 v95
  let v97 : BitVec 32 := Scalar.subi v82 1#32
  let v98 : BitVec 32 := Scalar.select v96 v97 v82
  let v99 : BitVec 32 := Scalar.muli v98 8#32
  let v100 : BitVec 32 := Scalar.subi v81 v99
  let v102 : Vec F S64x8x768 .f32 ← Prog.lift (.load arg5 (Rect.unit (s := S1089x8x768) (k0_off9 i v78) S64x8x768.size (k0_off9_inb i v78 k0_hw3)).toLoadRect (View.loadsAt_vmem h_S64x8x768))
  let v106 : Vec F S1x8x768 .f32 ← Prog.lift (.load arg5 (Rect.unit (s := S1089x8x768) (k0_off10 i v78) S1x8x768.size (k0_off10_inb i v78 k0_hw3)).toLoadRect (View.loadsAt_vmem h_S1x8x768))
  let v108 : BitVec 32 := Scalar.maxsi v100 0#32
  let v109 : BitVec 32 := Scalar.minsi v108 7#32
  let v110 : BitVec 1 := Scalar.cmpi .ne v109 0#32
  let v111 : FVec F S512x768 .f32 := pick v110 v109 (k0_pay31 v102) (k0_pay39 v102 v106) (k0_pay38 v102 v106) (k0_pay37 v102 v106) (k0_pay36 v102 v106) (k0_pay35 v102 v106) (k0_pay34 v102 v106) (k0_pay33 v102 v106)
  pure (k0_pay40 v40 v75 v111)

theorem part3_eq : k0_part3 (F := F) = part3 (F := F) := by
  rw [k0_part3_eq_skeleton]
  funext _ _ _ _ _ _ _ _ _ _ _ _ _ _ _ _
  refine (pick_bind _ _ _ _ _ _ _ _ _ _ _).trans ?_
  refine bind_congr_right fun _ => ?_
  refine bind_congr_right fun _ => ?_
  refine bind_congr_right fun _ => ?_
  refine bind_congr_right fun _ => ?_
  exact pick_bind _ _ _ _ _ _ _ _ _ _ _

/-- `k0_part4` with each conditional as the value it yields. -/
def part4 (i : grid0.Coords) (arg2 : Memref sig .tc .smem S4x8 .i32) (harg2 : arg2.IsWhole) (arg3 : Memref sig .tc .hbm S4x1089x8x768 .f32) (harg3 : arg3.IsWhole) (arg4 : Memref sig .tc .vmem S1x512x768 .f32) (harg4 : arg4.IsWhole) (arg5 : Memref sig .tc .vmem S1089x8x768 .f32) (harg5 : arg5.IsWhole) (arg6 : DmaSems sig S_) (arg0 : BitVec 32) (v0 : BitVec 32) (v112 : FVec F S512x768 .f32) :
    Prog (TpuEff nD τ sig (Elt F) Λ₀ .tc) (Σ' (v148 : FVec F S512x768 .f32) (v150 : Elt F .i32), k0_chk5 i v150) := do
  let v114 : Elt F .i32 ← smemLoad arg2 (Rect.unit (s := S4x8) (k0_off11 i) S1x1.size (k0_off11_inb i)) numel1_S1x1 rfl
  have k0_hw4 : k0_chk4 i v114 := (← Prog.lift (TpuEff.assume (k0_chk4 i v114) (k0_chk4.dec i v114))).down
  let v115 : BitVec 32 := Scalar.subi v0 v114
  let v116 : BitVec 32 := Scalar.addi v115 8192#32
  let v117 : BitVec 32 := Scalar.remsi v116 8192#32
  let v118 : BitVec 32 := Scalar.divsi v117 8#32
  let v119 : BitVec 1 := Scalar.cmpi .sgt v117 0#32
  let v120 : BitVec 32 := Scalar.extui v119
  let v121 : BitVec 1 := Scalar.cmpi .slt v117 0#32
  let v122 : BitVec 32 := Scalar.extui v121
  let v123 : BitVec 32 := Scalar.subi v120 v122
  let v124 : BitVec 1 := Scalar.cmpi .sgt 8#32 0#32
  let v125 : BitVec 32 := Scalar.extui v124
  let v126 : BitVec 1 := Scalar.cmpi .slt 8#32 0#32
  let v127 : BitVec 32 := Scalar.extui v126
  let v128 : BitVec 32 := Scalar.subi v125 v127
  let v129 : BitVec 1 := Scalar.cmpi .ne v123 v128
  let v130 : BitVec 32 := Scalar.remsi v117 8#32
  let v131 : BitVec 1 := Scalar.cmpi .ne v130 0#32
  let v132 : BitVec 1 := Scalar.andi v129 v131
  let v133 : BitVec 32 := Scalar.subi v118 1#32
  let v134 : BitVec 32 := Scalar.select v132 v133 v118
  let v135 : BitVec 32 := Scalar.muli v134 8#32
  let v136 : BitVec 32 := Scalar.subi v117 v135
  let v138 : Vec F S64x8x768 .f32 ← Prog.lift (.load arg5 (Rect.unit (s := S1089x8x768) (k0_off12 i v114) S64x8x768.size (k0_off12_inb i v114 k0_hw4)).toLoadRect (View.loadsAt_vmem h_S64x8x768))
  let v142 : Vec F S1x8x768 .f32 ← Prog.lift (.load arg5 (Rect.unit (s := S1089x8x768) (k0_off13 i v114) S1x8x768.size (k0_off13_inb i v114 k0_hw4)).toLoadRect (View.loadsAt_vmem h_S1x8x768))
  let v144 : BitVec 32 := Scalar.maxsi v136 0#32
  let v145 : BitVec 32 := Scalar.minsi v144 7#32
  let v146 : BitVec 1 := Scalar.cmpi .ne v145 0#32
  let v147 : FVec F S512x768 .f32 := pick v146 v145 (k0_pay41 v138) (k0_pay49 v138 v142) (k0_pay48 v138 v142) (k0_pay47 v138 v142) (k0_pay46 v138 v142) (k0_pay45 v138 v142) (k0_pay44 v138 v142) (k0_pay43 v138 v142)
  let v150 : Elt F .i32 ← smemLoad arg2 (Rect.unit (s := S4x8) (k0_off14 i) S1x1.size (k0_off14_inb i)) numel1_S1x1 rfl
  have k0_hw5 : k0_chk5 i v150 := (← Prog.lift (TpuEff.assume (k0_chk5 i v150) (k0_chk5.dec i v150))).down
  pure ⟨k0_pay50 v112 v147, v150, k0_hw5⟩

theorem part4_eq : k0_part4 (F := F) = part4 (F := F) := by
  rw [k0_part4_eq_skeleton]
  funext _ _ _ _ _ _ _ _ _ _ _ _ _
  refine bind_congr_right fun _ => ?_
  refine bind_congr_right fun _ => ?_
  refine bind_congr_right fun _ => ?_
  refine bind_congr_right fun _ => ?_
  exact pick_bind _ _ _ _ _ _ _ _ _ _ _

/-- `k0_part5` with each conditional as the value it yields. -/
def part5 (i : grid0.Coords) (arg2 : Memref sig .tc .smem S4x8 .i32) (harg2 : arg2.IsWhole) (arg3 : Memref sig .tc .hbm S4x1089x8x768 .f32) (harg3 : arg3.IsWhole) (arg4 : Memref sig .tc .vmem S1x512x768 .f32) (harg4 : arg4.IsWhole) (arg5 : Memref sig .tc .vmem S1089x8x768 .f32) (harg5 : arg5.IsWhole) (arg6 : DmaSems sig S_) (arg0 : BitVec 32) (v0 : BitVec 32) (v148 : FVec F S512x768 .f32) (v150 : Elt F .i32) (k0_hw5 : k0_chk5 i v150) :
    Prog (TpuEff nD τ sig (Elt F) Λ₀ .tc) (Σ' (v184 : FVec F S512x768 .f32) (v186 : Elt F .i32) (k0_hw6 : k0_chk6 i v186) (v188 : BitVec 32), BitVec 32) := do
  let v151 : BitVec 32 := Scalar.subi v0 v150
  let v152 : BitVec 32 := Scalar.addi v151 8192#32
  let v153 : BitVec 32 := Scalar.remsi v152 8192#32
  let v154 : BitVec 32 := Scalar.divsi v153 8#32
  let v155 : BitVec 1 := Scalar.cmpi .sgt v153 0#32
  let v156 : BitVec 32 := Scalar.extui v155
  let v157 : BitVec 1 := Scalar.cmpi .slt v153 0#32
  let v158 : BitVec 32 := Scalar.extui v157
  let v159 : BitVec 32 := Scalar.subi v156 v158
  let v160 : BitVec 1 := Scalar.cmpi .sgt 8#32 0#32
  let v161 : BitVec 32 := Scalar.extui v160
  let v162 : BitVec 1 := Scalar.cmpi .slt 8#32 0#32
  let v163 : BitVec 32 := Scalar.extui v162
  let v164 : BitVec 32 := Scalar.subi v161 v163
  let v165 : BitVec 1 := Scalar.cmpi .ne v159 v164
  let v166 : BitVec 32 := Scalar.remsi v153 8#32
  let v167 : BitVec 1 := Scalar.cmpi .ne v166 0#32
  let v168 : BitVec 1 := Scalar.andi v165 v167
  let v169 : BitVec 32 := Scalar.subi v154 1#32
  let v170 : BitVec 32 := Scalar.select v168 v169 v154
  let v171 : BitVec 32 := Scalar.muli v170 8#32
  let v172 : BitVec 32 := Scalar.subi v153 v171
  let v174 : Vec F S64x8x768 .f32 ← Prog.lift (.load arg5 (Rect.unit (s := S1089x8x768) (k0_off15 i v150) S64x8x768.size (k0_off15_inb i v150 k0_hw5)).toLoadRect (View.loadsAt_vmem h_S64x8x768))
  let v178 : Vec F S1x8x768 .f32 ← Prog.lift (.load arg5 (Rect.unit (s := S1089x8x768) (k0_off16 i v150) S1x8x768.size (k0_off16_inb i v150 k0_hw5)).toLoadRect (View.loadsAt_vmem h_S1x8x768))
  let v180 : BitVec 32 := Scalar.maxsi v172 0#32
  let v181 : BitVec 32 := Scalar.minsi v180 7#32
  let v182 : BitVec 1 := Scalar.cmpi .ne v181 0#32
  let v183 : FVec F S512x768 .f32 := pick v182 v181 (k0_pay51 v174) (k0_pay59 v174 v178) (k0_pay58 v174 v178) (k0_pay57 v174 v178) (k0_pay56 v174 v178) (k0_pay55 v174 v178) (k0_pay54 v174 v178) (k0_pay53 v174 v178)
  let v186 : Elt F .i32 ← smemLoad arg2 (Rect.unit (s := S4x8) (k0_off17 i) S1x1.size (k0_off17_inb i)) numel1_S1x1 rfl
  have k0_hw6 : k0_chk6 i v186 := (← Prog.lift (TpuEff.assume (k0_chk6 i v186) (k0_chk6.dec i v186))).down
  let v187 : BitVec 32 := Scalar.subi v0 v186
  let v188 : BitVec 32 := Scalar.addi v187 8192#32
  pure ⟨k0_pay60 v148 v183, v186, k0_hw6, v188, 8192#32⟩

theorem part5_eq : k0_part5 (F := F) = part5 (F := F) := by
  rw [k0_part5_eq_skeleton]
  funext _ _ _ _ _ _ _ _ _ _ _ _ _ _ _
  refine bind_congr_right fun _ => ?_
  refine bind_congr_right fun _ => ?_
  exact pick_bind _ _ _ _ _ _ _ _ _ _ _

/-- `k0_part6` with each conditional as the value it yields. -/
def part6 (i : grid0.Coords) (arg2 : Memref sig .tc .smem S4x8 .i32) (harg2 : arg2.IsWhole) (arg3 : Memref sig .tc .hbm S4x1089x8x768 .f32) (harg3 : arg3.IsWhole) (arg4 : Memref sig .tc .vmem S1x512x768 .f32) (harg4 : arg4.IsWhole) (arg5 : Memref sig .tc .vmem S1089x8x768 .f32) (harg5 : arg5.IsWhole) (arg6 : DmaSems sig S_) (arg0 : BitVec 32) (v0 : BitVec 32) (v184 : FVec F S512x768 .f32) (v186 : Elt F .i32) (k0_hw6 : k0_chk6 i v186) (v188 : BitVec 32) (c8192_i32_87 : BitVec 32) :
    Prog (TpuEff nD τ sig (Elt F) Λ₀ .tc) (Σ' (v220 : FVec F S512x768 .f32) (v222 : Elt F .i32) (k0_hw7 : k0_chk7 i v222) (v225 : BitVec 32) (c8_i32_106 : BitVec 32) (v226 : BitVec 32), BitVec 32) := do
  let v189 : BitVec 32 := Scalar.remsi v188 c8192_i32_87
  let v190 : BitVec 32 := Scalar.divsi v189 8#32
  let v191 : BitVec 1 := Scalar.cmpi .sgt v189 0#32
  let v192 : BitVec 32 := Scalar.extui v191
  let v193 : BitVec 1 := Scalar.cmpi .slt v189 0#32
  let v194 : BitVec 32 := Scalar.extui v193
  let v195 : BitVec 32 := Scalar.subi v192 v194
  let v196 : BitVec 1 := Scalar.cmpi .sgt 8#32 0#32
  let v197 : BitVec 32 := Scalar.extui v196
  let v198 : BitVec 1 := Scalar.cmpi .slt 8#32 0#32
  let v199 : BitVec 32 := Scalar.extui v198
  let v200 : BitVec 32 := Scalar.subi v197 v199
  let v201 : BitVec 1 := Scalar.cmpi .ne v195 v200
  let v202 : BitVec 32 := Scalar.remsi v189 8#32
  let v203 : BitVec 1 := Scalar.cmpi .ne v202 0#32
  let v204 : BitVec 1 := Scalar.andi v201 v203
  let v205 : BitVec 32 := Scalar.subi v190 1#32
  let v206 : BitVec 32 := Scalar.select v204 v205 v190
  let v207 : BitVec 32 := Scalar.muli v206 8#32
  let v208 : BitVec 32 := Scalar.subi v189 v207
  let v210 : Vec F S64x8x768 .f32 ← Prog.lift (.load arg5 (Rect.unit (s := S1089x8x768) (k0_off18 i v186) S64x8x768.size (k0_off18_inb i v186 k0_hw6)).toLoadRect (View.loadsAt_vmem h_S64x8x768))
  let v214 : Vec F S1x8x768 .f32 ← Prog.lift (.load arg5 (Rect.unit (s := S1089x8x768) (k0_off19 i v186) S1x8x768.size (k0_off19_inb i v186 k0_hw6)).toLoadRect (View.loadsAt_vmem h_S1x8x768))
  let v216 : BitVec 32 := Scalar.maxsi v208 0#32
  let v217 : BitVec 32 := Scalar.minsi v216 7#32
  let v218 : BitVec 1 := Scalar.cmpi .ne v217 0#32
  let v219 : FVec F S512x768 .f32 := pick v218 v217 (k0_pay61 v210) (k0_pay69 v210 v214) (k0_pay68 v210 v214) (k0_pay67 v210 v214) (k0_pay66 v210 v214) (k0_pay65 v210 v214) (k0_pay64 v210 v214) (k0_pay63 v210 v214)
  let v222 : Elt F .i32 ← smemLoad arg2 (Rect.unit (s := S4x8) (k0_off20 i) S1x1.size (k0_off20_inb i)) numel1_S1x1 rfl
  have k0_hw7 : k0_chk7 i v222 := (← Prog.lift (TpuEff.assume (k0_chk7 i v222) (k0_chk7.dec i v222))).down
  let v223 : BitVec 32 := Scalar.subi v0 v222
  let v224 : BitVec 32 := Scalar.addi v223 8192#32
  let v225 : BitVec 32 := Scalar.remsi v224 8192#32
  let v226 : BitVec 32 := Scalar.divsi v225 8#32
  pure ⟨k0_pay70 v184 v219, v222, k0_hw7, v225, 8#32, v226, 0#32⟩

theorem part6_eq : k0_part6 (F := F) = part6 (F := F) := by
  rw [k0_part6_eq_skeleton]
  funext _ _ _ _ _ _ _ _ _ _ _ _ _ _ _ _ _
  refine bind_congr_right fun _ => ?_
  refine bind_congr_right fun _ => ?_
  exact pick_bind _ _ _ _ _ _ _ _ _ _ _

/-- `k0_part7` with each conditional as the value it yields. -/
def part7 (i : grid0.Coords) (arg2 : Memref sig .tc .smem S4x8 .i32) (harg2 : arg2.IsWhole) (arg3 : Memref sig .tc .hbm S4x1089x8x768 .f32) (harg3 : arg3.IsWhole) (arg4 : Memref sig .tc .vmem S1x512x768 .f32) (harg4 : arg4.IsWhole) (arg5 : Memref sig .tc .vmem S1089x8x768 .f32) (harg5 : arg5.IsWhole) (arg6 : DmaSems sig S_) (arg0 : BitVec 32) (v0 : BitVec 32) (v220 : FVec F S512x768 .f32) (v222 : Elt F .i32) (k0_hw7 : k0_chk7 i v222) (v225 : BitVec 32) (c8_i32_106 : BitVec 32) (v226 : BitVec 32) (c0_i32_107 : BitVec 32) :
    Prog (TpuEff nD τ sig (Elt F) Λ₀ .tc) (Σ' (v256 : FVec F S512x768 .f32) (v258 : Elt F .i32) (k0_hw8 : k0_chk8 i v258) (v261 : BitVec 32) (c8_i32_124 : BitVec 32) (v262 : BitVec 32) (v264 : BitVec 32), BitVec 1) := do
  let v227 : BitVec 1 := Scalar.cmpi .sgt v225 c0_i32_107
  let v228 : BitVec 32 := Scalar.extui v227
  let v229 : BitVec 1 := Scalar.cmpi .slt v225 0#32
  let v230 : BitVec 32 := Scalar.extui v229
  let v231 : BitVec 32 := Scalar.subi v228 v230
  let v232 : BitVec 1 := Scalar.cmpi .sgt c8_i32_106 0#32
  let v233 : BitVec 32 := Scalar.extui v232
  let v234 : BitVec 1 := Scalar.cmpi .slt c8_i32_106 0#32
  let v235 : BitVec 32 := Scalar.extui v234
  let v236 : BitVec 32 := Scalar.subi v233 v235
  let v237 : BitVec 1 := Scalar.cmpi .ne v231 v236
  let v238 : BitVec 32 := Scalar.remsi v225 c8_i32_106
  let v239 : BitVec 1 := Scalar.cmpi .ne v238 0#32
  let v240 : BitVec 1 := Scalar.andi v237 v239
  let v241 : BitVec 32 := Scalar.subi v226 1#32
  let v242 : BitVec 32 := Scalar.select v240 v241 v226
  let v243 : BitVec 32 := Scalar.muli v242 8#32
  let v244 : BitVec 32 := Scalar.subi v225 v243
  let v246 : Vec F S64x8x768 .f32 ← Prog.lift (.load arg5 (Rect.unit (s := S1089x8x768) (k0_off21 i v222) S64x8x768.size (k0_off21_inb i v222 k0_hw7)).toLoadRect (View.loadsAt_vmem h_S64x8x768))
  let v250 : Vec F S1x8x768 .f32 ← Prog.lift (.load arg5 (Rect.unit (s := S1089x8x768) (k0_off22 i v222) S1x8x768.size (k0_off22_inb i v222 k0_hw7)).toLoadRect (View.loadsAt_vmem h_S1x8x768))
  let v252 : BitVec 32 := Scalar.maxsi v244 0#32
  let v253 : BitVec 32 := Scalar.minsi v252 7#32
  let v254 : BitVec 1 := Scalar.cmpi .ne v253 0#32
  let v255 : FVec F S512x768 .f32 := pick v254 v253 (k0_pay71 v246) (k0_pay79 v246 v250) (k0_pay78 v246 v250) (k0_pay77 v246 v250) (k0_pay76 v246 v250) (k0_pay75 v246 v250) (k0_pay74 v246 v250) (k0_pay73 v246 v250)
  let v258 : Elt F .i32 ← smemLoad arg2 (Rect.unit (s := S4x8) (k0_off23 i) S1x1.size (k0_off23_inb i)) numel1_S1x1 rfl
  have k0_hw8 : k0_chk8 i v258 := (← Prog.lift (TpuEff.assume (k0_chk8 i v258) (k0_chk8.dec i v258))).down
  let v259 : BitVec 32 := Scalar.subi v0 v258
  let v260 : BitVec 32 := Scalar.addi v259 8192#32
  let v261 : BitVec 32 := Scalar.remsi v260 8192#32
  let v262 : BitVec 32 := Scalar.divsi v261 8#32
  let v263 : BitVec 1 := Scalar.cmpi .sgt v261 0#32
  let v264 : BitVec 32 := Scalar.extui v263
  let v265 : BitVec 1 := Scalar.cmpi .slt v261 0#32
  pure ⟨k0_pay80 v220 v255, v258, k0_hw8, v261, 8#32, v262, v264, v265⟩

theorem part7_eq : k0_part7 (F := F) = part7 (F := F) := by
  rw [k0_part7_eq_skeleton]
  funext _ _ _ _ _ _ _ _ _ _ _ _ _ _ _ _ _ _ _
  refine bind_congr_right fun _ => ?_
  refine bind_congr_right fun _ => ?_
  exact pick_bind _ _ _ _ _ _ _ _ _ _ _

/-- `cc0__gather_body` with each conditional as the value it yields. -/
def body (i : grid0.Coords) (arg2 : Memref sig .tc .smem S4x8 .i32) (harg2 : arg2.IsWhole) (arg3 : Memref sig .tc .hbm S4x1089x8x768 .f32) (harg3 : arg3.IsWhole) (arg4 : Memref sig .tc .vmem S1x512x768 .f32) (harg4 : arg4.IsWhole) (arg5 : Memref sig .tc .vmem S1089x8x768 .f32) (harg5 : arg5.IsWhole) (arg6 : DmaSems sig S_) :
    Prog (TpuEff nD τ sig (Elt F) Λ₀ .tc) PUnit := do
  let ⟨arg0, v0, v4, v28, v31, v35⟩ : Σ' (arg0 : BitVec 32) (v0 : BitVec 32) (v4 : FVec F S512x768 .f32) (v28 : BitVec 32) (v31 : FVec F S512x768 .f32), FVec F S8x768 .f32 ← k0_part1 i arg2 harg2 arg3 harg3 arg4 harg4 arg5 harg5 arg6
  let ⟨v40, v67, v71, v73⟩ : Σ' (v40 : FVec F S512x768 .f32) (v67 : FVec F S512x768 .f32) (v71 : FVec F S8x768 .f32), BitVec 32 ← k0_part2 i arg2 harg2 arg3 harg3 arg4 harg4 arg5 harg5 arg6 arg0 v0 v4 v28 v31 v35
  let v112 : FVec F S512x768 .f32 ← k0_part3 i arg2 harg2 arg3 harg3 arg4 harg4 arg5 harg5 arg6 arg0 v0 v40 v67 v71 v73
  let ⟨v148, v150, k0_hw5⟩ : Σ' (v148 : FVec F S512x768 .f32) (v150 : Elt F .i32), k0_chk5 i v150 ← k0_part4 i arg2 harg2 arg3 harg3 arg4 harg4 arg5 harg5 arg6 arg0 v0 v112
  let ⟨v184, v186, k0_hw6, v188, c8192_i32_87⟩ : Σ' (v184 : FVec F S512x768 .f32) (v186 : Elt F .i32) (k0_hw6 : k0_chk6 i v186) (v188 : BitVec 32), BitVec 32 ← k0_part5 i arg2 harg2 arg3 harg3 arg4 harg4 arg5 harg5 arg6 arg0 v0 v148 v150 k0_hw5
  let ⟨v220, v222, k0_hw7, v225, c8_i32_106, v226, c0_i32_107⟩ : Σ' (v220 : FVec F S512x768 .f32) (v222 : Elt F .i32) (k0_hw7 : k0_chk7 i v222) (v225 : BitVec 32) (c8_i32_106 : BitVec 32) (v226 : BitVec 32), BitVec 32 ← k0_part6 i arg2 harg2 arg3 harg3 arg4 harg4 arg5 harg5 arg6 arg0 v0 v184 v186 k0_hw6 v188 c8192_i32_87
  let ⟨v256, v258, k0_hw8, v261, c8_i32_124, v262, v264, v265⟩ : Σ' (v256 : FVec F S512x768 .f32) (v258 : Elt F .i32) (k0_hw8 : k0_chk8 i v258) (v261 : BitVec 32) (c8_i32_124 : BitVec 32) (v262 : BitVec 32) (v264 : BitVec 32), BitVec 1 ← k0_part7 i arg2 harg2 arg3 harg3 arg4 harg4 arg5 harg5 arg6 arg0 v0 v220 v222 k0_hw7 v225 c8_i32_106 v226 c0_i32_107
  let v266 : BitVec 32 := Scalar.extui v265
  let v267 : BitVec 32 := Scalar.subi v264 v266
  let v268 : BitVec 1 := Scalar.cmpi .sgt c8_i32_124 0#32
  let v269 : BitVec 32 := Scalar.extui v268
  let v270 : BitVec 1 := Scalar.cmpi .slt c8_i32_124 0#32
  let v271 : BitVec 32 := Scalar.extui v270
  let v272 : BitVec 32 := Scalar.subi v269 v271
  let v273 : BitVec 1 := Scalar.cmpi .ne v267 v272
  let v274 : BitVec 32 := Scalar.remsi v261 c8_i32_124
  let v275 : BitVec 1 := Scalar.cmpi .ne v274 0#32
  let v276 : BitVec 1 := Scalar.andi v273 v275
  let v277 : BitVec 32 := Scalar.subi v262 1#32
  let v278 : BitVec 32 := Scalar.select v276 v277 v262
  let v279 : BitVec 32 := Scalar.muli v278 8#32
  let v280 : BitVec 32 := Scalar.subi v261 v279
  let v282 : Vec F S64x8x768 .f32 ← Prog.lift (.load arg5 (Rect.unit (s := S1089x8x768) (k0_off24 i v258) S64x8x768.size (k0_off24_inb i v258 k0_hw8)).toLoadRect (View.loadsAt_vmem h_S64x8x768))
  let v286 : Vec F S1x8x768 .f32 ← Prog.lift (.load arg5 (Rect.unit (s := S1089x8x768) (k0_off25 i v258) S1x8x768.size (k0_off25_inb i v258 k0_hw8)).toLoadRect (View.loadsAt_vmem h_S1x8x768))
  let v288 : BitVec 32 := Scalar.maxsi v280 0#32
  let v289 : BitVec 32 := Scalar.minsi v288 7#32
  let v290 : BitVec 1 := Scalar.cmpi .ne v289 0#32
  let v291 : FVec F S512x768 .f32 := pick v290 v289 (k0_pay1 v282) (k0_pay9 v282 v286) (k0_pay8 v282 v286) (k0_pay7 v282 v286) (k0_pay6 v282 v286) (k0_pay5 v282 v286) (k0_pay4 v282 v286) (k0_pay3 v282 v286)
  let v295 : Vec F S1x512x768 .f32 ← Prog.lift (.load arg4 (Rect.unit (s := S1x512x768) ![0, 0, 0] S1x512x768.size inb_S1x512x768_S1x512x768_0_0_0).toLoadRect (View.loadsAt_vmem h_S1x512x768))
  Prog.lift (.store arg4 (Rect.unit (s := S1x512x768) ![0, 0, 0] S1x512x768.size inb_S1x512x768_S1x512x768_0_0_0) (k0_pay10 v256 v291) Finset.univ (View.stores_vmem_bits_univ h_S1x512x768 rfl) (.inl rfl))
  pure ⟨⟩

theorem body_eq : cc0__gather_body (F := F) = body (F := F) := by
  rw [cc0__gather_body_eq_skeleton]
  funext _ _ _ _ _ _ _ _ _ _
  refine bind_congr_right fun ⟨_, _, _, _, _, _⟩ => ?_
  refine bind_congr_right fun ⟨_, _, _, _⟩ => ?_
  refine bind_congr_right fun _ => ?_
  refine bind_congr_right fun ⟨_, _, _⟩ => ?_
  refine bind_congr_right fun ⟨_, _, _, _, _⟩ => ?_
  refine bind_congr_right fun ⟨_, _, _, _, _, _, _⟩ => ?_
  refine bind_congr_right fun ⟨_, _, _, _, _, _, _, _⟩ => ?_
  refine bind_congr_right fun _ => ?_
  refine bind_congr_right fun _ => ?_
  exact pick_bind _ _ _ _ _ _ _ _ _ _ _

/-- The first time step a point reads for a lag `w`, and the eight-row group it lies in. -/
def start (i : grid0.Coords) (w : BitVec 32) : BitVec 32 :=
  Scalar.remsi (Scalar.addi (Scalar.subi (Scalar.muli (BitVec.ofNat 32 (i 1).val) 512#32) w) 8192#32) 8192#32
def group (s : BitVec 32) : BitVec 32 :=
  Scalar.select (Scalar.andi (Scalar.cmpi .ne (Scalar.subi (Scalar.extui (Scalar.cmpi .sgt s 0#32)) (Scalar.extui (Scalar.cmpi .slt s 0#32)))
      (Scalar.subi (Scalar.extui (Scalar.cmpi .sgt 8#32 0#32)) (Scalar.extui (Scalar.cmpi .slt 8#32 0#32))))
    (Scalar.cmpi .ne (Scalar.remsi s 8#32) 0#32)) (Scalar.subi (Scalar.divsi s 8#32) 1#32) (Scalar.divsi s 8#32)
/-- The place of that time step in its group, held between 0 and 7. -/
def place (i : grid0.Coords) (w : BitVec 32) : BitVec 32 :=
  Scalar.minsi (Scalar.maxsi (Scalar.subi (start i w) (Scalar.muli (group (start i w)) 8#32)) 0#32) 7#32

/-- The 512 rows beginning `r` rows into the groups `a`, whose last `r` rows are the first ones of the group `b`. -/
def shifted (r : BitVec 32) (a : Vec F S64x8x768 .f32) (b : Vec F S1x8x768 .f32) : FVec F S512x768 .f32 :=
  pick (Scalar.cmpi .ne r 0#32) r (k0_pay1 a) (k0_pay9 a b) (k0_pay8 a b) (k0_pay7 a b) (k0_pay6 a b) (k0_pay5 a b) (k0_pay4 a b) (k0_pay3 a b)

/-- The sum of the eight shifted blocks, an eighth of it. -/
def eighth (s1 s2 s3 s4 s5 s6 s7 s8 : FVec F S512x768 .f32) : FVec F S1x512x768 .f32 :=
  k0_pay10 (addf (addf (addf (addf (addf (addf (addf k0_pay11 s1) s2) s3) s4) s5) s6) s7) s8

abbrev r0_0 : Rect S1x512x768 := Rect.unit (s := S1x512x768) ![0, 0, 0] S1x512x768.size inb_S1x512x768_S1x512x768_0_0_0

/-- The word the table holds for a lag, read at the offset `off`. -/
abbrev word (c : Dev nD) (xt : TbBuf0 (F := F) c tbM0_0) (off : Fin 2 → Nat) (h : ∀ a, off a + S1x1.size a ≤ S4x8.size a) : BitVec 32 :=
  tbM0_0.view.readAt (Elt F) (Rect.unit (s := S4x8) off S1x1.size h).toLoadRect xt (Shape.Idx.first (numel1_S1x1.symm ▸ Nat.one_pos))

/-- The slab of the stacked rows a point copies into the scratch. -/
def row (c : Dev nD) (i : grid0.Coords) (fh0 : HbBuf0 (F := F) c hbM0_0) (hc0 : cond0_0 i) : Vec F S1089x8x768 .f32 :=
  View.read (Elt F) ((hbM0_0.slice (Rect.unit (s := S4x1089x8x768) (k0_off1 i) S1x1089x8x768.size (k0_off1_inb i hc0)) (fun _ => rfl)).squeeze S1089x8x768 squeezes_S1x1089x8x768_S1089x8x768).view fh0

/-- One shifted block: the two loads from the scratch at the offsets computed from the lag's word. -/
def part (i : grid0.Coords) (w : BitVec 32) (d : Vec F S1089x8x768 .f32) (o1 o2 : Fin 3 → Nat)
    (h : (∀ a, o1 a + S64x8x768.size a ≤ S1089x8x768.size a) ∧ (∀ a, o2 a + S1x8x768.size a ≤ S1089x8x768.size a)) : FVec F S512x768 .f32 :=
  shifted (place i w) (View.ld (Val := Elt F) (e' := .f32) d (Rect.unit (s := S1089x8x768) o1 S64x8x768.size h.1))
    (View.ld (Val := Elt F) (e' := .f32) d (Rect.unit (s := S1089x8x768) o2 S1x8x768.size h.2))

/-- The block a point writes, from the table and the scratch. -/
def pay (c : Dev nD) (i : grid0.Coords) (xt0 : TbBuf0 (F := F) c tbM0_0) (d : Vec F S1089x8x768 .f32)
    (k0_hw1 : k0_chk1 i (word c xt0 (k0_off2 i) (k0_off2_inb i))) (k0_hw2 : k0_chk2 i (word c xt0 (k0_off5 i) (k0_off5_inb i))) (k0_hw3 : k0_chk3 i (word c xt0 (k0_off8 i) (k0_off8_inb i))) (k0_hw4 : k0_chk4 i (word c xt0 (k0_off11 i) (k0_off11_inb i))) (k0_hw5 : k0_chk5 i (word c xt0 (k0_off14 i) (k0_off14_inb i))) (k0_hw6 : k0_chk6 i (word c xt0 (k0_off17 i) (k0_off17_inb i))) (k0_hw7 : k0_chk7 i (word c xt0 (k0_off20 i) (k0_off20_inb i))) (k0_hw8 : k0_chk8 i (word c xt0 (k0_off23 i) (k0_off23_inb i))) : FVec F S1x512x768 .f32 :=
  eighth (part i (word c xt0 (k0_off2 i) (k0_off2_inb i)) d (k0_off3 i (word c xt0 (k0_off2 i) (k0_off2_inb i))) (k0_off4 i (word c xt0 (k0_off2 i) (k0_off2_inb i))) k0_hw1)
      (part i (word c xt0 (k0_off5 i) (k0_off5_inb i)) d (k0_off6 i (word c xt0 (k0_off5 i) (k0_off5_inb i))) (k0_off7 i (word c xt0 (k0_off5 i) (k0_off5_inb i))) k0_hw2)
      (part i (word c xt0 (k0_off8 i) (k0_off8_inb i)) d (k0_off9 i (word c xt0 (k0_off8 i) (k0_off8_inb i))) (k0_off10 i (word c xt0 (k0_off8 i) (k0_off8_inb i))) k0_hw3)
      (part i (word c xt0 (k0_off11 i) (k0_off11_inb i)) d (k0_off12 i (word c xt0 (k0_off11 i) (k0_off11_inb i))) (k0_off13 i (word c xt0 (k0_off11 i) (k0_off11_inb i))) k0_hw4)
      (part i (word c xt0 (k0_off14 i) (k0_off14_inb i)) d (k0_off15 i (word c xt0 (k0_off14 i) (k0_off14_inb i))) (k0_off16 i (word c xt0 (k0_off14 i) (k0_off14_inb i))) k0_hw5)
      (part i (word c xt0 (k0_off17 i) (k0_off17_inb i)) d (k0_off18 i (word c xt0 (k0_off17 i) (k0_off17_inb i))) (k0_off19 i (word c xt0 (k0_off17 i) (k0_off17_inb i))) k0_hw6)
      (part i (word c xt0 (k0_off20 i) (k0_off20_inb i)) d (k0_off21 i (word c xt0 (k0_off20 i) (k0_off20_inb i))) (k0_off22 i (word c xt0 (k0_off20 i) (k0_off20_inb i))) k0_hw7)
      (part i (word c xt0 (k0_off23 i) (k0_off23_inb i)) d (k0_off24 i (word c xt0 (k0_off23 i) (k0_off23_inb i))) (k0_off25 i (word c xt0 (k0_off23 i) (k0_off23_inb i))) k0_hw8)

/-- The result's staging buffer after the body. -/
def out (c : Dev nD) (i : grid0.Coords) (xt0 : TbBuf0 (F := F) c tbM0_0) (d : Vec F S1089x8x768 .f32)
    (k0_hw1 : k0_chk1 i (word c xt0 (k0_off2 i) (k0_off2_inb i))) (k0_hw2 : k0_chk2 i (word c xt0 (k0_off5 i) (k0_off5_inb i))) (k0_hw3 : k0_chk3 i (word c xt0 (k0_off8 i) (k0_off8_inb i))) (k0_hw4 : k0_chk4 i (word c xt0 (k0_off11 i) (k0_off11_inb i))) (k0_hw5 : k0_chk5 i (word c xt0 (k0_off14 i) (k0_off14_inb i))) (k0_hw6 : k0_chk6 i (word c xt0 (k0_off17 i) (k0_off17_inb i))) (k0_hw7 : k0_chk7 i (word c xt0 (k0_off20 i) (k0_off20_inb i))) (k0_hw8 : k0_chk8 i (word c xt0 (k0_off23 i) (k0_off23_inb i))) : Vec F S1x512x768 .f32 :=
  View.canon [⟨r0_0, pay c i xt0 d k0_hw1 k0_hw2 k0_hw3 k0_hw4 k0_hw5 k0_hw6 k0_hw7 k0_hw8⟩]

theorem cover0_0 (p0 : Vec F S1x512x768 .f32) (y : S1x512x768.Idx) :
    ∃ pc ∈ ([⟨r0_0, p0⟩] : List (View.Piece (Elt F) S1x512x768 .f32)), y ∈ pc.1.set :=
  View.cover_of_tiled [⟨r0_0, p0⟩] S1x512x768.size (by rfl) y

/-! ## The body's triple -/

set_option maxHeartbeats 4000000 in
/-- The body at a point whose scratch already holds `d`. -/
theorem kernelRun0_B (c : Dev nD) (i : grid0.Coords) (arg4 : Memref sig .tc .vmem S1x512x768 .f32) (harg4 : arg4.IsWhole) (arg5 : Memref sig .tc .vmem S1089x8x768 .f32) (harg5 : arg5.IsWhole) (hc0 : ¬ cond0_0 i)
    (xt0 : TbBuf0 (F := F) c tbM0_0) (fh0 : HbBuf0 (F := F) c hbM0_0) (d : Vec F S1089x8x768 .f32)
    (k0_hw1 : k0_chk1 i (word c xt0 (k0_off2 i) (k0_off2_inb i))) (k0_hw2 : k0_chk2 i (word c xt0 (k0_off5 i) (k0_off5_inb i))) (k0_hw3 : k0_chk3 i (word c xt0 (k0_off8 i) (k0_off8_inb i))) (k0_hw4 : k0_chk4 i (word c xt0 (k0_off11 i) (k0_off11_inb i))) (k0_hw5 : k0_chk5 i (word c xt0 (k0_off14 i) (k0_off14_inb i))) (k0_hw6 : k0_chk6 i (word c xt0 (k0_off17 i) (k0_off17_inb i))) (k0_hw7 : k0_chk7 i (word c xt0 (k0_off20 i) (k0_off20_inb i))) (k0_hw8 : k0_chk8 i (word c xt0 (k0_off23 i) (k0_off23_inb i)))
    (W : Waits sig Unit) (K : PUnit → sProp 𝕄) :
        iprop((∃ d, owns (c : Thread nD τ) arg4 fullShare d) ∗ owns (c : Thread nD τ) arg5 fullShare d ∗ tbPt0 c tbM0_0 xt0 ∗ semVal ((c : Thread nD τ), SemLoc.dma 2) 0 ∗ hbPt0 c hbM0_0 fh0 ∗ owes (c : Thread nD τ) 0 W
            ∗ (iprop(owns (c : Thread nD τ) arg4 fullShare (out c i xt0 d k0_hw1 k0_hw2 k0_hw3 k0_hw4 k0_hw5 k0_hw6 k0_hw7 k0_hw8) ∗ owns (c : Thread nD τ) arg5 fullShare d ∗ tbPt0 c tbM0_0 xt0 ∗ semVal ((c : Thread nD τ), SemLoc.dma 2) 0 ∗ hbPt0 c hbM0_0 fh0 ∗ (∃ W', owes (c : Thread nD τ) 0 W')) -∗ K ⟨⟩))
          ⊢ wp frame (wpE (defs₀ (F := F)) Variants.none c none) Set.univ (cc0__gather_body i tbM0_0 htbM0_0 (Memref.whole main_v2) (Memref.isWhole_whole _) arg4 harg4 arg5 harg5 cc0_scratch1) K := by
  rw [body_eq]; unfold body
  simp only [k0_part1_eq_skeleton, part2_eq, part3_eq, part4_eq, part5_eq, part6_eq, part7_eq]
  unfold k0_part1_skel part2 part3 part4 part5 part6 part7
  unfold owns
  iintro ⟨⟨%d0, %f0, -, H0⟩, ⟨%fs0, %hfs0, HS0⟩, HT0, Hq0, Hh0, HW, Hk⟩
  subst hfs0
  sl_exec (disch := first | sl_exact hc0 | sl_exact k0_hw1 | sl_exact k0_hw2 | sl_exact k0_hw3 | sl_exact k0_hw4 | sl_exact k0_hw5 | sl_exact k0_hw6 | sl_exact k0_hw7 | sl_exact k0_hw8)
  sl_step
  iapply Hk
  isplitl [H0]
  · iexists _; isplitr
    swap; · iexact H0
    ipureintro
    refine (View.read_writes_eq_canon _ _ _ (cover0_0 _)).trans ?_
    have e1 : kernelRun0_B.sl.v39 c i arg5 xt0 k0_hw1 fs0 = part i (word c xt0 (k0_off2 i) (k0_off2_inb i)) (View.read (Elt F) arg5.view fs0) (k0_off3 i (word c xt0 (k0_off2 i) (k0_off2_inb i))) (k0_off4 i (word c xt0 (k0_off2 i) (k0_off2_inb i))) k0_hw1 := by
      dsimp only [part, shifted, place, group, start, word, kernelRun0_B.sl.v0, kernelRun0_B.sl.v7, kernelRun0_B.sl.v8, kernelRun0_B.sl.v9, kernelRun0_B.sl.v10, kernelRun0_B.sl.v11, kernelRun0_B.sl.v12, kernelRun0_B.sl.v13, kernelRun0_B.sl.v14, kernelRun0_B.sl.v15, kernelRun0_B.sl.v21, kernelRun0_B.sl.v22, kernelRun0_B.sl.v23, kernelRun0_B.sl.v24, kernelRun0_B.sl.v25, kernelRun0_B.sl.v26, kernelRun0_B.sl.v27, kernelRun0_B.sl.v28, kernelRun0_B.sl.v36, kernelRun0_B.sl.v37, kernelRun0_B.sl.v38, kernelRun0_B.sl.v39, kernelRun0_B.sl.r]
      rfl
    have e2 : kernelRun0_B.sl.v75 c i arg5 xt0 k0_hw1 k0_hw2 fs0 = part i (word c xt0 (k0_off5 i) (k0_off5_inb i)) (View.read (Elt F) arg5.view fs0) (k0_off6 i (word c xt0 (k0_off5 i) (k0_off5_inb i))) (k0_off7 i (word c xt0 (k0_off5 i) (k0_off5_inb i))) k0_hw2 := by
      dsimp only [part, shifted, place, group, start, word, kernelRun0_B.sl.v0, kernelRun0_B.sl.v43, kernelRun0_B.sl.v44, kernelRun0_B.sl.v45, kernelRun0_B.sl.v46, kernelRun0_B.sl.v47, kernelRun0_B.sl.v48, kernelRun0_B.sl.v49, kernelRun0_B.sl.v50, kernelRun0_B.sl.v51, kernelRun0_B.sl.v57, kernelRun0_B.sl.v58, kernelRun0_B.sl.v59, kernelRun0_B.sl.v60, kernelRun0_B.sl.v61, kernelRun0_B.sl.v62, kernelRun0_B.sl.v63, kernelRun0_B.sl.v64, kernelRun0_B.sl.v72, kernelRun0_B.sl.v73, kernelRun0_B.sl.v74, kernelRun0_B.sl.v75, kernelRun0_B.sl.r_1]
      rfl
    have e3 : kernelRun0_B.sl.v111 c i arg5 xt0 k0_hw3 fs0 = part i (word c xt0 (k0_off8 i) (k0_off8_inb i)) (View.read (Elt F) arg5.view fs0) (k0_off9 i (word c xt0 (k0_off8 i) (k0_off8_inb i))) (k0_off10 i (word c xt0 (k0_off8 i) (k0_off8_inb i))) k0_hw3 := by
      dsimp only [part, shifted, place, group, start, word, kernelRun0_B.sl.v0, kernelRun0_B.sl.v79, kernelRun0_B.sl.v80, kernelRun0_B.sl.v81, kernelRun0_B.sl.v82, kernelRun0_B.sl.v83, kernelRun0_B.sl.v84, kernelRun0_B.sl.v85, kernelRun0_B.sl.v86, kernelRun0_B.sl.v87, kernelRun0_B.sl.v93, kernelRun0_B.sl.v94, kernelRun0_B.sl.v95, kernelRun0_B.sl.v96, kernelRun0_B.sl.v97, kernelRun0_B.sl.v98, kernelRun0_B.sl.v99, kernelRun0_B.sl.v100, kernelRun0_B.sl.v108, kernelRun0_B.sl.v109, kernelRun0_B.sl.v110, kernelRun0_B.sl.v111, kernelRun0_B.sl.r_2]
      rfl
    have e4 : kernelRun0_B.sl.v147 c i arg5 xt0 k0_hw4 fs0 = part i (word c xt0 (k0_off11 i) (k0_off11_inb i)) (View.read (Elt F) arg5.view fs0) (k0_off12 i (word c xt0 (k0_off11 i) (k0_off11_inb i))) (k0_off13 i (word c xt0 (k0_off11 i) (k0_off11_inb i))) k0_hw4 := by
      dsimp only [part, shifted, place, group, start, word, kernelRun0_B.sl.v0, kernelRun0_B.sl.v115, kernelRun0_B.sl.v116, kernelRun0_B.sl.v117, kernelRun0_B.sl.v118, kernelRun0_B.sl.v119, kernelRun0_B.sl.v120, kernelRun0_B.sl.v121, kernelRun0_B.sl.v122, kernelRun0_B.sl.v123, kernelRun0_B.sl.v129, kernelRun0_B.sl.v130, kernelRun0_B.sl.v131, kernelRun0_B.sl.v132, kernelRun0_B.sl.v133, kernelRun0_B.sl.v134, kernelRun0_B.sl.v135, kernelRun0_B.sl.v136, kernelRun0_B.sl.v144, kernelRun0_B.sl.v145, kernelRun0_B.sl.v146, kernelRun0_B.sl.v147, kernelRun0_B.sl.r_3]
      rfl
    have e5 : kernelRun0_B.sl.v183 c i arg5 xt0 k0_hw1 k0_hw2 k0_hw3 k0_hw4 k0_hw5 fs0 = part i (word c xt0 (k0_off14 i) (k0_off14_inb i)) (View.read (Elt F) arg5.view fs0) (k0_off15 i (word c xt0 (k0_off14 i) (k0_off14_inb i))) (k0_off16 i (word c xt0 (k0_off14 i) (k0_off14_inb i))) k0_hw5 := by
      dsimp only [part, shifted, place, group, start, word, kernelRun0_B.sl.v0, kernelRun0_B.sl.v151, kernelRun0_B.sl.v152, kernelRun0_B.sl.v153, kernelRun0_B.sl.v154, kernelRun0_B.sl.v155, kernelRun0_B.sl.v156, kernelRun0_B.sl.v157, kernelRun0_B.sl.v158, kernelRun0_B.sl.v159, kernelRun0_B.sl.v165, kernelRun0_B.sl.v166, kernelRun0_B.sl.v167, kernelRun0_B.sl.v168, kernelRun0_B.sl.v169, kernelRun0_B.sl.v170, kernelRun0_B.sl.v171, kernelRun0_B.sl.v172, kernelRun0_B.sl.v174, kernelRun0_B.sl.v178, kernelRun0_B.sl.v180, kernelRun0_B.sl.v181, kernelRun0_B.sl.v182, kernelRun0_B.sl.v183, kernelRun0_B.sl.r_4]
      rfl
    have e6 : kernelRun0_B.sl.v219 c i arg5 xt0 k0_hw1 k0_hw2 k0_hw3 k0_hw4 k0_hw5 k0_hw6 fs0 = part i (word c xt0 (k0_off17 i) (k0_off17_inb i)) (View.read (Elt F) arg5.view fs0) (k0_off18 i (word c xt0 (k0_off17 i) (k0_off17_inb i))) (k0_off19 i (word c xt0 (k0_off17 i) (k0_off17_inb i))) k0_hw6 := by
      dsimp only [part, shifted, place, group, start, word, kernelRun0_B.sl.v0, kernelRun0_B.sl.v187, kernelRun0_B.sl.v188, kernelRun0_B.sl.v189, kernelRun0_B.sl.v190, kernelRun0_B.sl.v191, kernelRun0_B.sl.v192, kernelRun0_B.sl.v193, kernelRun0_B.sl.v194, kernelRun0_B.sl.v195, kernelRun0_B.sl.v201, kernelRun0_B.sl.v202, kernelRun0_B.sl.v203, kernelRun0_B.sl.v204, kernelRun0_B.sl.v205, kernelRun0_B.sl.v206, kernelRun0_B.sl.v207, kernelRun0_B.sl.v208, kernelRun0_B.sl.v210, kernelRun0_B.sl.v214, kernelRun0_B.sl.v216, kernelRun0_B.sl.v217, kernelRun0_B.sl.v218, kernelRun0_B.sl.v219, kernelRun0_B.sl.r_5]
      rfl
    have e7 : kernelRun0_B.sl.v255 c i arg5 xt0 k0_hw1 k0_hw2 k0_hw3 k0_hw4 k0_hw5 k0_hw6 k0_hw7 fs0 = part i (word c xt0 (k0_off20 i) (k0_off20_inb i)) (View.read (Elt F) arg5.view fs0) (k0_off21 i (word c xt0 (k0_off20 i) (k0_off20_inb i))) (k0_off22 i (word c xt0 (k0_off20 i) (k0_off20_inb i))) k0_hw7 := by
      dsimp only [part, shifted, place, group, start, word, kernelRun0_B.sl.v0, kernelRun0_B.sl.v223, kernelRun0_B.sl.v224, kernelRun0_B.sl.v225, kernelRun0_B.sl.v226, kernelRun0_B.sl.v227, kernelRun0_B.sl.v228, kernelRun0_B.sl.v229, kernelRun0_B.sl.v230, kernelRun0_B.sl.v231, kernelRun0_B.sl.v237, kernelRun0_B.sl.v238, kernelRun0_B.sl.v239, kernelRun0_B.sl.v240, kernelRun0_B.sl.v241, kernelRun0_B.sl.v242, kernelRun0_B.sl.v243, kernelRun0_B.sl.v244, kernelRun0_B.sl.v246, kernelRun0_B.sl.v250, kernelRun0_B.sl.v252, kernelRun0_B.sl.v253, kernelRun0_B.sl.v254, kernelRun0_B.sl.v255, kernelRun0_B.sl.r_6]
      rfl
    refine congrArg (fun z => View.canon [⟨r0_0, z⟩]) (congrArg₂ k0_pay10 ?_ ?_)
    · exact congrArg₂ addf (congrArg₂ addf (congrArg₂ addf (congrArg₂ addf (congrArg₂ addf (congrArg₂ addf (congrArg₂ addf rfl e1) e2) e3) e4) e5) e6) e7
    · show _ = part i (word c xt0 (k0_off23 i) (k0_off23_inb i)) (View.read (Elt F) arg5.view fs0) (k0_off24 i (word c xt0 (k0_off23 i) (k0_off23_inb i))) (k0_off25 i (word c xt0 (k0_off23 i) (k0_off23_inb i))) k0_hw8
      dsimp only [part, shifted, place, group, start, word, kernelRun0_B.sl.v0, kernelRun0_B.sl.v259, kernelRun0_B.sl.v260, kernelRun0_B.sl.v261, kernelRun0_B.sl.v262, kernelRun0_B.sl.v263, kernelRun0_B.sl.v264, kernelRun0_B.sl.v265, kernelRun0_B.sl.v282, kernelRun0_B.sl.v286, kernelRun0_B.sl.r_7]
      rfl
  isplitl [HS0]
  · iexists _; isplitr
    swap; · iexact HS0
    ipureintro; rfl
  isplitl [HT0]; · iexact HT0
  isplitl [Hq0]; · iexact Hq0
  isplitl [Hh0]; · iexact Hh0
  iexists _; iexact HW

set_option maxHeartbeats 4000000 in
/-- The body at a point that first fills the scratch. -/
theorem kernelRun0_A (c : Dev nD) (i : grid0.Coords) (arg4 : Memref sig .tc .vmem S1x512x768 .f32) (harg4 : arg4.IsWhole) (arg5 : Memref sig .tc .vmem S1089x8x768 .f32) (harg5 : arg5.IsWhole) (hc0 : cond0_0 i)
    (xt0 : TbBuf0 (F := F) c tbM0_0) (fh0 : HbBuf0 (F := F) c hbM0_0) (d : Vec F S1089x8x768 .f32) (hd : d = row c i fh0 hc0)
    (k0_hw1 : k0_chk1 i (word c xt0 (k0_off2 i) (k0_off2_inb i))) (k0_hw2 : k0_chk2 i (word c xt0 (k0_off5 i) (k0_off5_inb i))) (k0_hw3 : k0_chk3 i (word c xt0 (k0_off8 i) (k0_off8_inb i))) (k0_hw4 : k0_chk4 i (word c xt0 (k0_off11 i) (k0_off11_inb i))) (k0_hw5 : k0_chk5 i (word c xt0 (k0_off14 i) (k0_off14_inb i))) (k0_hw6 : k0_chk6 i (word c xt0 (k0_off17 i) (k0_off17_inb i))) (k0_hw7 : k0_chk7 i (word c xt0 (k0_off20 i) (k0_off20_inb i))) (k0_hw8 : k0_chk8 i (word c xt0 (k0_off23 i) (k0_off23_inb i)))
    (W : Waits sig Unit) (K : PUnit → sProp 𝕄) :
        iprop((∃ d, owns (c : Thread nD τ) arg4 fullShare d) ∗ (∃ d, owns (c : Thread nD τ) arg5 fullShare d) ∗ tbPt0 c tbM0_0 xt0 ∗ semVal ((c : Thread nD τ), SemLoc.dma 2) 0 ∗ hbPt0 c hbM0_0 fh0 ∗ owes (c : Thread nD τ) 0 W
            ∗ (iprop(owns (c : Thread nD τ) arg4 fullShare (out c i xt0 d k0_hw1 k0_hw2 k0_hw3 k0_hw4 k0_hw5 k0_hw6 k0_hw7 k0_hw8) ∗ owns (c : Thread nD τ) arg5 fullShare d ∗ tbPt0 c tbM0_0 xt0 ∗ semVal ((c : Thread nD τ), SemLoc.dma 2) 0 ∗ hbPt0 c hbM0_0 fh0 ∗ (∃ W', owes (c : Thread nD τ) 0 W')) -∗ K ⟨⟩))
          ⊢ wp frame (wpE (defs₀ (F := F)) Variants.none c none) Set.univ (cc0__gather_body i tbM0_0 htbM0_0 (Memref.whole main_v2) (Memref.isWhole_whole _) arg4 harg4 arg5 harg5 cc0_scratch1) K := by
  rw [body_eq]; unfold body
  simp only [k0_part1_eq_skeleton, part2_eq, part3_eq, part4_eq, part5_eq, part6_eq, part7_eq]
  unfold k0_part1_skel part2 part3 part4 part5 part6 part7
  unfold owns
  iintro ⟨⟨%d0, %f0, -, H0⟩, ⟨%ds0, %fs0, -, HS0⟩, HT0, Hq0, Hh0, HW, Hk⟩
  subst hd
  sl_exec (disch := first | sl_exact hc0 | sl_exact k0_hw1 | sl_exact k0_hw2 | sl_exact k0_hw3 | sl_exact k0_hw4 | sl_exact k0_hw5 | sl_exact k0_hw6 | sl_exact k0_hw7 | sl_exact k0_hw8)
  have hd : View.read (Elt F) arg5.view (arg5.view.writes (Elt F) arg5.view.junk [⟨Rect.whole S1089x8x768, row c i fh0 hc0⟩]) = row c i fh0 hc0 := View.read_writes_whole _ _ _
  sl_step
  iapply Hk
  isplitl [H0]
  · iexists _; isplitr
    swap; · iexact H0
    ipureintro
    refine (View.read_writes_eq_canon _ _ _ (cover0_0 _)).trans ?_
    refine Eq.trans ?_ (congrArg (fun d => out c i xt0 d k0_hw1 k0_hw2 k0_hw3 k0_hw4 k0_hw5 k0_hw6 k0_hw7 k0_hw8) hd)
    have e1 : kernelRun0_A.sl.v39 c i arg5 hc0 xt0 fh0 k0_hw1  = part i (word c xt0 (k0_off2 i) (k0_off2_inb i)) (View.read (Elt F) arg5.view (arg5.view.writes (Elt F) arg5.view.junk [⟨Rect.whole S1089x8x768, row c i fh0 hc0⟩])) (k0_off3 i (word c xt0 (k0_off2 i) (k0_off2_inb i))) (k0_off4 i (word c xt0 (k0_off2 i) (k0_off2_inb i))) k0_hw1 := by
      dsimp only [part, shifted, place, group, start, word, kernelRun0_A.sl.v0, kernelRun0_A.sl.v7, kernelRun0_A.sl.v8, kernelRun0_A.sl.v9, kernelRun0_A.sl.v10, kernelRun0_A.sl.v11, kernelRun0_A.sl.v12, kernelRun0_A.sl.v13, kernelRun0_A.sl.v14, kernelRun0_A.sl.v15, kernelRun0_A.sl.v21, kernelRun0_A.sl.v22, kernelRun0_A.sl.v23, kernelRun0_A.sl.v24, kernelRun0_A.sl.v25, kernelRun0_A.sl.v26, kernelRun0_A.sl.v27, kernelRun0_A.sl.v28, kernelRun0_A.sl.v30, kernelRun0_A.sl.v34, kernelRun0_A.sl.v36, kernelRun0_A.sl.v37, kernelRun0_A.sl.v38, kernelRun0_A.sl.v39, kernelRun0_A.sl.r]
      rfl
    have e2 : kernelRun0_A.sl.v75 c i arg5 hc0 xt0 fh0 k0_hw1 k0_hw2  = part i (word c xt0 (k0_off5 i) (k0_off5_inb i)) (View.read (Elt F) arg5.view (arg5.view.writes (Elt F) arg5.view.junk [⟨Rect.whole S1089x8x768, row c i fh0 hc0⟩])) (k0_off6 i (word c xt0 (k0_off5 i) (k0_off5_inb i))) (k0_off7 i (word c xt0 (k0_off5 i) (k0_off5_inb i))) k0_hw2 := by
      dsimp only [part, shifted, place, group, start, word, kernelRun0_A.sl.v0, kernelRun0_A.sl.v43, kernelRun0_A.sl.v44, kernelRun0_A.sl.v45, kernelRun0_A.sl.v46, kernelRun0_A.sl.v47, kernelRun0_A.sl.v48, kernelRun0_A.sl.v49, kernelRun0_A.sl.v50, kernelRun0_A.sl.v51, kernelRun0_A.sl.v57, kernelRun0_A.sl.v58, kernelRun0_A.sl.v59, kernelRun0_A.sl.v60, kernelRun0_A.sl.v61, kernelRun0_A.sl.v62, kernelRun0_A.sl.v63, kernelRun0_A.sl.v64, kernelRun0_A.sl.v66, kernelRun0_A.sl.v70, kernelRun0_A.sl.v72, kernelRun0_A.sl.v73, kernelRun0_A.sl.v74, kernelRun0_A.sl.v75, kernelRun0_A.sl.r_1]
      rfl
    have e3 : kernelRun0_A.sl.v111 c i arg5 hc0 xt0 fh0 k0_hw3  = part i (word c xt0 (k0_off8 i) (k0_off8_inb i)) (View.read (Elt F) arg5.view (arg5.view.writes (Elt F) arg5.view.junk [⟨Rect.whole S1089x8x768, row c i fh0 hc0⟩])) (k0_off9 i (word c xt0 (k0_off8 i) (k0_off8_inb i))) (k0_off10 i (word c xt0 (k0_off8 i) (k0_off8_inb i))) k0_hw3 := by
      dsimp only [part, shifted, place, group, start, word, kernelRun0_A.sl.v0, kernelRun0_A.sl.v79, kernelRun0_A.sl.v80, kernelRun0_A.sl.v81, kernelRun0_A.sl.v82, kernelRun0_A.sl.v83, kernelRun0_A.sl.v84, kernelRun0_A.sl.v85, kernelRun0_A.sl.v86, kernelRun0_A.sl.v87, kernelRun0_A.sl.v93, kernelRun0_A.sl.v94, kernelRun0_A.sl.v95, kernelRun0_A.sl.v96, kernelRun0_A.sl.v97, kernelRun0_A.sl.v98, kernelRun0_A.sl.v99, kernelRun0_A.sl.v100, kernelRun0_A.sl.v102, kernelRun0_A.sl.v106, kernelRun0_A.sl.v108, kernelRun0_A.sl.v109, kernelRun0_A.sl.v110, kernelRun0_A.sl.v111, kernelRun0_A.sl.r_2]
      rfl
    have e4 : kernelRun0_A.sl.v147 c i arg5 hc0 xt0 fh0 k0_hw4  = part i (word c xt0 (k0_off11 i) (k0_off11_inb i)) (View.read (Elt F) arg5.view (arg5.view.writes (Elt F) arg5.view.junk [⟨Rect.whole S1089x8x768, row c i fh0 hc0⟩])) (k0_off12 i (word c xt0 (k0_off11 i) (k0_off11_inb i))) (k0_off13 i (word c xt0 (k0_off11 i) (k0_off11_inb i))) k0_hw4 := by
      dsimp only [part, shifted, place, group, start, word, kernelRun0_A.sl.v0, kernelRun0_A.sl.v115, kernelRun0_A.sl.v116, kernelRun0_A.sl.v117, kernelRun0_A.sl.v118, kernelRun0_A.sl.v119, kernelRun0_A.sl.v120, kernelRun0_A.sl.v121, kernelRun0_A.sl.v122, kernelRun0_A.sl.v123, kernelRun0_A.sl.v129, kernelRun0_A.sl.v130, kernelRun0_A.sl.v131, kernelRun0_A.sl.v132, kernelRun0_A.sl.v133, kernelRun0_A.sl.v134, kernelRun0_A.sl.v135, kernelRun0_A.sl.v136, kernelRun0_A.sl.v138, kernelRun0_A.sl.v142, kernelRun0_A.sl.v144, kernelRun0_A.sl.v145, kernelRun0_A.sl.v146, kernelRun0_A.sl.v147, kernelRun0_A.sl.r_3]
      rfl
    have e5 : kernelRun0_A.sl.v183 c i arg5 hc0 xt0 fh0 k0_hw1 k0_hw2 k0_hw3 k0_hw4 k0_hw5  = part i (word c xt0 (k0_off14 i) (k0_off14_inb i)) (View.read (Elt F) arg5.view (arg5.view.writes (Elt F) arg5.view.junk [⟨Rect.whole S1089x8x768, row c i fh0 hc0⟩])) (k0_off15 i (word c xt0 (k0_off14 i) (k0_off14_inb i))) (k0_off16 i (word c xt0 (k0_off14 i) (k0_off14_inb i))) k0_hw5 := by
      dsimp only [part, shifted, place, group, start, word, kernelRun0_A.sl.v0, kernelRun0_A.sl.v151, kernelRun0_A.sl.v152, kernelRun0_A.sl.v153, kernelRun0_A.sl.v154, kernelRun0_A.sl.v155, kernelRun0_A.sl.v156, kernelRun0_A.sl.v157, kernelRun0_A.sl.v158, kernelRun0_A.sl.v159, kernelRun0_A.sl.v165, kernelRun0_A.sl.v166, kernelRun0_A.sl.v167, kernelRun0_A.sl.v168, kernelRun0_A.sl.v169, kernelRun0_A.sl.v170, kernelRun0_A.sl.v171, kernelRun0_A.sl.v172, kernelRun0_A.sl.v174, kernelRun0_A.sl.v178, kernelRun0_A.sl.v180, kernelRun0_A.sl.v181, kernelRun0_A.sl.v182, kernelRun0_A.sl.v183, kernelRun0_A.sl.r_4]
      rfl
    have e6 : kernelRun0_A.sl.v219 c i arg5 hc0 xt0 fh0 k0_hw1 k0_hw2 k0_hw3 k0_hw4 k0_hw5 k0_hw6  = part i (word c xt0 (k0_off17 i) (k0_off17_inb i)) (View.read (Elt F) arg5.view (arg5.view.writes (Elt F) arg5.view.junk [⟨Rect.whole S1089x8x768, row c i fh0 hc0⟩])) (k0_off18 i (word c xt0 (k0_off17 i) (k0_off17_inb i))) (k0_off19 i (word c xt0 (k0_off17 i) (k0_off17_inb i))) k0_hw6 := by
      dsimp only [part, shifted, place, group, start, word, kernelRun0_A.sl.v0, kernelRun0_A.sl.v187, kernelRun0_A.sl.v188, kernelRun0_A.sl.v189, kernelRun0_A.sl.v190, kernelRun0_A.sl.v191, kernelRun0_A.sl.v192, kernelRun0_A.sl.v193, kernelRun0_A.sl.v194, kernelRun0_A.sl.v195, kernelRun0_A.sl.v201, kernelRun0_A.sl.v202, kernelRun0_A.sl.v203, kernelRun0_A.sl.v204, kernelRun0_A.sl.v205, kernelRun0_A.sl.v206, kernelRun0_A.sl.v207, kernelRun0_A.sl.v208, kernelRun0_A.sl.v210, kernelRun0_A.sl.v214, kernelRun0_A.sl.v216, kernelRun0_A.sl.v217, kernelRun0_A.sl.v218, kernelRun0_A.sl.v219, kernelRun0_A.sl.r_5]
      rfl
    have e7 : kernelRun0_A.sl.v255 c i arg5 hc0 xt0 fh0 k0_hw1 k0_hw2 k0_hw3 k0_hw4 k0_hw5 k0_hw6 k0_hw7  = part i (word c xt0 (k0_off20 i) (k0_off20_inb i)) (View.read (Elt F) arg5.view (arg5.view.writes (Elt F) arg5.view.junk [⟨Rect.whole S1089x8x768, row c i fh0 hc0⟩])) (k0_off21 i (word c xt0 (k0_off20 i) (k0_off20_inb i))) (k0_off22 i (word c xt0 (k0_off20 i) (k0_off20_inb i))) k0_hw7 := by
      dsimp only [part, shifted, place, group, start, word, kernelRun0_A.sl.v0, kernelRun0_A.sl.v223, kernelRun0_A.sl.v224, kernelRun0_A.sl.v225, kernelRun0_A.sl.v226, kernelRun0_A.sl.v227, kernelRun0_A.sl.v228, kernelRun0_A.sl.v229, kernelRun0_A.sl.v230, kernelRun0_A.sl.v231, kernelRun0_A.sl.v237, kernelRun0_A.sl.v238, kernelRun0_A.sl.v239, kernelRun0_A.sl.v240, kernelRun0_A.sl.v241, kernelRun0_A.sl.v242, kernelRun0_A.sl.v243, kernelRun0_A.sl.v244, kernelRun0_A.sl.v246, kernelRun0_A.sl.v250, kernelRun0_A.sl.v252, kernelRun0_A.sl.v253, kernelRun0_A.sl.v254, kernelRun0_A.sl.v255, kernelRun0_A.sl.r_6]
      rfl
    refine congrArg (fun z => View.canon [⟨r0_0, z⟩]) (congrArg₂ k0_pay10 ?_ ?_)
    · exact congrArg₂ addf (congrArg₂ addf (congrArg₂ addf (congrArg₂ addf (congrArg₂ addf (congrArg₂ addf (congrArg₂ addf rfl e1) e2) e3) e4) e5) e6) e7
    · show _ = part i (word c xt0 (k0_off23 i) (k0_off23_inb i)) (View.read (Elt F) arg5.view (arg5.view.writes (Elt F) arg5.view.junk [⟨Rect.whole S1089x8x768, row c i fh0 hc0⟩])) (k0_off24 i (word c xt0 (k0_off23 i) (k0_off23_inb i))) (k0_off25 i (word c xt0 (k0_off23 i) (k0_off23_inb i))) k0_hw8
      dsimp only [part, shifted, place, group, start, word, kernelRun0_A.sl.v0, kernelRun0_A.sl.v259, kernelRun0_A.sl.v260, kernelRun0_A.sl.v261, kernelRun0_A.sl.v262, kernelRun0_A.sl.v263, kernelRun0_A.sl.v264, kernelRun0_A.sl.v265, kernelRun0_A.sl.v282, kernelRun0_A.sl.v286, kernelRun0_A.sl.r_7]
      rfl
  isplitl [HS0]
  · iexists _; isplitr
    swap; · iexact HS0
    ipureintro; exact hd
  isplitl [HT0]; · iexact HT0
  isplitl [Hq0]; · iexact Hq0
  isplitl [Hh0]; · iexact Hh0
  iexists _; iexact HW

end Cert.Kernel3Ideal.Run

end
-- ==== Proof.GatherIdealFrame.lean ====
/-
  The launch of the call that averages the shifted values: what its points carry and leave, and its run from any memory
  whose table of lags satisfies `Run.Hyps`.
-/
module

public import proofs.«01_k».proof.Proof.GatherIdealRun

@[expose] public section

set_option maxRecDepth 16384

noncomputable section

namespace Cert.Kernel3Ideal.Run

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the points carry and leave -/

/-- The first point of the batch row the point numbered `n` lies in. -/
def first (n : ℕ) : Fin grid0.N := ⟨n / 16 % 4 * 16, by have := N_0; omega⟩

theorem first_first (n : ℕ) : cond0_0 (grid0.coords (first n)) :=
  (hcond0_0 _).mpr (by show n / 16 % 4 * 16 % 16 = 0; omega)

/-- The row of the extended values the point numbered `n` reads. -/
def slab (c : Dev nD) (n : ℕ) : Vec F S1089x8x768 .f32 :=
  row c (grid0.coords (first n)) (V m c main_v2) (first_first n)

theorem slab_succ (c : Dev nD) (n : ℕ) (h : (n + 1) % 16 ≠ 0) : slab m c (n + 1) = slab m c n := by
  have e : first (n + 1) = first n := Fin.ext (by show (n + 1) / 16 % 4 * 16 = n / 16 % 4 * 16; omega)
  unfold slab; congr 2

theorem slab_first (c : Dev nD) (t : Fin grid0.N) (h : t.val % 16 = 0) :
    slab m c t.val = row c (grid0.coords t) (V m c main_v2) ((hcond0_0 t).mpr h) := by
  have e : first t.val = t := Fin.ext (by have := t.isLt; have := N_0; show t.val / 16 % 4 * 16 = t.val; omega)
  unfold slab; congr 2

/-- What is carried to the point numbered `n`: the scratch, holding the batch row unless the point is the first of its
    row, the generator register, the copy's counter at zero and the extended values. -/
def carry (c : Dev nD) (n : ℕ) : sProp 𝕄 :=
  iprop((∃ d, ⌜n % 16 ≠ 0 → d = slab m c n⌝ ∗ owns (c : Thread nD τ) scM0_0 fullShare d) ∗ (∃ r, prngReg c r) ∗ semVal ((c : Thread nD τ), SemLoc.dma 2) 0 ∗ hbPt0 c hbM0_0 (V m c main_v2) ∗ tbPt0 c tbM0_0 (tbl m 0))

/-- The block the point `t` leaves. -/
def left (hO : Ok m) (hH : Hyps m hO) (c : Dev nD) (t : Fin (cfgM m hO).N) : Vec F S1x512x768 .f32 :=
  out c (grid0.coords t) (tbl m 0) (slab m c t.val) (hH c t).1 (hH c t).2.1 (hH c t).2.2.1 (hH c t).2.2.2.1 (hH c t).2.2.2.2.1 (hH c t).2.2.2.2.2.1 (hH c t).2.2.2.2.2.2.1 (hH c t).2.2.2.2.2.2.2

/-- The proof data: the arrays as the region finds them, the result's buffer after each point at the block it leaves. -/
def dats (hO : Ok m) (hH : Hyps m hO) (_ : Fin 1) (c : Dev nD) : Dat τ (Elt F) Unit ℕ (Pipeline.UD sig nD τ) ℕ (cfgM m hO) c where
  A w := V m c (Pipeline.arrRef spec0 w)
  after w t := match w with
    | ⟨0, _⟩ => left m hO hH c t
  Φ t := carry m c t.val
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem after0_0 (hO : Ok m) (hH : Hyps m hO) (c : Dev nD) (t : Fin (cfgM m hO).N) : (dats m hO hH 0 c).after 0 t = left m hO hH c t := by dsimp only [dats]; rfl

theorem carried (hO : Ok m) (hH : Hyps m hO) (c : Dev nD) (t : Fin ((cfgM m hO).N + 1)) : (dats m hO hH 0 c).Φ t = carry m c t.val := by dsimp only [dats]
theorem nothing_owed (hO : Ok m) (hH : Hyps m hO) (c : Dev nD) (t : Fin ((cfgM m hO).N + 1)) : (dats m hO hH 0 c).owed t = 0 := by dsimp only [dats]

/-! ## The body obligation -/

/-- The body at point `t`, on the staging buffer the pipeline passes it. -/
abbrev bodyAt0 (hO : Ok m) (t : Fin (cfgM m hO).N) : Prog (TpuEff nD τ sig (Elt F) Λ₀ .tc) PUnit :=
  cc0__gather_body (grid0.coords t) tbM0_0 htbM0_0 (Memref.whole main_v2) (Memref.isWhole_whole _) (ms0_0 m hO t) (hs0_0 m hO t) scM0_0 (Memref.isWhole_whole _) cc0_scratch1

/-- What the body is called with at point `t`. -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d)))

/-- What it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t))

set_option maxHeartbeats 800000 in
/-- The body at any point: at the first point of a batch row it fills the scratch, at the others it finds it filled. -/
theorem sound_body (hO : Ok m) (hH : Hyps m hO) (c : Dev nD) (t : Fin (cfgM m hO).N) :
    bodyPre m hO hH c t ⊢ wp frame (wpE (defs₀ (F := F)) Variants.none c none) Set.univ (bodyAt0 m hO t) (fun _ => bodyPost m hO hH c t) := by
  unfold bodyPre bodyPost bodyAt0
  rw [carried, carried, after0_0, Fin.val_succ, Fin.val_castSucc]
  unfold carry Dat.owesAt Pipeline.owesWithin
  rw [nothing_owed, nothing_owed]
  have hN : t.val < 64 := lt_of_lt_of_eq t.isLt (show (cfgM m hO).N = 64 from N_0)
  by_cases h0 : t.val % 16 = 0
  · iintro ⟨⟨⟨%d, -, HS0⟩, Hg, Hq0, Hh0, HT0⟩, ⟨%W, -, HW⟩, ⟨%d0, H0⟩⟩
    iapply (kernelRun0_A c (grid0.coords t) _ _ _ _ ((hcond0_0 t).mpr h0) (tbl m 0) (V m c main_v2) (slab m c t.val) (slab_first m c t h0) (hH c t).1 (hH c t).2.1 (hH c t).2.2.1 (hH c t).2.2.2.1 (hH c t).2.2.2.2.1 (hH c t).2.2.2.2.2.1 (hH c t).2.2.2.2.2.2.1 (hH c t).2.2.2.2.2.2.2 W _)
    isplitl [H0]; · iexists _; iexact H0
    isplitl [HS0]; · iexists _; iexact HS0
    isplitl [HT0]; · iexact HT0
    isplitl [Hq0]; · iexact Hq0
    isplitl [Hh0]; · iexact Hh0
    isplitl [HW]; · iexact HW
    iintro ⟨H0, HS0, HT0, Hq0, Hh0, ⟨%W', HW'⟩⟩
    isplitl [HS0 Hg Hq0 Hh0 HT0]
    · isplitl [HS0]
      · iexists slab m c t.val; isplitr; · ipureintro; exact fun h => (slab_succ m c t.val h).symm
        iexact HS0
      isplitl [Hg]; · iexact Hg
      isplitl [Hq0]; · iexact Hq0
      isplitl [Hh0]; · iexact Hh0
      iexact HT0
    isplitl [HW']
    · iexists W'; isplitr; · ipureintro; exact fun _ _ => Or.inl trivial
      iexact HW'
    iexact H0
  · iintro ⟨⟨⟨%d, %hd, HS0⟩, Hg, Hq0, Hh0, HT0⟩, ⟨%W, -, HW⟩, ⟨%d0, H0⟩⟩
    obtain rfl := hd h0
    iapply (kernelRun0_B c (grid0.coords t) _ _ _ _ (fun h => h0 ((hcond0_0 t).mp h)) (tbl m 0) (V m c main_v2) (slab m c t.val) (hH c t).1 (hH c t).2.1 (hH c t).2.2.1 (hH c t).2.2.2.1 (hH c t).2.2.2.2.1 (hH c t).2.2.2.2.2.1 (hH c t).2.2.2.2.2.2.1 (hH c t).2.2.2.2.2.2.2 W _)
    isplitl [H0]; · iexists _; iexact H0
    isplitl [HS0]; · iexact HS0
    isplitl [HT0]; · iexact HT0
    isplitl [Hq0]; · iexact Hq0
    isplitl [Hh0]; · iexact Hh0
    isplitl [HW]; · iexact HW
    iintro ⟨H0, HS0, HT0, Hq0, Hh0, ⟨%W', HW'⟩⟩
    isplitl [HS0 Hg Hq0 Hh0 HT0]
    · isplitl [HS0]
      · iexists slab m c t.val; isplitr; · ipureintro; exact fun h => (slab_succ m c t.val h).symm
        iexact HS0
      isplitl [Hg]; · iexact Hg
      isplitl [Hq0]; · iexact Hq0
      isplitl [Hh0]; · iexact Hh0
      iexact HT0
    isplitl [HW']
    · iexists W'; isplitr; · ipureintro; exact fun _ _ => Or.inl trivial
      iexact HW'
    iexact H0

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

theorem body_obligation (hO : Ok m) (hH : Hyps m hO) (c : Dev nD) : BodyObligationLoose (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

theorem carry_in (c : Dev nD) : iprop(Pipeline.ΦD osem0 spec0 H0 (V m) c ∗ Pipeline.ΦT pre0 (tbl m) c) ⊢ carry m c 0 := by
  rw [PhiD0_eq, PhiT0_eq]; unfold carry
  iintro ⟨⟨⟨%d, HS⟩, Hg, Hq, Hh⟩, HT⟩
  isplitl [HS]
  · iexists d; isplitr; · ipureintro; exact fun h => absurd rfl h
    iexact HS
  isplitl [Hg]; · iexact Hg
  isplitl [Hq]; · iexact Hq
  isplitl [Hh]; · iexact Hh
  iexact HT

theorem carry_out (c : Dev nD) (n : ℕ) : carry m c n ⊢ Pipeline.ΦD osem0 spec0 H0 (V m) c := by
  rw [PhiD0_eq]; unfold carry
  iintro ⟨⟨%d, -, HS⟩, Hg, Hq, Hh, -⟩
  isplitl [HS]; · iexists d; iexact HS
  isplitl [Hg]; · iexact Hg
  isplitl [Hq]; · iexact Hq
  iexact Hh

set_option backward.isDefEq.respectTransparency.types false in
set_option maxHeartbeats 800000 in
/-- The launch: every fair execution ends with each array of the pipeline at what the write-backs leave, every other
    buffer as the region found it, and every counter at zero. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP_dma (Q' := _) pcfgs (fun _ => adm m hO) (dats m hO hH) (0 : Fin 1) launch0 osem0 defs₀ Variants.none ownSemFacts0 H0 H0_sub m ρ main
    (hbody := fun c => body_obligation m hO hH c) (hshare := fun c => (dats m hO hH 0 c).share_full fun _ => rfl)
    (howed := fun _ _ => nothing_owed m hO hH _ _) (V := V m) (hmain := hmain m Variants.none) (hA := A_eq m hO hH) (hpf := V_pre m) (hin := fun c => by rw [carried]; exact carry_in m c) (hout := fun c => by rw [carried]; exact carry_out m c _)

theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- The arguments end as launched. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_arg0 (by decide : main_arg0 ∈ Pipeline.restRefs sig spec0)).trans (V_main_arg0 m c),
      ((h c).2 main_arg1 (by decide : main_arg1 ∈ Pipeline.restRefs sig spec0)).trans (V_main_arg1 m c)⟩) (run_main m ρ hO hH)

/-- Every fair execution ends with the arguments as they were and every counter at zero. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ hO hH) ((θ_run defs _ _).mono (fun _ h => h.2) (run_main_quiescent m ρ hO hH))

end Cert.Kernel3Ideal.Run

end
-- ==== Proof.GatherIdealLags.lean ====
/-
  The table of lags, as the averaging body reads it: with every lag at least 0 and less than 8192 the offsets computed from
  it lie inside the scratch.
-/
module

public import proofs.«01_k».proof.Proof.GatherIdealRun
public import proofs.«01_k».proof.Proof.TimeShift
public import proofs.«01_k».proof.Defs
public import proofs.«01_k».proof.Proof.Gen.Pre_lags_are_times

@[expose] public section

set_option maxRecDepth 16384

noncomputable section

namespace Cert.Kernel3Ideal.Lags

open Idealize.ShloMosaic Idealize.ShloMosaic.TcCoe Idealize.ShloMosaic.ValueIdx Cert.Kernel3Ideal Cert.Kernel3Ideal.Gen Cert.Kernel3Ideal.Run

variable {F : FTy → Type} [FloatOps F] (m : (ℓ : Loc nD τ sig) → Buf (Elt F) ℓ) (c : Dev nD)

/-- The lags the table holds, as numbers below 8192. -/
structure Holds (l : Fin 4 → Fin 8 → ℕ) : Prop where
  lt : ∀ b j, l b j < 8192
  eq : ∀ b j, (m ((0 : Dev nD), main_arg1) : S4x8.Idx → BitVec 32) (ix2 b j) = BitVec.ofNat 32 (l b j)

theorem batch_toNat (i : grid0.Coords) : (Scalar.indexCast (BitVec.ofNat 32 (i 0).val)).toNat = (i 0).val := by
  have h : (i 0).val < 4 := (i 0).isLt
  show (BitVec.ofNat 32 (i 0).val).toNat = _
  rw [BitVec.toNat_ofNat]
  exact Nat.mod_eq_of_lt (by omega)

/-- The table's word for the lag `j` of batch row `i 0`. -/
theorem word_eq (i : grid0.Coords) (j : Fin 8) (off : Fin 2 → Nat) (h) (e0 : off 0 = (Scalar.indexCast (BitVec.ofNat 32 (i 0).val)).toNat) (e1 : off 1 = j.val) :
    word c (tbl m 0) off h = m ((0 : Dev nD), main_arg1) (ix2 (i 0) j) := by
  rw [batch_toNat] at e0
  show V m 0 main_arg1 _ = _
  rw [V_main_arg1]
  refine congrArg (m _) (funext fun a => Fin.ext ?_)
  match a with
  | ⟨0, _⟩ => show off 0 + 1 * 0 = (i 0).val; omega
  | ⟨1, _⟩ => show off 1 + 1 * 0 = j.val; omega

/-- The offsets of the two loads, from a lag below 8192, keep inside the scratch. -/
theorem inside (i : grid0.Coords) (w : BitVec 32) (l : ℕ) (hl : l < 8192) (hw : w = BitVec.ofNat 32 l) (o1 o2 : Fin 3 → Nat)
    (e1 : o1 = ![(Scalar.indexCast (Cert.TimeShift.group (Cert.TimeShift.start (i 1).val w))).toNat, 0, 0])
    (e2 : o2 = ![(Scalar.indexCast (Scalar.addi (Cert.TimeShift.group (Cert.TimeShift.start (i 1).val w)) 64#32)).toNat, 0, 0]) :
    (∀ a, o1 a + S64x8x768.size a ≤ S1089x8x768.size a) ∧ (∀ a, o2 a + S1x8x768.size a ≤ S1089x8x768.size a) := by
  subst hw
  have hn : (i 1).val < 16 := (i 1).isLt
  obtain ⟨g1, g2⟩ := Cert.TimeShift.groups_eq (i 1).val l hn hl
  have hb := Cert.TimeShift.back_lt (512 * (i 1).val) l
  rw [g1] at e1; rw [g2] at e2
  subst e1 e2
  constructor
  · intro a
    match a with
    | ⟨0, _⟩ => show Cert.TimeShift.back (512 * (i 1).val) l / 8 + 64 ≤ 1089; omega
    | ⟨1, _⟩ => show 0 + 8 ≤ 8; omega
    | ⟨2, _⟩ => show 0 + 768 ≤ 768; omega
  · intro a
    match a with
    | ⟨0, _⟩ => show Cert.TimeShift.back (512 * (i 1).val) l / 8 + 64 + 1 ≤ 1089; omega
    | ⟨1, _⟩ => show 0 + 8 ≤ 8; omega
    | ⟨2, _⟩ => show 0 + 768 ≤ 768; omega

variable {m} {l : Fin 4 → Fin 8 → ℕ} (H : Holds m l)
include H

theorem word1 (i : grid0.Coords) : word c (tbl m 0) (k0_off2 i) (k0_off2_inb i) = BitVec.ofNat 32 (l (i 0) 0) :=
  (word_eq m c i 0 _ _ rfl rfl).trans (H.eq _ _)
theorem chk1 (i : grid0.Coords) : k0_chk1 i (word c (tbl m 0) (k0_off2 i) (k0_off2_inb i)) :=
  inside i _ _ (H.lt _ _) (word1 c H i) (k0_off3 i _) (k0_off4 i _) rfl rfl
theorem word2 (i : grid0.Coords) : word c (tbl m 0) (k0_off5 i) (k0_off5_inb i) = BitVec.ofNat 32 (l (i 0) 1) :=
  (word_eq m c i 1 _ _ rfl rfl).trans (H.eq _ _)
theorem chk2 (i : grid0.Coords) : k0_chk2 i (word c (tbl m 0) (k0_off5 i) (k0_off5_inb i)) :=
  inside i _ _ (H.lt _ _) (word2 c H i) (k0_off6 i _) (k0_off7 i _) rfl rfl
theorem word3 (i : grid0.Coords) : word c (tbl m 0) (k0_off8 i) (k0_off8_inb i) = BitVec.ofNat 32 (l (i 0) 2) :=
  (word_eq m c i 2 _ _ rfl rfl).trans (H.eq _ _)
theorem chk3 (i : grid0.Coords) : k0_chk3 i (word c (tbl m 0) (k0_off8 i) (k0_off8_inb i)) :=
  inside i _ _ (H.lt _ _) (word3 c H i) (k0_off9 i _) (k0_off10 i _) rfl rfl
theorem word4 (i : grid0.Coords) : word c (tbl m 0) (k0_off11 i) (k0_off11_inb i) = BitVec.ofNat 32 (l (i 0) 3) :=
  (word_eq m c i 3 _ _ rfl rfl).trans (H.eq _ _)
theorem chk4 (i : grid0.Coords) : k0_chk4 i (word c (tbl m 0) (k0_off11 i) (k0_off11_inb i)) :=
  inside i _ _ (H.lt _ _) (word4 c H i) (k0_off12 i _) (k0_off13 i _) rfl rfl
theorem word5 (i : grid0.Coords) : word c (tbl m 0) (k0_off14 i) (k0_off14_inb i) = BitVec.ofNat 32 (l (i 0) 4) :=
  (word_eq m c i 4 _ _ rfl rfl).trans (H.eq _ _)
theorem chk5 (i : grid0.Coords) : k0_chk5 i (word c (tbl m 0) (k0_off14 i) (k0_off14_inb i)) :=
  inside i _ _ (H.lt _ _) (word5 c H i) (k0_off15 i _) (k0_off16 i _) rfl rfl
theorem word6 (i : grid0.Coords) : word c (tbl m 0) (k0_off17 i) (k0_off17_inb i) = BitVec.ofNat 32 (l (i 0) 5) :=
  (word_eq m c i 5 _ _ rfl rfl).trans (H.eq _ _)
theorem chk6 (i : grid0.Coords) : k0_chk6 i (word c (tbl m 0) (k0_off17 i) (k0_off17_inb i)) :=
  inside i _ _ (H.lt _ _) (word6 c H i) (k0_off18 i _) (k0_off19 i _) rfl rfl
theorem word7 (i : grid0.Coords) : word c (tbl m 0) (k0_off20 i) (k0_off20_inb i) = BitVec.ofNat 32 (l (i 0) 6) :=
  (word_eq m c i 6 _ _ rfl rfl).trans (H.eq _ _)
theorem chk7 (i : grid0.Coords) : k0_chk7 i (word c (tbl m 0) (k0_off20 i) (k0_off20_inb i)) :=
  inside i _ _ (H.lt _ _) (word7 c H i) (k0_off21 i _) (k0_off22 i _) rfl rfl
theorem word8 (i : grid0.Coords) : word c (tbl m 0) (k0_off23 i) (k0_off23_inb i) = BitVec.ofNat 32 (l (i 0) 7) :=
  (word_eq m c i 7 _ _ rfl rfl).trans (H.eq _ _)
theorem chk8 (i : grid0.Coords) : k0_chk8 i (word c (tbl m 0) (k0_off23 i) (k0_off23_inb i)) :=
  inside i _ _ (H.lt _ _) (word8 c H i) (k0_off24 i _) (k0_off25 i _) rfl rfl

/-- The side conditions of the run. -/
theorem hyps (hO : Ok m) : Hyps m hO := fun c t =>
  ⟨chk1 c H _, chk2 c H _, chk3 c H _, chk4 c H _, chk5 c H _, chk6 c H _, chk7 c H _, chk8 c H _⟩

omit H in
/-- The precondition gives the lags. -/
theorem exists_holds (m : (ℓ : Loc nD τ sig) → Buf (Elt Ideal) ℓ)
    (hp : Cert.Pre_Kernel3Ideal (hPre_lags_are_times := Cert.Pre_lags_are_times.Gen.facts) m) : ∃ l, Holds m l := by
  have h : ∀ b : Fin 4, ∀ j : Fin 8, ∃ l < 8192, (m ((0 : Dev nD), main_arg1) : S4x8.Idx → BitVec 32) (ix2 b j) = BitVec.ofNat 32 l :=
    fun b j => Cert.TimeShift.lag_word _ (congrFun (hp 0) (ix2 b j))
  choose l hl using h
  exact ⟨l, fun b j => (hl b j).1, fun b j => (hl b j).2⟩

end Cert.Kernel3Ideal.Lags

end
-- ==== Proof.ShiftedRows.lean ====
/-
  The average of eight circular shifts in time of an array of 4 batch rows, 8192 time steps and 768 columns; and rows of
  vectors built by dropping rows at one end and appending others at the other end, read at an index.
-/
module

public import proofs.«01_k».proof.Proof.TimeShift
public import Idealize.ShloMosaic.Lib.ValueIdx
public import Idealize.ShloMosaic.Lib.Pipeline.Value
public import Idealize.ShloMosaic.PureOps.IdealRules

@[expose] public section

noncomputable section

namespace Cert.TimeShift

open Idealize.ShloMosaic Idealize.ShloMosaic.ValueIdx

/-- The value of batch row `b`, column `d` at the time step `t` less the lag `l`. -/
def shiftedAt (v : (⟨3, ![4, 8192, 768]⟩ : Shape).Idx → EReal) (b : Fin 4) (l t : ℕ) (d : Fin 768) : EReal := v (ix3 b ⟨back t l, back_lt t l⟩ d)

/-- The average of the eight shifted values, summed from zero in the order of the lags. -/
def average (v : (⟨3, ![4, 8192, 768]⟩ : Shape).Idx → EReal) (l : Fin 4 → Fin 8 → ℕ) (b : Fin 4) (t : ℕ) (d : Fin 768) : EReal :=
  (0 + shiftedAt v b (l b 0) t d + shiftedAt v b (l b 1) t d + shiftedAt v b (l b 2) t d + shiftedAt v b (l b 3) t d
    + shiftedAt v b (l b 4) t d + shiftedAt v b (l b 5) t d + shiftedAt v b (l b 6) t d + shiftedAt v b (l b 7) t d) * ((1 / 8 : ℝ) : EReal)

/-! ## Rows dropped and appended -/

/-- The 64 groups of eight rows, one after another. -/
theorem groups_rows (x : (⟨3, ![64, 8, 768]⟩ : Shape).Idx → EReal) (h) (p : Fin 512) (d : Fin 768) :
    shapeCast (⟨2, ![512, 768]⟩ : Shape) x h (ix2 p d) = x (ix3 ⟨p.val / 8, by omega⟩ ⟨p.val % 8, by omega⟩ d) :=
  shapeCast_apply x h _ _ (by
    rw [Shape.rowMajor_val_three, Shape.rowMajor_val_two]
    show (p.val / 8 * 8 + p.val % 8) * 768 + d.val = p.val * 768 + d.val
    omega)

/-- One group of eight rows. -/
theorem group_rows (x : (⟨3, ![1, 8, 768]⟩ : Shape).Idx → EReal) (h) (p : Fin 8) (d : Fin 768) :
    shapeCast (⟨2, ![8, 768]⟩ : Shape) x h (ix2 p d) = x (ix3 0 p d) :=
  shapeCast_apply x h _ _ (by
    rw [Shape.rowMajor_val_three, Shape.rowMajor_val_two]
    show (0 * 8 + p.val) * 768 + d.val = p.val * 768 + d.val
    omega)

/-- A block of rows with one more axis of extent one in front. -/
theorem block_rows (x : (⟨2, ![512, 768]⟩ : Shape).Idx → EReal) (h) (p : Fin 512) (d : Fin 768) :
    shapeCast (⟨3, ![1, 512, 768]⟩ : Shape) x h (ix3 0 p d) = x (ix2 p d) :=
  shapeCast_apply x h _ _ (by
    rw [Shape.rowMajor_val_three, Shape.rowMajor_val_two]
    show p.val * 768 + d.val = (0 * 512 + p.val) * 768 + d.val
    omega)

/-- The rows from row `r` on, followed by the first `r` rows of another array: at each row, the row `r` further on. -/
theorem dropped (r : ℕ) (hr : r < 8) (x : (⟨2, ![512, 768]⟩ : Shape).Idx → EReal) (y : (⟨2, ![8, 768]⟩ : Shape).Idx → EReal)
    (h1 : (⟨2, ![512, 768]⟩ : Shape).Slices ![r, 0] ⟨2, ![512 - r, 768]⟩) (h2 : (⟨2, ![8, 768]⟩ : Shape).Slices ![0, 0] ⟨2, ![r, 768]⟩)
    (h : Shape.Concatenates [⟨2, ![512 - r, 768]⟩, ⟨2, ![r, 768]⟩] ⟨2, ![512, 768]⟩ 0) (p : Fin 512) (d : Fin 768) (G : EReal)
    (g1 : ∀ hp : p.val + r < 512, x (ix2 ⟨p.val + r, hp⟩ d) = G) (g2 : ∀ hp : 512 ≤ p.val + r, y (ix2 ⟨p.val + r - 512, by omega⟩ d) = G) :
    concatenate (⟨2, ![512, 768]⟩ : Shape) 0 [⟨⟨2, ![512 - r, 768]⟩, extractStridedSlice ⟨2, ![512 - r, 768]⟩ ![r, 0] x h1⟩, ⟨⟨2, ![r, 768]⟩, extractStridedSlice ⟨2, ![r, 768]⟩ ![0, 0] y h2⟩] h (ix2 p d) = G := by
  have hp := p.isLt
  by_cases hl : p.val + r < 512
  · refine (concatenate_pair_apply_left 0 _ _ h _ rfl (ix2 (⟨p.val, by show p.val < 512 - r; omega⟩ : Fin (512 - r)) d) ?_).trans ?_
    · intro b
      match b with
      | ⟨0, _⟩ => rfl
      | ⟨1, _⟩ => rfl
    · refine (extractStridedSlice_apply _ x h1 _ (ix2 ⟨p.val + r, hl⟩ d) fun b => ?_).trans (g1 hl)
      match b with
      | ⟨0, _⟩ => show p.val + r = r + p.val; omega
      | ⟨1, _⟩ => show d.val = 0 + d.val; omega
  · refine (concatenate_pair_apply_right 0 _ _ h _ rfl rfl (ix2 (⟨p.val + r - 512, by omega⟩ : Fin r) d) ?_ ?_).trans ?_
    · intro b hb
      match b with
      | ⟨0, _⟩ => exact absurd rfl hb
      | ⟨1, _⟩ => rfl
    · show p.val + r - 512 + (512 - r) = p.val; omega
    · refine (extractStridedSlice_apply _ y h2 _ (ix2 ⟨p.val + r - 512, by omega⟩ d) fun b => ?_).trans (g2 (by omega))
      match b with
      | ⟨0, _⟩ => show p.val + r - 512 = 0 + (p.val + r - 512); omega
      | ⟨1, _⟩ => show d.val = 0 + d.val; omega

end Cert.TimeShift

end
-- ==== Proof.GatherPayload.lean ====
/-
  What the averaging body computes from the rows in its scratch, read at an index over the extended reals: the 512 rows
  beginning at a row of the scratch that need not be the first of its group of eight, the sum of eight such blocks, and an
  eighth of it.
-/
module

public import proofs.«01_k».proof.Proof.GatherIdealRun
public import proofs.«01_k».proof.Proof.ShiftedRows
public import Idealize.ShloMosaic.Lib.IdealHost

@[expose] public section

set_option maxRecDepth 16384

noncomputable section

namespace Cert.Kernel3Ideal.Payload

open Idealize.ShloMosaic Idealize.ShloMosaic.ValueIdx Cert.Kernel3Ideal Cert.Kernel3Ideal.Gen Cert.Kernel3Ideal.Run Cert.TimeShift

variable (a : Vec Ideal S64x8x768 .f32) (b : Vec Ideal S1x8x768 .f32)

theorem drop1 (p : Fin 512) (d : Fin 768) (G : EReal) (g1 : ∀ hp : p.val + 1 < 512, a (ix3 ⟨(p.val + 1) / 8, by omega⟩ ⟨(p.val + 1) % 8, by omega⟩ d) = G)
    (g2 : ∀ hp : 512 ≤ p.val + 1, b (ix3 0 ⟨p.val + 1 - 512, by omega⟩ d) = G) : k0_pay9 (F := Ideal) a b (ix2 p d) = G := by
  unfold k0_pay9 k0_pay1 k0_pay2
  exact dropped 1 (by decide) _ _ slices_S512x768_o1_0_S511x768 slices_S8x768_o0_0_S1x768 concatenates_S511x768_S1x768_S512x768_d0 p d G
    (fun hp => (groups_rows a _ _ d).trans (g1 hp)) (fun hp => (group_rows b _ _ d).trans (g2 hp))

theorem drop2 (p : Fin 512) (d : Fin 768) (G : EReal) (g1 : ∀ hp : p.val + 2 < 512, a (ix3 ⟨(p.val + 2) / 8, by omega⟩ ⟨(p.val + 2) % 8, by omega⟩ d) = G)
    (g2 : ∀ hp : 512 ≤ p.val + 2, b (ix3 0 ⟨p.val + 2 - 512, by omega⟩ d) = G) : k0_pay8 (F := Ideal) a b (ix2 p d) = G := by
  unfold k0_pay8 k0_pay1 k0_pay2
  exact dropped 2 (by decide) _ _ slices_S512x768_o2_0_S510x768 slices_S8x768_o0_0_S2x768 concatenates_S510x768_S2x768_S512x768_d0 p d G
    (fun hp => (groups_rows a _ _ d).trans (g1 hp)) (fun hp => (group_rows b _ _ d).trans (g2 hp))

theorem drop3 (p : Fin 512) (d : Fin 768) (G : EReal) (g1 : ∀ hp : p.val + 3 < 512, a (ix3 ⟨(p.val + 3) / 8, by omega⟩ ⟨(p.val + 3) % 8, by omega⟩ d) = G)
    (g2 : ∀ hp : 512 ≤ p.val + 3, b (ix3 0 ⟨p.val + 3 - 512, by omega⟩ d) = G) : k0_pay7 (F := Ideal) a b (ix2 p d) = G := by
  unfold k0_pay7 k0_pay1 k0_pay2
  exact dropped 3 (by decide) _ _ slices_S512x768_o3_0_S509x768 slices_S8x768_o0_0_S3x768 concatenates_S509x768_S3x768_S512x768_d0 p d G
    (fun hp => (groups_rows a _ _ d).trans (g1 hp)) (fun hp => (group_rows b _ _ d).trans (g2 hp))

theorem drop4 (p : Fin 512) (d : Fin 768) (G : EReal) (g1 : ∀ hp : p.val + 4 < 512, a (ix3 ⟨(p.val + 4) / 8, by omega⟩ ⟨(p.val + 4) % 8, by omega⟩ d) = G)
    (g2 : ∀ hp : 512 ≤ p.val + 4, b (ix3 0 ⟨p.val + 4 - 512, by omega⟩ d) = G) : k0_pay6 (F := Ideal) a b (ix2 p d) = G := by
  unfold k0_pay6 k0_pay1 k0_pay2
  exact dropped 4 (by decide) _ _ slices_S512x768_o4_0_S508x768 slices_S8x768_o0_0_S4x768 concatenates_S508x768_S4x768_S512x768_d0 p d G
    (fun hp => (groups_rows a _ _ d).trans (g1 hp)) (fun hp => (group_rows b _ _ d).trans (g2 hp))

theorem drop5 (p : Fin 512) (d : Fin 768) (G : EReal) (g1 : ∀ hp : p.val + 5 < 512, a (ix3 ⟨(p.val + 5) / 8, by omega⟩ ⟨(p.val + 5) % 8, by omega⟩ d) = G)
    (g2 : ∀ hp : 512 ≤ p.val + 5, b (ix3 0 ⟨p.val + 5 - 512, by omega⟩ d) = G) : k0_pay5 (F := Ideal) a b (ix2 p d) = G := by
  unfold k0_pay5 k0_pay1 k0_pay2
  exact dropped 5 (by decide) _ _ slices_S512x768_o5_0_S507x768 slices_S8x768_o0_0_S5x768 concatenates_S507x768_S5x768_S512x768_d0 p d G
    (fun hp => (groups_rows a _ _ d).trans (g1 hp)) (fun hp => (group_rows b _ _ d).trans (g2 hp))

theorem drop6 (p : Fin 512) (d : Fin 768) (G : EReal) (g1 : ∀ hp : p.val + 6 < 512, a (ix3 ⟨(p.val + 6) / 8, by omega⟩ ⟨(p.val + 6) % 8, by omega⟩ d) = G)
    (g2 : ∀ hp : 512 ≤ p.val + 6, b (ix3 0 ⟨p.val + 6 - 512, by omega⟩ d) = G) : k0_pay4 (F := Ideal) a b (ix2 p d) = G := by
  unfold k0_pay4 k0_pay1 k0_pay2
  exact dropped 6 (by decide) _ _ slices_S512x768_o6_0_S506x768 slices_S8x768_o0_0_S6x768 concatenates_S506x768_S6x768_S512x768_d0 p d G
    (fun hp => (groups_rows a _ _ d).trans (g1 hp)) (fun hp => (group_rows b _ _ d).trans (g2 hp))

theorem drop7 (p : Fin 512) (d : Fin 768) (G : EReal) (g1 : ∀ hp : p.val + 7 < 512, a (ix3 ⟨(p.val + 7) / 8, by omega⟩ ⟨(p.val + 7) % 8, by omega⟩ d) = G)
    (g2 : ∀ hp : 512 ≤ p.val + 7, b (ix3 0 ⟨p.val + 7 - 512, by omega⟩ d) = G) : k0_pay3 (F := Ideal) a b (ix2 p d) = G := by
  unfold k0_pay3 k0_pay1 k0_pay2
  exact dropped 7 (by decide) _ _ slices_S512x768_o7_0_S505x768 slices_S8x768_o0_0_S7x768 concatenates_S505x768_S7x768_S512x768_d0 p d G
    (fun hp => (groups_rows a _ _ d).trans (g1 hp)) (fun hp => (group_rows b _ _ d).trans (g2 hp))

theorem pick1 {α : Type} (a0 a1 a2 a3 a4 a5 a6 a7 : α) : pick (Scalar.cmpi .ne (BitVec.ofNat 32 1) 0#32) (BitVec.ofNat 32 1) a0 a1 a2 a3 a4 a5 a6 a7 = a1 := by
  unfold pick
  rw [if_pos (by decide), if_neg (by decide)]

theorem pick2 {α : Type} (a0 a1 a2 a3 a4 a5 a6 a7 : α) : pick (Scalar.cmpi .ne (BitVec.ofNat 32 2) 0#32) (BitVec.ofNat 32 2) a0 a1 a2 a3 a4 a5 a6 a7 = a2 := by
  unfold pick
  rw [if_pos (by decide), if_pos (by decide), if_neg (by decide)]

theorem pick3 {α : Type} (a0 a1 a2 a3 a4 a5 a6 a7 : α) : pick (Scalar.cmpi .ne (BitVec.ofNat 32 3) 0#32) (BitVec.ofNat 32 3) a0 a1 a2 a3 a4 a5 a6 a7 = a3 := by
  unfold pick
  rw [if_pos (by decide), if_pos (by decide), if_pos (by decide), if_neg (by decide)]

theorem pick4 {α : Type} (a0 a1 a2 a3 a4 a5 a6 a7 : α) : pick (Scalar.cmpi .ne (BitVec.ofNat 32 4) 0#32) (BitVec.ofNat 32 4) a0 a1 a2 a3 a4 a5 a6 a7 = a4 := by
  unfold pick
  rw [if_pos (by decide), if_pos (by decide), if_pos (by decide), if_pos (by decide), if_neg (by decide)]

theorem pick5 {α : Type} (a0 a1 a2 a3 a4 a5 a6 a7 : α) : pick (Scalar.cmpi .ne (BitVec.ofNat 32 5) 0#32) (BitVec.ofNat 32 5) a0 a1 a2 a3 a4 a5 a6 a7 = a5 := by
  unfold pick
  rw [if_pos (by decide), if_pos (by decide), if_pos (by decide), if_pos (by decide), if_pos (by decide), if_neg (by decide)]

theorem pick6 {α : Type} (a0 a1 a2 a3 a4 a5 a6 a7 : α) : pick (Scalar.cmpi .ne (BitVec.ofNat 32 6) 0#32) (BitVec.ofNat 32 6) a0 a1 a2 a3 a4 a5 a6 a7 = a6 := by
  unfold pick
  rw [if_pos (by decide), if_pos (by decide), if_pos (by decide), if_pos (by decide), if_pos (by decide), if_pos (by decide), if_neg (by decide)]

theorem pick7 {α : Type} (a0 a1 a2 a3 a4 a5 a6 a7 : α) : pick (Scalar.cmpi .ne (BitVec.ofNat 32 7) 0#32) (BitVec.ofNat 32 7) a0 a1 a2 a3 a4 a5 a6 a7 = a7 := by
  unfold pick
  rw [if_pos (by decide), if_pos (by decide), if_pos (by decide), if_pos (by decide), if_pos (by decide), if_pos (by decide), if_pos (by decide)]

/-- The rows from the row `r` of the groups on, continued in the next group. -/
theorem shifted_apply (r : Fin 8) (p : Fin 512) (d : Fin 768) (G : EReal) (g1 : ∀ hp : p.val + r.val < 512, a (ix3 ⟨(p.val + r.val) / 8, by omega⟩ ⟨(p.val + r.val) % 8, by omega⟩ d) = G)
    (g2 : ∀ hp : 512 ≤ p.val + r.val, b (ix3 0 ⟨p.val + r.val - 512, by omega⟩ d) = G) : shifted (F := Ideal) (BitVec.ofNat 32 r.val) a b (ix2 p d) = G := by
  match r, g1, g2 with
  | ⟨0, _⟩, g1, g2 =>
    have hp := p.isLt
    exact (groups_rows a shapeCasts_S64x8x768_S512x768 p d).trans (g1 (by show p.val + 0 < 512; omega))
  | ⟨1, _⟩, g1, g2 => exact (congrFun (pick1 _ _ _ _ _ _ _ _) (ix2 p d)).trans (drop1 a b p d G g1 g2)
  | ⟨2, _⟩, g1, g2 => exact (congrFun (pick2 _ _ _ _ _ _ _ _) (ix2 p d)).trans (drop2 a b p d G g1 g2)
  | ⟨3, _⟩, g1, g2 => exact (congrFun (pick3 _ _ _ _ _ _ _ _) (ix2 p d)).trans (drop3 a b p d G g1 g2)
  | ⟨4, _⟩, g1, g2 => exact (congrFun (pick4 _ _ _ _ _ _ _ _) (ix2 p d)).trans (drop4 a b p d G g1 g2)
  | ⟨5, _⟩, g1, g2 => exact (congrFun (pick5 _ _ _ _ _ _ _ _) (ix2 p d)).trans (drop5 a b p d G g1 g2)
  | ⟨6, _⟩, g1, g2 => exact (congrFun (pick6 _ _ _ _ _ _ _ _) (ix2 p d)).trans (drop6 a b p d G g1 g2)
  | ⟨7, _⟩, g1, g2 => exact (congrFun (pick7 _ _ _ _ _ _ _ _) (ix2 p d)).trans (drop7 a b p d G g1 g2)

theorem ofBits_eighth : Ideal.ofBits .f32 0x3E000000#32 = ((1 / 8 : ℝ) : EReal) := by
  simp [Ideal.ofBits, Ideal.ieee, -EReal.coe_mul]; norm_num

/-- An eighth of the sum of eight blocks. -/
theorem eighth_apply (s1 s2 s3 s4 s5 s6 s7 s8 : FVec Ideal S512x768 .f32) (p : Fin 512) (d : Fin 768) :
    eighth (F := Ideal) s1 s2 s3 s4 s5 s6 s7 s8 (ix3 0 p d)
      = (0 + s1 (ix2 p d) + s2 (ix2 p d) + s3 (ix2 p d) + s4 (ix2 p d) + s5 (ix2 p d) + s6 (ix2 p d) + s7 (ix2 p d) + s8 (ix2 p d)) * ((1 / 8 : ℝ) : EReal) := by
  unfold eighth k0_pay10 k0_pay11
  refine (block_rows _ shapeCasts_S512x768_S1x512x768 p d).trans ?_
  show (Ideal.ofBits .f32 0x00000000#32 + _ + _ + _ + _ + _ + _ + _ + _) * Ideal.ofBits .f32 0x3E000000#32 = _
  rw [ofBits_eighth, Ideal.ofBits_zero_f32]

end Cert.Kernel3Ideal.Payload

end
-- ==== Proof.GatherIdealBlocks.lean ====
/-
  The array the averaging call leaves, at the ideal values: each batch row the average of its eight shifts in time.
-/
module

public import proofs.«01_k».proof.Proof.GatherIdealFrame
public import proofs.«01_k».proof.Proof.GatherIdealLags
public import proofs.«01_k».proof.Proof.GatherPayload
public import proofs.«01_k».proof.Proof.ShiftedRows
public import Idealize.ShloMosaic.Lib.StableHlo.ReadAt
public import Idealize.ShloMosaic.Lib.Pipeline.ValueKit.Basic

@[expose] public section

set_option maxRecDepth 16384

noncomputable section

namespace Cert.Kernel3Ideal.Blocks

open Cert.Kernel3Ideal Cert.Kernel3Ideal.Gen Cert.Kernel3Ideal.Run Cert.Kernel3Ideal.Lags Cert.Kernel3Ideal.Payload
open Cert.TimeShift (back back_lt shiftedAt average)
open Idealize.ShloMosaic.TcCoe Idealize.SL.Sem Idealize.ShloMosaic.ValueIdx
open Idealize.ShloMosaic hiding ix0 ix1 ix2 ix3 ix4 ix5 eq_ix3
open Idealize.ShloMosaic.Pipeline (Dat)

theorem coords_batch : ∀ t : Fin grid0.N, (grid0.coords t 0).val = t.val / 16 ∧ (grid0.coords t 1).val = t.val % 16 := by decide +kernel

theorem offset_batch : ∀ t : Fin grid0.N, k0_off1 (grid0.coords t) 0 = t.val / 16 := by decide +kernel

theorem offset_rest (i : grid0.Coords) : k0_off1 i 1 = 0 ∧ k0_off1 i 2 = 0 ∧ k0_off1 i 3 = 0 := ⟨rfl, rfl, rfl⟩

theorem first_batch (n : ℕ) : k0_off1 (grid0.coords (first n)) 0 = n / 16 % 4 := by
  rw [offset_batch]
  show n / 16 % 4 * 16 / 16 = n / 16 % 4
  omega

section
variable {F : FTy → Type} [FloatOps F] (m : (ℓ : Loc nD τ sig) → Buf (Elt F) ℓ) (c : Dev nD)

theorem V_ext (b : Fin 4) (g : Fin 1089) (e : Fin 8) (d : Fin 768) :
    V m c main_v2 (ix4 b g e d) = m ((c : Thread nD τ).loc main_arg0) (ix3 b ⟨(8 * g.val + e.val) % 8192, Nat.mod_lt _ (by decide)⟩ d) := by
  unfold V hostOps0
  after_reads_at
  by_cases h : 8 * g.val + e.val < 8192
  · refine (dif_pos (show g.val * 8 + e.val < 8192 by omega)).trans ?_
    refine congrArg (m _) (funext fun a => Fin.ext ?_)
    match a with
    | ⟨0, _⟩ => rfl
    | ⟨1, _⟩ => show g.val * 8 + e.val = (8 * g.val + e.val) % 8192; omega
    | ⟨2, _⟩ => rfl
  · refine (dif_neg (show ¬ g.val * 8 + e.val < 8192 by omega)).trans ?_
    refine congrArg (m _) (funext fun a => Fin.ext ?_)
    match a with
    | ⟨0, _⟩ => show 0 + b.val = b.val; omega
    | ⟨1, _⟩ => have := g.isLt; have := e.isLt; show 0 + (g.val * 8 + e.val - 8192) = (8 * g.val + e.val) % 8192; omega
    | ⟨2, _⟩ => show 0 + d.val = d.val; omega

/-- A slab of the stacked array, its axis of extent one dropped: the array at the slab's number. -/
theorem read_slab (off : Fin 4 → Nat) (h) (h') (f : HbBuf0 (F := F) c hbM0_0) (b : Fin 4) (e0 : off 0 = b.val) (e1 : off 1 = 0) (e2 : off 2 = 0) (e3 : off 3 = 0) (g : Fin 1089) (e : Fin 8) (d : Fin 768) :
    View.read (Elt F) ((hbM0_0.slice (Rect.unit (s := S4x1089x8x768) off S1x1089x8x768.size h) (fun _ => rfl)).squeeze S1089x8x768 h').view f (ix3 g e d)
      = f (ix4 b g e d) := by
  refine (congrFun (Memref.read_squeeze_slice hbM0_0 _ _ h' h'.numel_eq f) _).trans ((shapeCast_apply _ _ (ix3 g e d) (ix4 (0 : Fin 1) g e d) ?_).trans ?_)
  · rw [Shape.rowMajor_val_four, Shape.rowMajor_val_three]
    show ((0 * 1089 + g.val) * 8 + e.val) * 768 + d.val = (g.val * 8 + e.val) * 768 + d.val
    omega
  · show f _ = f _
    refine congrArg f (funext fun a => Fin.ext ?_)
    match a with
    | ⟨0, _⟩ => show off 0 + 1 * 0 = b.val; omega
    | ⟨1, _⟩ => show off 1 + 1 * g.val = g.val; omega
    | ⟨2, _⟩ => show off 2 + 1 * e.val = e.val; omega
    | ⟨3, _⟩ => show off 3 + 1 * d.val = d.val; omega

/-- The slab a point reads: at group `g`, place `e` the first argument at the time step `8 g + e`, around its end. -/
theorem slab_apply (n : ℕ) (g : Fin 1089) (e : Fin 8) (d : Fin 768) :
    slab m c n (ix3 g e d) = m ((c : Thread nD τ).loc main_arg0) (ix3 ⟨n / 16 % 4, Nat.mod_lt _ (by decide)⟩ ⟨(8 * g.val + e.val) % 8192, Nat.mod_lt _ (by decide)⟩ d) := by
  have hb := first_batch n
  refine Eq.trans ?_ (V_ext m c ⟨n / 16 % 4, Nat.mod_lt _ (by decide)⟩ g e d)
  unfold slab row
  generalize V m c main_v2 = f
  exact read_slab c _ (k0_off1_inb _ (first_first n)) squeezes_S1x1089x8x768_S1089x8x768 f ⟨n / 16 % 4, Nat.mod_lt _ (by decide)⟩ hb (offset_rest _).1 (offset_rest _).2.1 (offset_rest _).2.2 g e d

end

variable (m : (ℓ : Loc nD τ sig) → Buf (Elt Ideal) ℓ) (c : Dev nD)

/-- The batch row of a point, and the time step its block's row `p` is. -/
def batch (t : Fin grid0.N) : Fin 4 := ⟨t.val / 16, by have := t.isLt; have := N_0; omega⟩
def step (t : Fin grid0.N) (p : Fin 512) : Fin 8192 := ⟨512 * (t.val % 16) + p.val, by omega⟩

theorem coords_eq (t : Fin grid0.N) : grid0.coords t 0 = batch t := Fin.ext (coords_batch t).1

/-- One shifted block, from a lag below 8192: its row `p` the first argument `l` time steps earlier. -/
theorem part_apply (t : Fin grid0.N) (p : Fin 512) (d : Fin 768) (l : ℕ) (hl : l < 8192) (w : BitVec 32) (hw : w = BitVec.ofNat 32 l) (o1 o2 : Fin 3 → Nat) (h)
    (e1 : o1 = ![(Scalar.indexCast (Cert.TimeShift.group (Cert.TimeShift.start (grid0.coords t 1).val w))).toNat, 0, 0])
    (e2 : o2 = ![(Scalar.indexCast (Scalar.addi (Cert.TimeShift.group (Cert.TimeShift.start (grid0.coords t 1).val w)) 64#32)).toNat, 0, 0]) :
    part (grid0.coords t) w (slab m c t.val) o1 o2 h (ix2 p d)
      = (m ((c : Thread nD τ).loc main_arg0) : Vec Ideal S4x8192x768 .f32) (ix3 (batch t) ⟨back (step t p).val l, back_lt _ _⟩ d) := by
  subst hw
  have ht : t.val < 64 := Nat.lt_of_lt_of_eq t.isLt N_0
  have hn : t.val % 16 < 16 := Nat.mod_lt _ (by decide)
  have hp := p.isLt
  obtain ⟨g1, g2⟩ := Cert.TimeShift.groups_eq (t.val % 16) l hn hl
  have hb := back_lt (512 * (t.val % 16)) l
  have hs : back (512 * (t.val % 16) + p.val) l = (back (512 * (t.val % 16)) l + p.val) % 8192 := by unfold back; omega
  rw [(coords_batch t).2] at e1 e2
  rw [g1] at e1; rw [g2] at e2
  have hpl : place (grid0.coords t) (BitVec.ofNat 32 l) = BitVec.ofNat 32 (back (512 * (t.val % 16)) l % 8) := by
    show Cert.TimeShift.place (Cert.TimeShift.start (grid0.coords t 1).val _) = _
    rw [(coords_batch t).2]
    exact Cert.TimeShift.place_eq _ _ hn hl
  generalize hsv : back (512 * (t.val % 16)) l = s at *
  subst e1 e2
  unfold part
  rw [hpl]
  refine shifted_apply _ _ ⟨s % 8, Nat.mod_lt _ (by decide)⟩ p d _ (fun hq => ?_) (fun hq => ?_)
  · have hq' : p.val + s % 8 < 512 := hq
    refine (congrArg (slab m c t.val) (show _ = ix3 (⟨s / 8 + (p.val + s % 8) / 8, by omega⟩ : Fin 1089) (⟨(p.val + s % 8) % 8, Nat.mod_lt _ (by decide)⟩ : Fin 8) d from ?_)).trans ?_
    · funext a; refine Fin.ext ?_
      match a with
      | ⟨0, _⟩ => show s / 8 + 1 * ((p.val + s % 8) / 8) = s / 8 + (p.val + s % 8) / 8; omega
      | ⟨1, _⟩ => show 0 + 1 * ((p.val + s % 8) % 8) = (p.val + s % 8) % 8; omega
      | ⟨2, _⟩ => show 0 + 1 * d.val = d.val; omega
    · refine (slab_apply m c t.val _ _ d).trans ?_
      refine congrArg (m _) (funext fun a => Fin.ext ?_)
      match a with
      | ⟨0, _⟩ => show t.val / 16 % 4 = t.val / 16; omega
      | ⟨1, _⟩ => show (8 * (s / 8 + (p.val + s % 8) / 8) + (p.val + s % 8) % 8) % 8192 = back (512 * (t.val % 16) + p.val) l; rw [hs]; omega
      | ⟨2, _⟩ => rfl
  · have hq' : 512 ≤ p.val + s % 8 := hq
    refine (congrArg (slab m c t.val) (show _ = ix3 (⟨s / 8 + 64, by omega⟩ : Fin 1089) (⟨p.val + s % 8 - 512, by omega⟩ : Fin 8) d from ?_)).trans ?_
    · funext a; refine Fin.ext ?_
      match a with
      | ⟨0, _⟩ => show s / 8 + 64 + 1 * 0 = s / 8 + 64; omega
      | ⟨1, _⟩ => show 0 + 1 * (p.val + s % 8 - 512) = p.val + s % 8 - 512; omega
      | ⟨2, _⟩ => show 0 + 1 * d.val = d.val; omega
    · refine (slab_apply m c t.val _ _ d).trans ?_
      refine congrArg (m _) (funext fun a => Fin.ext ?_)
      match a with
      | ⟨0, _⟩ => show t.val / 16 % 4 = t.val / 16; omega
      | ⟨1, _⟩ => show (8 * (s / 8 + 64) + (p.val + s % 8 - 512)) % 8192 = back (512 * (t.val % 16) + p.val) l; rw [hs]; omega
      | ⟨2, _⟩ => rfl

theorem zero3 : (![0, 0, 0] : Fin 3 → Nat) = fun _ => 0 := funext fun a => by fin_cases a <;> rfl

/-- The array the call leaves. -/
def G (l : Fin 4 → Fin 8 → ℕ) : Vec Ideal S4x8192x768 .f32 := fun j => average (m ((c : Thread nD τ).loc main_arg0)) l (j 0) (j 1).val (j 2)

variable {m} {l : Fin 4 → Fin 8 → ℕ} (H : Holds m l) (ρ : Dev nD → PrngReg)

theorem eighths {s1 s2 s3 s4 s5 s6 s7 s8 a1 a2 a3 a4 a5 a6 a7 a8 e : EReal} (h1 : s1 = a1) (h2 : s2 = a2) (h3 : s3 = a3) (h4 : s4 = a4)
    (h5 : s5 = a5) (h6 : s6 = a6) (h7 : s7 = a7) (h8 : s8 = a8) :
    (0 + s1 + s2 + s3 + s4 + s5 + s6 + s7 + s8) * e = (0 + a1 + a2 + a3 + a4 + a5 + a6 + a7 + a8) * e := by
  rw [h1, h2, h3, h4, h5, h6, h7, h8]

include H in
/-- The shifted block for the lag `k` of the point's batch row. -/
theorem lag_apply (t : Fin grid0.N) (p : Fin 512) (d : Fin 768) (k : Fin 8) (w : BitVec 32) (hw : w = BitVec.ofNat 32 (l (grid0.coords t 0) k)) (o1 o2 : Fin 3 → Nat) (h)
    (e1 : o1 = ![(Scalar.indexCast (Cert.TimeShift.group (Cert.TimeShift.start (grid0.coords t 1).val w))).toNat, 0, 0])
    (e2 : o2 = ![(Scalar.indexCast (Scalar.addi (Cert.TimeShift.group (Cert.TimeShift.start (grid0.coords t 1).val w)) 64#32)).toNat, 0, 0]) :
    part (grid0.coords t) w (slab m c t.val) o1 o2 h (ix2 p d)
      = shiftedAt (m ((c : Thread nD τ).loc main_arg0)) (batch t) (l (batch t) k) (step t p).val d :=
  part_apply m c t p d _ (H.lt (batch t) k) w (hw.trans (congrArg (fun b => BitVec.ofNat 32 (l b k)) (coords_eq t))) o1 o2 h e1 e2

include H in
/-- The block a point leaves. -/
theorem left_apply (hO : Ok m) (hH : Hyps m hO) (t : Fin (cfgM m hO).N) (p : Fin 512) (d : Fin 768) :
    left m hO hH c t (ix3 0 p d) = G m c l (ix3 (batch t) (step t p) d) := by
  unfold left out
  rw [View.canon_unit_zero zero3]
  unfold Cert.Kernel3Ideal.Run.pay
  refine (eighth_apply _ _ _ _ _ _ _ _ p d).trans ?_
  exact eighths
    (lag_apply c H t p d 0 _ (word1 c H (grid0.coords t)) _ _ _ rfl rfl)
    (lag_apply c H t p d 1 _ (word2 c H (grid0.coords t)) _ _ _ rfl rfl)
    (lag_apply c H t p d 2 _ (word3 c H (grid0.coords t)) _ _ _ rfl rfl)
    (lag_apply c H t p d 3 _ (word4 c H (grid0.coords t)) _ _ _ rfl rfl)
    (lag_apply c H t p d 4 _ (word5 c H (grid0.coords t)) _ _ _ rfl rfl)
    (lag_apply c H t p d 5 _ (word6 c H (grid0.coords t)) _ _ _ rfl rfl)
    (lag_apply c H t p d 6 _ (word7 c H (grid0.coords t)) _ _ _ rfl rfl)
    (lag_apply c H t p d 7 _ (word8 c H (grid0.coords t)) _ _ _ rfl rfl)

/-! ## The array after the run -/

theorem index0 : ∀ t : Fin grid0.N, cc0_transform_1 (grid0.coords t) 0 = t.val / 16 ∧ cc0_transform_1 (grid0.coords t) 1 = t.val % 16 ∧ cc0_transform_1 (grid0.coords t) 2 = 0 := by decide +kernel

theorem flushes (hO : Ok m) : ∀ t : Fin (cfgM m hO).N, ((cfgM m hO).win 0).flush t = true := fun t =>
  (Pipeline.Window.flush_eq_flushOf _ t).trans ((by decide +kernel : ∀ t : Fin grid0.N, Pipeline.Window.flushOf grid0 true cc0_transform_1 t = true) t)

include H

theorem flushed (hO : Ok m) (hH : Hyps m hO) (t : Fin (cfgM m hO).N) (hf : ((cfgM m hO).win 0).flush t = true) :
    (dats m hO hH 0 c).flushed 0 t = (((cfgM m hO).win 0).blk t).view.read (Elt Ideal) (G m c l) := by
  show ((cfgM m hO).win 0).cut (grid0.coords t) ((dats m hO hH 0 c).after 0 t) = _
  rw [after0_0]
  funext j
  obtain ⟨z, p, d, rfl⟩ : ∃ (z : Fin 1) (p : Fin 512) (d : Fin 768), j = ix3 z p d := ⟨_, _, _, eq_ix3 (j : (⟨3, ![1, 512, 768]⟩ : Shape).Idx)⟩
  obtain rfl : z = 0 := Subsingleton.elim _ _
  refine (left_apply c H hO hH t p d).trans ?_
  obtain ⟨e0, e1, e2⟩ := index0 t
  show G m c l _ = G m c l _
  refine congrArg (G m c l) (funext fun a => Fin.ext ?_)
  match a with
  | ⟨0, _⟩ => show t.val / 16 = cc0_transform_1 (grid0.coords t) 0 * 1 + 1 * 0; rw [e0]; omega
  | ⟨1, _⟩ => show 512 * (t.val % 16) + p.val = cc0_transform_1 (grid0.coords t) 1 * 512 + 1 * p.val; rw [e1]; omega
  | ⟨2, _⟩ => show d.val = cc0_transform_1 (grid0.coords t) 2 * 768 + 1 * d.val; rw [e2]; omega

omit H in
/-- Every place of the result lies in a point's block. -/
theorem cover (hO : Ok m) (i : S4x8192x768.Idx) :
    ∃ t : Fin (cfgM m hO).N, ((cfgM m hO).win 0).flush t = true ∧ i ∈ (((cfgM m hO).win 0).blk t).view.set := by
  have h0 : (i 0).val < 4 := (i 0).isLt
  have h1 : (i 1).val < 8192 := (i 1).isLt
  have h2 : (i 2).val < 768 := (i 2).isLt
  refine ⟨⟨(i 0).val * 16 + (i 1).val / 512, by show _ < 64; omega⟩, flushes hO _, ?_⟩
  generalize ht : (⟨(i 0).val * 16 + (i 1).val / 512, _⟩ : Fin (cfgM m hO).N) = t
  have hv : t.val = (i 0).val * 16 + (i 1).val / 512 := by rw [← ht]
  obtain ⟨e0, e1, e2⟩ := index0 t
  show i ∈ ((View.whole main_v3).slice (((cfgM m hO).win 0).rect t)).set
  erw [View.set_slice_whole]
  refine (Pipeline.Window.mem_rect_iff ((cfgM m hO).win 0) t i (by rfl)).mpr fun a => ?_
  match a with
  | ⟨0, _⟩ => show cc0_transform_1 (grid0.coords t) 0 * 1 ≤ (i 0).val ∧ (i 0).val < cc0_transform_1 (grid0.coords t) 0 * 1 + 1; rw [e0]; omega
  | ⟨1, _⟩ => show cc0_transform_1 (grid0.coords t) 1 * 512 ≤ (i 1).val ∧ (i 1).val < cc0_transform_1 (grid0.coords t) 1 * 512 + 512; rw [e1]; omega
  | ⟨2, _⟩ => show cc0_transform_1 (grid0.coords t) 2 * 768 ≤ (i 2).val ∧ (i 2).val < cc0_transform_1 (grid0.coords t) 2 * 768 + 768; rw [e2]; omega

theorem final (hO : Ok m) (hH : Hyps m hO) : (dats m hO hH 0 c).arrAt 0 (cfgM m hO).N = G m c l :=
  (dats m hO hH 0 c).arrAt_eq_of_cover 0 (G m c l) (flushed c H hO hH) (cover hO)

/-- Every execution ends with the result array at `G`, the arguments unchanged. -/
theorem run (hO : Ok m) : θ_run defs (onTc (τ := τ) (main (F := Ideal))) ⟨m, fun _ => 0, ρ⟩ fun r => ∀ c : Dev nD,
      r.2.mem ((c : Thread nD τ).loc main_v3) = G m c l
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 0).trans (final c H hO (hyps H hO)),
    ((h c).2 main_arg0 (by decide : main_arg0 ∈ Pipeline.restRefs sig spec0)).trans (V_main_arg0 m c),
    ((h c).2 main_arg1 (by decide : main_arg1 ∈ Pipeline.restRefs sig spec0)).trans (V_main_arg1 m c)⟩) (run_main m ρ hO (hyps H hO))

end Cert.Kernel3Ideal.Blocks

end
-- ==== Proof.GatherReference.lean ====
/-
  The plain average of the shifted values, read at an index over the extended reals: with every lag at least 0 and less
  than 8192, the result at batch row `b`, time step `t`, column `d` is the sum over the eight lags of the values at the
  time step `t` less the lag, around the end of the sequence, times 1/8.
-/
module

public import proofs.«01_k».proof.Proof.Gen.Reference3Ideal.Read
public import proofs.«01_k».proof.Proof.ShiftedRows
public import Idealize.ShloMosaic.Lib.ReduceAll
public import Idealize.ShloMosaic.Lib.IdealHost
public import Idealize.ShloMosaic.PureOps.IdealRules

@[expose] public section

set_option maxRecDepth 16384

noncomputable section

namespace Cert.Reference3Ideal.Reading

open Idealize.ShloMosaic Idealize.ShloMosaic.ValueIdx Cert.Reference3Ideal Cert.Reference3Ideal.Gen Cert.Reference3Ideal.Read Cert.TimeShift

/-- The gather of one time step per batch row and time step, all columns, read at an index. -/
theorem gather_apply (x : S4x8192x768.Idx → EReal) (idx : IVec S4x8192x1 32) (b : Fin 4) (t : Fin 8192) (d : Fin 768) (s : ℕ) (hs : s < 8192)
    (h : idx (ix3 b t 0) = BitVec.ofNat 32 s) :
    Host.gather gather_S4x8192x768_S4x8192x1_S4x8192x768_2_1_0_0_1_2_11768 x idx (ix3 b t d) = x (ix3 b ⟨s, hs⟩ d) := by
  unfold Host.gather
  refine congrArg x (funext fun a => Fin.ext ?_)
  show (gather_S4x8192x768_S4x8192x1_S4x8192x768_2_1_0_0_1_2_11768).start (ix3 b t d) idx a
      + (gather_S4x8192x768_S4x8192x1_S4x8192x768_2_1_0_0_1_2_11768).batchCoord (ix3 b t d) a
      + (gather_S4x8192x768_S4x8192x1_S4x8192x768_2_1_0_0_1_2_11768).offCoord (ix3 b t d) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (gather_S4x8192x768_S4x8192x1_S4x8192x768_2_1_0_0_1_2_11768).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gather_S4x8192x768_S4x8192x1_S4x8192x768_2_1_0_0_1_2_11768).startIndexMap from List.mem_singleton.mpr rfl)]
    have hsi : (gather_S4x8192x768_S4x8192x1_S4x8192x768_2_1_0_0_1_2_11768).siIdx (ix3 b t d) ⟨List.idxOf (1 : Fin 3) (gather_S4x8192x768_S4x8192x1_S4x8192x768_2_1_0_0_1_2_11768).startIndexMap,
        List.idxOf_lt_length_iff.2 (List.mem_singleton.mpr rfl)⟩ = ix3 b t 0 := by
      funext c; refine Fin.ext ?_
      match c with
      | ⟨0, _⟩ => rfl
      | ⟨1, _⟩ => rfl
      | ⟨2, _⟩ => rfl
    rw [hsi, h]
    show min (BitVec.ofNat 32 s).toInt.toNat (8192 - 1) = s
    have e : (BitVec.ofNat 32 s).toInt = s := by
      have h3 := BitVec.toInt_eq_toNat_cond (BitVec.ofNat 32 s)
      rw [BitVec.toNat_ofNat, Nat.mod_eq_of_lt (by omega)] at h3
      split at h3 <;> omega
    rw [e]
    omega
  · have hn : (2 : Fin 3) ∉ (gather_S4x8192x768_S4x8192x1_S4x8192x768_2_1_0_0_1_2_11768).startIndexMap := fun h => absurd (List.mem_singleton.mp h) (by decide)
    rw [GatherDims.batchCoord_eq_zero _ _ _ (fun h => absurd (List.mem_singleton.mp h) (by decide))]
    unfold GatherDims.start
    rw [dif_neg hn]
    unfold GatherDims.offCoord
    rw [dif_pos ((GatherDims.mem_sKept _ _).mpr ⟨fun h => absurd (List.mem_singleton.mp h) (by decide), fun h => absurd (List.mem_singleton.mp h) (by decide)⟩)]
    show 0 + 0 + d.val = d.val
    omega

variable (x0 : S4x8192x768.Idx → EReal) (x1 : S4x8.Idx → BitVec 32)

/-! ## Lag 0 -/

theorem lag0 (b : Fin 4) (t : Fin 8192) : val_main_v7 (F := Ideal) x1 (ix2 b t) = x1 (ix2 b (0 : Fin 8)) := by
  rw [val_main_v7_apply, val_main_v5_apply, val_main_v2_apply, val_main_v1_apply]
  refine congrArg x1 (funext fun a => Fin.ext ?_)
  match a with
  | ⟨0, _⟩ => show b.val / 1 = b.val; omega
  | ⟨1, _⟩ => rfl

theorem time0 (b : Fin 4) (t : Fin 8192) : val_main_v6 (F := Ideal) (ix2 b t) = BitVec.ofNat 32 t.val := by
  rw [val_main_v6_apply, val_main_v4_apply, val_main_v3_apply]

theorem index0 (b : Fin 4) (t : Fin 8192) (u : Fin 1) (l : ℕ) (hl : l < 8192) (h : x1 (ix2 b (0 : Fin 8)) = BitVec.ofNat 32 l) :
    val_main_call1_v4 (F := Ideal) x1 (ix3 b t u) = BitVec.ofNat 32 (back t.val l) := by
  have e : val_main_v8 (F := Ideal) x1 (ix2 b t) = IntOp.subi (BitVec.ofNat 32 t.val) (BitVec.ofNat 32 l) := by
    rw [val_main_v8_apply, lag0, time0, h]
  have ei : idx_main_v10 (ix3 b t u) = ix2 b t := funext fun a => by match a with | ⟨0, _⟩ => rfl | ⟨1, _⟩ => rfl
  rw [val_main_call1_v4_apply, val_main_call1_v1_apply, val_main_call1_v3_apply, val_main_v10_apply, ei, val_main_call1_v0_apply, val_main_call1_v2_apply, val_main_call1_c_apply, val_main_call1_c_0_apply,
    val_main_v9_apply, val_main_call0_v12_apply, val_main_call0_v14_apply, val_main_call0_v11_apply, val_main_call0_v6_apply, val_main_call0_v8_apply, val_main_call0_v10_apply, val_main_call0_v9_apply, val_main_call0_v13_apply, val_main_call0_v5_apply,
    val_main_call0_v7_apply, val_main_call0_v4_apply, val_main_call0_v3_apply, val_main_call0_c_1_apply, val_main_call0_c_2_apply, val_main_call0_c_3_apply, e]
  exact wrapped_eq t.val l t.isLt hl

theorem inside0 (b : Fin 4) (t : Fin 8192) (d : Fin 768) (h : ∀ b : Fin 4, ∃ l < 8192, x1 (ix2 b (0 : Fin 8)) = BitVec.ofNat 32 l) :
    val_main_call1_v13 (F := Ideal) x1 (ix3 b t d) = 1#1 := by
  rw [val_main_call1_v13_apply]
  unfold val_main_call1_v11
  have key : ∀ (b : Fin 4) (t : Fin 8192) (u : Fin 1), val_main_call1_v10 (F := Ideal) x1 (ix3 b t u) = 1#1 := fun b t u => by
    obtain ⟨l, hl, e⟩ := h b
    rw [val_main_call1_v10_apply, val_main_call1_v6_apply, val_main_call1_v9_apply, index0 x1 b t u l hl e, val_main_call1_v5_apply, val_main_call1_c_2_apply, val_main_call1_v8_apply, val_main_call1_v7_apply, val_main_call1_c_1_apply]
    exact (wrapped_nonneg ⟨_, back_lt _ _⟩).2
  exact Host.reduce_andi_one _ _ _ _ _ rfl fun i => (congrArg (val_main_call1_v10 (F := Ideal) x1) (eq_ix3 i)).trans (key _ _ _)

theorem taken0 (b : Fin 4) (t : Fin 8192) (d : Fin 768) (l : Fin 4 → Fin 8 → ℕ) (hl : ∀ b j, l b j < 8192) (h : ∀ b j, x1 (ix2 b j) = BitVec.ofNat 32 (l b j)) :
    val_main_v11 (F := Ideal) x0 x1 (ix3 b t d) = shiftedAt x0 b (l b 0) t.val d := by
  rw [val_main_v11_apply, inside0 x1 b t d fun b => ⟨l b 0, hl b 0, h b 0⟩]
  exact gather_apply x0 _ b t d _ (back_lt _ _) (index0 x1 b t 0 _ (hl b 0) (h b 0))

/-! ## Lag 1 -/

theorem lag1 (b : Fin 4) (t : Fin 8192) : val_main_v19 (F := Ideal) x1 (ix2 b t) = x1 (ix2 b (1 : Fin 8)) := by
  rw [val_main_v19_apply, val_main_v17_apply, val_main_v14_apply, val_main_v13_apply]
  refine congrArg x1 (funext fun a => Fin.ext ?_)
  match a with
  | ⟨0, _⟩ => show b.val / 1 = b.val; omega
  | ⟨1, _⟩ => rfl

theorem time1 (b : Fin 4) (t : Fin 8192) : val_main_v18 (F := Ideal) (ix2 b t) = BitVec.ofNat 32 t.val := by
  rw [val_main_v18_apply, val_main_v16_apply, val_main_v15_apply]

theorem index1 (b : Fin 4) (t : Fin 8192) (u : Fin 1) (l : ℕ) (hl : l < 8192) (h : x1 (ix2 b (1 : Fin 8)) = BitVec.ofNat 32 l) :
    val_main_call3_v4 (F := Ideal) x1 (ix3 b t u) = BitVec.ofNat 32 (back t.val l) := by
  have e : val_main_v20 (F := Ideal) x1 (ix2 b t) = IntOp.subi (BitVec.ofNat 32 t.val) (BitVec.ofNat 32 l) := by
    rw [val_main_v20_apply, lag1, time1, h]
  have ei : idx_main_v22 (ix3 b t u) = ix2 b t := funext fun a => by match a with | ⟨0, _⟩ => rfl | ⟨1, _⟩ => rfl
  rw [val_main_call3_v4_apply, val_main_call3_v1_apply, val_main_call3_v3_apply, val_main_v22_apply, ei, val_main_call3_v0_apply, val_main_call3_v2_apply, val_main_call3_c_apply, val_main_call3_c_0_apply,
    val_main_v21_apply, val_main_call2_v12_apply, val_main_call2_v14_apply, val_main_call2_v11_apply, val_main_call2_v6_apply, val_main_call2_v8_apply, val_main_call2_v10_apply, val_main_call2_v9_apply, val_main_call2_v13_apply, val_main_call2_v5_apply,
    val_main_call2_v7_apply, val_main_call2_v4_apply, val_main_call2_v3_apply, val_main_call2_c_1_apply, val_main_call2_c_2_apply, val_main_call2_c_3_apply, e]
  exact wrapped_eq t.val l t.isLt hl

theorem inside1 (b : Fin 4) (t : Fin 8192) (d : Fin 768) (h : ∀ b : Fin 4, ∃ l < 8192, x1 (ix2 b (1 : Fin 8)) = BitVec.ofNat 32 l) :
    val_main_call3_v13 (F := Ideal) x1 (ix3 b t d) = 1#1 := by
  rw [val_main_call3_v13_apply]
  unfold val_main_call3_v11
  have key : ∀ (b : Fin 4) (t : Fin 8192) (u : Fin 1), val_main_call3_v10 (F := Ideal) x1 (ix3 b t u) = 1#1 := fun b t u => by
    obtain ⟨l, hl, e⟩ := h b
    rw [val_main_call3_v10_apply, val_main_call3_v6_apply, val_main_call3_v9_apply, index1 x1 b t u l hl e, val_main_call3_v5_apply, val_main_call3_c_2_apply, val_main_call3_v8_apply, val_main_call3_v7_apply, val_main_call3_c_1_apply]
    exact (wrapped_nonneg ⟨_, back_lt _ _⟩).2
  exact Host.reduce_andi_one _ _ _ _ _ rfl fun i => (congrArg (val_main_call3_v10 (F := Ideal) x1) (eq_ix3 i)).trans (key _ _ _)

theorem taken1 (b : Fin 4) (t : Fin 8192) (d : Fin 768) (l : Fin 4 → Fin 8 → ℕ) (hl : ∀ b j, l b j < 8192) (h : ∀ b j, x1 (ix2 b j) = BitVec.ofNat 32 (l b j)) :
    val_main_v23 (F := Ideal) x0 x1 (ix3 b t d) = shiftedAt x0 b (l b 1) t.val d := by
  rw [val_main_v23_apply, inside1 x1 b t d fun b => ⟨l b 1, hl b 1, h b 1⟩]
  exact gather_apply x0 _ b t d _ (back_lt _ _) (index1 x1 b t 0 _ (hl b 1) (h b 1))

/-! ## Lag 2 -/

theorem lag2 (b : Fin 4) (t : Fin 8192) : val_main_v31 (F := Ideal) x1 (ix2 b t) = x1 (ix2 b (2 : Fin 8)) := by
  rw [val_main_v31_apply, val_main_v29_apply, val_main_v26_apply, val_main_v25_apply]
  refine congrArg x1 (funext fun a => Fin.ext ?_)
  match a with
  | ⟨0, _⟩ => show b.val / 1 = b.val; omega
  | ⟨1, _⟩ => rfl

theorem time2 (b : Fin 4) (t : Fin 8192) : val_main_v30 (F := Ideal) (ix2 b t) = BitVec.ofNat 32 t.val := by
  rw [val_main_v30_apply, val_main_v28_apply, val_main_v27_apply]

theorem index2 (b : Fin 4) (t : Fin 8192) (u : Fin 1) (l : ℕ) (hl : l < 8192) (h : x1 (ix2 b (2 : Fin 8)) = BitVec.ofNat 32 l) :
    val_main_call5_v4 (F := Ideal) x1 (ix3 b t u) = BitVec.ofNat 32 (back t.val l) := by
  have e : val_main_v32 (F := Ideal) x1 (ix2 b t) = IntOp.subi (BitVec.ofNat 32 t.val) (BitVec.ofNat 32 l) := by
    rw [val_main_v32_apply, lag2, time2, h]
  have ei : idx_main_v34 (ix3 b t u) = ix2 b t := funext fun a => by match a with | ⟨0, _⟩ => rfl | ⟨1, _⟩ => rfl
  rw [val_main_call5_v4_apply, val_main_call5_v1_apply, val_main_call5_v3_apply, val_main_v34_apply, ei, val_main_call5_v0_apply, val_main_call5_v2_apply, val_main_call5_c_apply, val_main_call5_c_0_apply,
    val_main_v33_apply, val_main_call4_v12_apply, val_main_call4_v14_apply, val_main_call4_v11_apply, val_main_call4_v6_apply, val_main_call4_v8_apply, val_main_call4_v10_apply, val_main_call4_v9_apply, val_main_call4_v13_apply, val_main_call4_v5_apply,
    val_main_call4_v7_apply, val_main_call4_v4_apply, val_main_call4_v3_apply, val_main_call4_c_1_apply, val_main_call4_c_2_apply, val_main_call4_c_3_apply, e]
  exact wrapped_eq t.val l t.isLt hl

theorem inside2 (b : Fin 4) (t : Fin 8192) (d : Fin 768) (h : ∀ b : Fin 4, ∃ l < 8192, x1 (ix2 b (2 : Fin 8)) = BitVec.ofNat 32 l) :
    val_main_call5_v13 (F := Ideal) x1 (ix3 b t d) = 1#1 := by
  rw [val_main_call5_v13_apply]
  unfold val_main_call5_v11
  have key : ∀ (b : Fin 4) (t : Fin 8192) (u : Fin 1), val_main_call5_v10 (F := Ideal) x1 (ix3 b t u) = 1#1 := fun b t u => by
    obtain ⟨l, hl, e⟩ := h b
    rw [val_main_call5_v10_apply, val_main_call5_v6_apply, val_main_call5_v9_apply, index2 x1 b t u l hl e, val_main_call5_v5_apply, val_main_call5_c_2_apply, val_main_call5_v8_apply, val_main_call5_v7_apply, val_main_call5_c_1_apply]
    exact (wrapped_nonneg ⟨_, back_lt _ _⟩).2
  exact Host.reduce_andi_one _ _ _ _ _ rfl fun i => (congrArg (val_main_call5_v10 (F := Ideal) x1) (eq_ix3 i)).trans (key _ _ _)

theorem taken2 (b : Fin 4) (t : Fin 8192) (d : Fin 768) (l : Fin 4 → Fin 8 → ℕ) (hl : ∀ b j, l b j < 8192) (h : ∀ b j, x1 (ix2 b j) = BitVec.ofNat 32 (l b j)) :
    val_main_v35 (F := Ideal) x0 x1 (ix3 b t d) = shiftedAt x0 b (l b 2) t.val d := by
  rw [val_main_v35_apply, inside2 x1 b t d fun b => ⟨l b 2, hl b 2, h b 2⟩]
  exact gather_apply x0 _ b t d _ (back_lt _ _) (index2 x1 b t 0 _ (hl b 2) (h b 2))

/-! ## Lag 3 -/

theorem lag3 (b : Fin 4) (t : Fin 8192) : val_main_v43 (F := Ideal) x1 (ix2 b t) = x1 (ix2 b (3 : Fin 8)) := by
  rw [val_main_v43_apply, val_main_v41_apply, val_main_v38_apply, val_main_v37_apply]
  refine congrArg x1 (funext fun a => Fin.ext ?_)
  match a with
  | ⟨0, _⟩ => show b.val / 1 = b.val; omega
  | ⟨1, _⟩ => rfl

theorem time3 (b : Fin 4) (t : Fin 8192) : val_main_v42 (F := Ideal) (ix2 b t) = BitVec.ofNat 32 t.val := by
  rw [val_main_v42_apply, val_main_v40_apply, val_main_v39_apply]

theorem index3 (b : Fin 4) (t : Fin 8192) (u : Fin 1) (l : ℕ) (hl : l < 8192) (h : x1 (ix2 b (3 : Fin 8)) = BitVec.ofNat 32 l) :
    val_main_call7_v4 (F := Ideal) x1 (ix3 b t u) = BitVec.ofNat 32 (back t.val l) := by
  have e : val_main_v44 (F := Ideal) x1 (ix2 b t) = IntOp.subi (BitVec.ofNat 32 t.val) (BitVec.ofNat 32 l) := by
    rw [val_main_v44_apply, lag3, time3, h]
  have ei : idx_main_v46 (ix3 b t u) = ix2 b t := funext fun a => by match a with | ⟨0, _⟩ => rfl | ⟨1, _⟩ => rfl
  rw [val_main_call7_v4_apply, val_main_call7_v1_apply, val_main_call7_v3_apply, val_main_v46_apply, ei, val_main_call7_v0_apply, val_main_call7_v2_apply, val_main_call7_c_apply, val_main_call7_c_0_apply,
    val_main_v45_apply, val_main_call6_v12_apply, val_main_call6_v14_apply, val_main_call6_v11_apply, val_main_call6_v6_apply, val_main_call6_v8_apply, val_main_call6_v10_apply, val_main_call6_v9_apply, val_main_call6_v13_apply, val_main_call6_v5_apply,
    val_main_call6_v7_apply, val_main_call6_v4_apply, val_main_call6_v3_apply, val_main_call6_c_1_apply, val_main_call6_c_2_apply, val_main_call6_c_3_apply, e]
  exact wrapped_eq t.val l t.isLt hl

theorem inside3 (b : Fin 4) (t : Fin 8192) (d : Fin 768) (h : ∀ b : Fin 4, ∃ l < 8192, x1 (ix2 b (3 : Fin 8)) = BitVec.ofNat 32 l) :
    val_main_call7_v13 (F := Ideal) x1 (ix3 b t d) = 1#1 := by
  rw [val_main_call7_v13_apply]
  unfold val_main_call7_v11
  have key : ∀ (b : Fin 4) (t : Fin 8192) (u : Fin 1), val_main_call7_v10 (F := Ideal) x1 (ix3 b t u) = 1#1 := fun b t u => by
    obtain ⟨l, hl, e⟩ := h b
    rw [val_main_call7_v10_apply, val_main_call7_v6_apply, val_main_call7_v9_apply, index3 x1 b t u l hl e, val_main_call7_v5_apply, val_main_call7_c_2_apply, val_main_call7_v8_apply, val_main_call7_v7_apply, val_main_call7_c_1_apply]
    exact (wrapped_nonneg ⟨_, back_lt _ _⟩).2
  exact Host.reduce_andi_one _ _ _ _ _ rfl fun i => (congrArg (val_main_call7_v10 (F := Ideal) x1) (eq_ix3 i)).trans (key _ _ _)

theorem taken3 (b : Fin 4) (t : Fin 8192) (d : Fin 768) (l : Fin 4 → Fin 8 → ℕ) (hl : ∀ b j, l b j < 8192) (h : ∀ b j, x1 (ix2 b j) = BitVec.ofNat 32 (l b j)) :
    val_main_v47 (F := Ideal) x0 x1 (ix3 b t d) = shiftedAt x0 b (l b 3) t.val d := by
  rw [val_main_v47_apply, inside3 x1 b t d fun b => ⟨l b 3, hl b 3, h b 3⟩]
  exact gather_apply x0 _ b t d _ (back_lt _ _) (index3 x1 b t 0 _ (hl b 3) (h b 3))

/-! ## Lag 4 -/

theorem lag4 (b : Fin 4) (t : Fin 8192) : val_main_v55 (F := Ideal) x1 (ix2 b t) = x1 (ix2 b (4 : Fin 8)) := by
  rw [val_main_v55_apply, val_main_v53_apply, val_main_v50_apply, val_main_v49_apply]
  refine congrArg x1 (funext fun a => Fin.ext ?_)
  match a with
  | ⟨0, _⟩ => show b.val / 1 = b.val; omega
  | ⟨1, _⟩ => rfl

theorem time4 (b : Fin 4) (t : Fin 8192) : val_main_v54 (F := Ideal) (ix2 b t) = BitVec.ofNat 32 t.val := by
  rw [val_main_v54_apply, val_main_v52_apply, val_main_v51_apply]

theorem index4 (b : Fin 4) (t : Fin 8192) (u : Fin 1) (l : ℕ) (hl : l < 8192) (h : x1 (ix2 b (4 : Fin 8)) = BitVec.ofNat 32 l) :
    val_main_call9_v4 (F := Ideal) x1 (ix3 b t u) = BitVec.ofNat 32 (back t.val l) := by
  have e : val_main_v56 (F := Ideal) x1 (ix2 b t) = IntOp.subi (BitVec.ofNat 32 t.val) (BitVec.ofNat 32 l) := by
    rw [val_main_v56_apply, lag4, time4, h]
  have ei : idx_main_v58 (ix3 b t u) = ix2 b t := funext fun a => by match a with | ⟨0, _⟩ => rfl | ⟨1, _⟩ => rfl
  rw [val_main_call9_v4_apply, val_main_call9_v1_apply, val_main_call9_v3_apply, val_main_v58_apply, ei, val_main_call9_v0_apply, val_main_call9_v2_apply, val_main_call9_c_apply, val_main_call9_c_0_apply,
    val_main_v57_apply, val_main_call8_v12_apply, val_main_call8_v14_apply, val_main_call8_v11_apply, val_main_call8_v6_apply, val_main_call8_v8_apply, val_main_call8_v10_apply, val_main_call8_v9_apply, val_main_call8_v13_apply, val_main_call8_v5_apply,
    val_main_call8_v7_apply, val_main_call8_v4_apply, val_main_call8_v3_apply, val_main_call8_c_1_apply, val_main_call8_c_2_apply, val_main_call8_c_3_apply, e]
  exact wrapped_eq t.val l t.isLt hl

theorem inside4 (b : Fin 4) (t : Fin 8192) (d : Fin 768) (h : ∀ b : Fin 4, ∃ l < 8192, x1 (ix2 b (4 : Fin 8)) = BitVec.ofNat 32 l) :
    val_main_call9_v13 (F := Ideal) x1 (ix3 b t d) = 1#1 := by
  rw [val_main_call9_v13_apply]
  unfold val_main_call9_v11
  have key : ∀ (b : Fin 4) (t : Fin 8192) (u : Fin 1), val_main_call9_v10 (F := Ideal) x1 (ix3 b t u) = 1#1 := fun b t u => by
    obtain ⟨l, hl, e⟩ := h b
    rw [val_main_call9_v10_apply, val_main_call9_v6_apply, val_main_call9_v9_apply, index4 x1 b t u l hl e, val_main_call9_v5_apply, val_main_call9_c_2_apply, val_main_call9_v8_apply, val_main_call9_v7_apply, val_main_call9_c_1_apply]
    exact (wrapped_nonneg ⟨_, back_lt _ _⟩).2
  exact Host.reduce_andi_one _ _ _ _ _ rfl fun i => (congrArg (val_main_call9_v10 (F := Ideal) x1) (eq_ix3 i)).trans (key _ _ _)

theorem taken4 (b : Fin 4) (t : Fin 8192) (d : Fin 768) (l : Fin 4 → Fin 8 → ℕ) (hl : ∀ b j, l b j < 8192) (h : ∀ b j, x1 (ix2 b j) = BitVec.ofNat 32 (l b j)) :
    val_main_v59 (F := Ideal) x0 x1 (ix3 b t d) = shiftedAt x0 b (l b 4) t.val d := by
  rw [val_main_v59_apply, inside4 x1 b t d fun b => ⟨l b 4, hl b 4, h b 4⟩]
  exact gather_apply x0 _ b t d _ (back_lt _ _) (index4 x1 b t 0 _ (hl b 4) (h b 4))

/-! ## Lag 5 -/

theorem lag5 (b : Fin 4) (t : Fin 8192) : val_main_v67 (F := Ideal) x1 (ix2 b t) = x1 (ix2 b (5 : Fin 8)) := by
  rw [val_main_v67_apply, val_main_v65_apply, val_main_v62_apply, val_main_v61_apply]
  refine congrArg x1 (funext fun a => Fin.ext ?_)
  match a with
  | ⟨0, _⟩ => show b.val / 1 = b.val; omega
  | ⟨1, _⟩ => rfl

theorem time5 (b : Fin 4) (t : Fin 8192) : val_main_v66 (F := Ideal) (ix2 b t) = BitVec.ofNat 32 t.val := by
  rw [val_main_v66_apply, val_main_v64_apply, val_main_v63_apply]

theorem index5 (b : Fin 4) (t : Fin 8192) (u : Fin 1) (l : ℕ) (hl : l < 8192) (h : x1 (ix2 b (5 : Fin 8)) = BitVec.ofNat 32 l) :
    val_main_call11_v4 (F := Ideal) x1 (ix3 b t u) = BitVec.ofNat 32 (back t.val l) := by
  have e : val_main_v68 (F := Ideal) x1 (ix2 b t) = IntOp.subi (BitVec.ofNat 32 t.val) (BitVec.ofNat 32 l) := by
    rw [val_main_v68_apply, lag5, time5, h]
  have ei : idx_main_v70 (ix3 b t u) = ix2 b t := funext fun a => by match a with | ⟨0, _⟩ => rfl | ⟨1, _⟩ => rfl
  rw [val_main_call11_v4_apply, val_main_call11_v1_apply, val_main_call11_v3_apply, val_main_v70_apply, ei, val_main_call11_v0_apply, val_main_call11_v2_apply, val_main_call11_c_apply, val_main_call11_c_0_apply,
    val_main_v69_apply, val_main_call10_v12_apply, val_main_call10_v14_apply, val_main_call10_v11_apply, val_main_call10_v6_apply, val_main_call10_v8_apply, val_main_call10_v10_apply, val_main_call10_v9_apply, val_main_call10_v13_apply, val_main_call10_v5_apply,
    val_main_call10_v7_apply, val_main_call10_v4_apply, val_main_call10_v3_apply, val_main_call10_c_1_apply, val_main_call10_c_2_apply, val_main_call10_c_3_apply, e]
  exact wrapped_eq t.val l t.isLt hl

theorem inside5 (b : Fin 4) (t : Fin 8192) (d : Fin 768) (h : ∀ b : Fin 4, ∃ l < 8192, x1 (ix2 b (5 : Fin 8)) = BitVec.ofNat 32 l) :
    val_main_call11_v13 (F := Ideal) x1 (ix3 b t d) = 1#1 := by
  rw [val_main_call11_v13_apply]
  unfold val_main_call11_v11
  have key : ∀ (b : Fin 4) (t : Fin 8192) (u : Fin 1), val_main_call11_v10 (F := Ideal) x1 (ix3 b t u) = 1#1 := fun b t u => by
    obtain ⟨l, hl, e⟩ := h b
    rw [val_main_call11_v10_apply, val_main_call11_v6_apply, val_main_call11_v9_apply, index5 x1 b t u l hl e, val_main_call11_v5_apply, val_main_call11_c_2_apply, val_main_call11_v8_apply, val_main_call11_v7_apply, val_main_call11_c_1_apply]
    exact (wrapped_nonneg ⟨_, back_lt _ _⟩).2
  exact Host.reduce_andi_one _ _ _ _ _ rfl fun i => (congrArg (val_main_call11_v10 (F := Ideal) x1) (eq_ix3 i)).trans (key _ _ _)

theorem taken5 (b : Fin 4) (t : Fin 8192) (d : Fin 768) (l : Fin 4 → Fin 8 → ℕ) (hl : ∀ b j, l b j < 8192) (h : ∀ b j, x1 (ix2 b j) = BitVec.ofNat 32 (l b j)) :
    val_main_v71 (F := Ideal) x0 x1 (ix3 b t d) = shiftedAt x0 b (l b 5) t.val d := by
  rw [val_main_v71_apply, inside5 x1 b t d fun b => ⟨l b 5, hl b 5, h b 5⟩]
  exact gather_apply x0 _ b t d _ (back_lt _ _) (index5 x1 b t 0 _ (hl b 5) (h b 5))

/-! ## Lag 6 -/

theorem lag6 (b : Fin 4) (t : Fin 8192) : val_main_v79 (F := Ideal) x1 (ix2 b t) = x1 (ix2 b (6 : Fin 8)) := by
  rw [val_main_v79_apply, val_main_v77_apply, val_main_v74_apply, val_main_v73_apply]
  refine congrArg x1 (funext fun a => Fin.ext ?_)
  match a with
  | ⟨0, _⟩ => show b.val / 1 = b.val; omega
  | ⟨1, _⟩ => rfl

theorem time6 (b : Fin 4) (t : Fin 8192) : val_main_v78 (F := Ideal) (ix2 b t) = BitVec.ofNat 32 t.val := by
  rw [val_main_v78_apply, val_main_v76_apply, val_main_v75_apply]

theorem index6 (b : Fin 4) (t : Fin 8192) (u : Fin 1) (l : ℕ) (hl : l < 8192) (h : x1 (ix2 b (6 : Fin 8)) = BitVec.ofNat 32 l) :
    val_main_call13_v4 (F := Ideal) x1 (ix3 b t u) = BitVec.ofNat 32 (back t.val l) := by
  have e : val_main_v80 (F := Ideal) x1 (ix2 b t) = IntOp.subi (BitVec.ofNat 32 t.val) (BitVec.ofNat 32 l) := by
    rw [val_main_v80_apply, lag6, time6, h]
  have ei : idx_main_v82 (ix3 b t u) = ix2 b t := funext fun a => by match a with | ⟨0, _⟩ => rfl | ⟨1, _⟩ => rfl
  rw [val_main_call13_v4_apply, val_main_call13_v1_apply, val_main_call13_v3_apply, val_main_v82_apply, ei, val_main_call13_v0_apply, val_main_call13_v2_apply, val_main_call13_c_apply, val_main_call13_c_0_apply,
    val_main_v81_apply, val_main_call12_v12_apply, val_main_call12_v14_apply, val_main_call12_v11_apply, val_main_call12_v6_apply, val_main_call12_v8_apply, val_main_call12_v10_apply, val_main_call12_v9_apply, val_main_call12_v13_apply, val_main_call12_v5_apply,
    val_main_call12_v7_apply, val_main_call12_v4_apply, val_main_call12_v3_apply, val_main_call12_c_1_apply, val_main_call12_c_2_apply, val_main_call12_c_3_apply, e]
  exact wrapped_eq t.val l t.isLt hl

theorem inside6 (b : Fin 4) (t : Fin 8192) (d : Fin 768) (h : ∀ b : Fin 4, ∃ l < 8192, x1 (ix2 b (6 : Fin 8)) = BitVec.ofNat 32 l) :
    val_main_call13_v13 (F := Ideal) x1 (ix3 b t d) = 1#1 := by
  rw [val_main_call13_v13_apply]
  unfold val_main_call13_v11
  have key : ∀ (b : Fin 4) (t : Fin 8192) (u : Fin 1), val_main_call13_v10 (F := Ideal) x1 (ix3 b t u) = 1#1 := fun b t u => by
    obtain ⟨l, hl, e⟩ := h b
    rw [val_main_call13_v10_apply, val_main_call13_v6_apply, val_main_call13_v9_apply, index6 x1 b t u l hl e, val_main_call13_v5_apply, val_main_call13_c_2_apply, val_main_call13_v8_apply, val_main_call13_v7_apply, val_main_call13_c_1_apply]
    exact (wrapped_nonneg ⟨_, back_lt _ _⟩).2
  exact Host.reduce_andi_one _ _ _ _ _ rfl fun i => (congrArg (val_main_call13_v10 (F := Ideal) x1) (eq_ix3 i)).trans (key _ _ _)

theorem taken6 (b : Fin 4) (t : Fin 8192) (d : Fin 768) (l : Fin 4 → Fin 8 → ℕ) (hl : ∀ b j, l b j < 8192) (h : ∀ b j, x1 (ix2 b j) = BitVec.ofNat 32 (l b j)) :
    val_main_v83 (F := Ideal) x0 x1 (ix3 b t d) = shiftedAt x0 b (l b 6) t.val d := by
  rw [val_main_v83_apply, inside6 x1 b t d fun b => ⟨l b 6, hl b 6, h b 6⟩]
  exact gather_apply x0 _ b t d _ (back_lt _ _) (index6 x1 b t 0 _ (hl b 6) (h b 6))

/-! ## Lag 7 -/

theorem lag7 (b : Fin 4) (t : Fin 8192) : val_main_v91 (F := Ideal) x1 (ix2 b t) = x1 (ix2 b (7 : Fin 8)) := by
  rw [val_main_v91_apply, val_main_v89_apply, val_main_v86_apply, val_main_v85_apply]
  refine congrArg x1 (funext fun a => Fin.ext ?_)
  match a with
  | ⟨0, _⟩ => show b.val / 1 = b.val; omega
  | ⟨1, _⟩ => rfl

theorem time7 (b : Fin 4) (t : Fin 8192) : val_main_v90 (F := Ideal) (ix2 b t) = BitVec.ofNat 32 t.val := by
  rw [val_main_v90_apply, val_main_v88_apply, val_main_v87_apply]

theorem index7 (b : Fin 4) (t : Fin 8192) (u : Fin 1) (l : ℕ) (hl : l < 8192) (h : x1 (ix2 b (7 : Fin 8)) = BitVec.ofNat 32 l) :
    val_main_call15_v4 (F := Ideal) x1 (ix3 b t u) = BitVec.ofNat 32 (back t.val l) := by
  have e : val_main_v92 (F := Ideal) x1 (ix2 b t) = IntOp.subi (BitVec.ofNat 32 t.val) (BitVec.ofNat 32 l) := by
    rw [val_main_v92_apply, lag7, time7, h]
  have ei : idx_main_v94 (ix3 b t u) = ix2 b t := funext fun a => by match a with | ⟨0, _⟩ => rfl | ⟨1, _⟩ => rfl
  rw [val_main_call15_v4_apply, val_main_call15_v1_apply, val_main_call15_v3_apply, val_main_v94_apply, ei, val_main_call15_v0_apply, val_main_call15_v2_apply, val_main_call15_c_apply, val_main_call15_c_0_apply,
    val_main_v93_apply, val_main_call14_v12_apply, val_main_call14_v14_apply, val_main_call14_v11_apply, val_main_call14_v6_apply, val_main_call14_v8_apply, val_main_call14_v10_apply, val_main_call14_v9_apply, val_main_call14_v13_apply, val_main_call14_v5_apply,
    val_main_call14_v7_apply, val_main_call14_v4_apply, val_main_call14_v3_apply, val_main_call14_c_1_apply, val_main_call14_c_2_apply, val_main_call14_c_3_apply, e]
  exact wrapped_eq t.val l t.isLt hl

theorem inside7 (b : Fin 4) (t : Fin 8192) (d : Fin 768) (h : ∀ b : Fin 4, ∃ l < 8192, x1 (ix2 b (7 : Fin 8)) = BitVec.ofNat 32 l) :
    val_main_call15_v13 (F := Ideal) x1 (ix3 b t d) = 1#1 := by
  rw [val_main_call15_v13_apply]
  unfold val_main_call15_v11
  have key : ∀ (b : Fin 4) (t : Fin 8192) (u : Fin 1), val_main_call15_v10 (F := Ideal) x1 (ix3 b t u) = 1#1 := fun b t u => by
    obtain ⟨l, hl, e⟩ := h b
    rw [val_main_call15_v10_apply, val_main_call15_v6_apply, val_main_call15_v9_apply, index7 x1 b t u l hl e, val_main_call15_v5_apply, val_main_call15_c_2_apply, val_main_call15_v8_apply, val_main_call15_v7_apply, val_main_call15_c_1_apply]
    exact (wrapped_nonneg ⟨_, back_lt _ _⟩).2
  exact Host.reduce_andi_one _ _ _ _ _ rfl fun i => (congrArg (val_main_call15_v10 (F := Ideal) x1) (eq_ix3 i)).trans (key _ _ _)

theorem taken7 (b : Fin 4) (t : Fin 8192) (d : Fin 768) (l : Fin 4 → Fin 8 → ℕ) (hl : ∀ b j, l b j < 8192) (h : ∀ b j, x1 (ix2 b j) = BitVec.ofNat 32 (l b j)) :
    val_main_v95 (F := Ideal) x0 x1 (ix3 b t d) = shiftedAt x0 b (l b 7) t.val d := by
  rw [val_main_v95_apply, inside7 x1 b t d fun b => ⟨l b 7, hl b 7, h b 7⟩]
  exact gather_apply x0 _ b t d _ (back_lt _ _) (index7 x1 b t 0 _ (hl b 7) (h b 7))

/-! ## The average -/

theorem ofBits_eight : Ideal.ofBits .f32 0x41000000#32 = ((8 : ℝ) : EReal) := by
  simp [Ideal.ofBits, Ideal.ieee, -EReal.coe_mul]; norm_num

theorem average_apply (l : Fin 4 → Fin 8 → ℕ) (hl : ∀ b j, l b j < 8192) (h : ∀ b j, x1 (ix2 b j) = BitVec.ofNat 32 (l b j)) (b : Fin 4) (t : Fin 8192) (d : Fin 768) :
    val_main_v98 (F := Ideal) x0 x1 (ix3 b t d) = average x0 l b t.val d := by
  rw [val_main_v98_apply, val_main_v97_apply, val_main_cst_7_apply, val_main_v96_apply, val_main_v84_apply, val_main_v72_apply, val_main_v60_apply,
    val_main_v48_apply, val_main_v36_apply, val_main_v24_apply, val_main_v12_apply, val_main_v0_apply, val_main_cst_apply,
    taken0 x0 x1 b t d l hl h, taken1 x0 x1 b t d l hl h, taken2 x0 x1 b t d l hl h, taken3 x0 x1 b t d l hl h,
    taken4 x0 x1 b t d l hl h, taken5 x0 x1 b t d l hl h, taken6 x0 x1 b t d l hl h, taken7 x0 x1 b t d l hl h]
  show Ideal.div (Ideal.ofBits .f32 0x00000000#32 + _ + _ + _ + _ + _ + _ + _ + _) (Ideal.ofBits .f32 0x41000000#32) = _
  rw [ofBits_eight, Ideal.ofBits_zero_f32, Ideal.div_coe (by norm_num)]
  rfl

end Cert.Reference3Ideal.Reading

end
-- ==== Proof.GatherClaims.lean ====
/-
  The averaging call's claims: its two frames, the reference's frame, and the equality of the kernel's result with the
  reference's at the ideal values, for lags that are times.
-/
module

public import proofs.«01_k».proof.Defs
public import proofs.«01_k».proof.Proof.GatherFrame
public import proofs.«01_k».proof.Proof.GatherLags
public import proofs.«01_k».proof.Proof.GatherIdealBlocks
public import proofs.«01_k».proof.Proof.GatherReference
public import proofs.«01_k».proof.Proof.Gen.Reference3Ideal.Run
public import proofs.«01_k».proof.Proof.Gen.Reference3Ideal.Read
public import Idealize.ShloMosaic.Adequacy
public import Idealize.ShloMosaic.Init

@[expose] public section

noncomputable section

namespace Cert.Proof.Gather

open Idealize.ShloMosaic Idealize.SL.Sem

theorem frameKernel : Cert.quiescent_Kernel3 (hPre_lags_are_times := Cert.Pre_lags_are_times.Gen.facts) := fun m ρ hp => by
  obtain ⟨l, H⟩ := Cert.Kernel3.Lags.exists_holds m hp
  exact Cert.Kernel3.Run.frame m ρ trivial (Cert.Kernel3.Lags.hyps H trivial)

theorem frameIdeal : Cert.quiescent_Kernel3Ideal (hPre_lags_are_times := Cert.Pre_lags_are_times.Gen.facts) := fun m ρ hp => by
  obtain ⟨l, H⟩ := Cert.Kernel3Ideal.Lags.exists_holds m hp
  exact Cert.Kernel3Ideal.Run.frame m ρ trivial (Cert.Kernel3Ideal.Lags.hyps H trivial)

/-- The reference writes none of its arguments, and declares no semaphore. -/
theorem frameReference : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem frameReferenceOfTimes : Cert.quiescent_Reference3Ideal_pre_lags_are_times (hPre_lags_are_times := Cert.Pre_lags_are_times.Gen.facts) :=
  fun m ρ _ => frameReference m ρ trivial

/-- The averaging call has no literal that stands for another value. -/
theorem constants : Cert.preserves_Kernel3_Kernel3Ideal := trivial

/-- Both programs end with the average of the eight shifts. -/
theorem equal : Cert.algebraic_Kernel3Ideal_Reference3Ideal (hPre_lags_are_times := Cert.Pre_lags_are_times.Gen.facts) := by
  intro m g m' g' hp ha
  obtain ⟨l, H⟩ := Cert.Kernel3Ideal.Lags.exists_holds m hp
  refine ⟨fun c => Cert.Kernel3Ideal.Blocks.G m c l, Cert.Kernel3Ideal.Blocks.run H g trivial, ?_⟩
  refine (θ_run Cert.Reference3Ideal.defs _ _).mono (fun r h c => ⟨(h c).1.trans ?_, (h c).2⟩)
    (Cert.Reference3Ideal.Value.run (F := Ideal) m' g')
  obtain ⟨h0, h1⟩ := ha c
  obtain rfl : c = 0 := Subsingleton.elim _ _
  refine (Cert.Reference3Ideal.Read.val_main_v98_eq _).trans ?_
  refine (congrArg₂ Cert.Reference3Ideal.Read.val_main_v98 h0 h1).trans ?_
  funext j
  rw [ValueIdx.eq_ix3 j]
  exact Cert.Reference3Ideal.Reading.average_apply _ _ l H.lt H.eq _ _ _

end Cert.Proof.Gather

end
-- ==== Proof.lean ====
/-
  The proof of `Cert.Claim`: the feed-forward call, the first call of the kernel and the averaging call leave their
  arguments alone and compute, at the ideal values, the arrays their references compute.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Pre_lags_are_times
public import proofs.«01_k».proof.Proof.Gen.Kernel3.Launch
public import proofs.«01_k».proof.Proof.Gen.Kernel3.Skeleton
public import proofs.«01_k».proof.Proof.Gen.Kernel3Ideal.Launch
public import proofs.«01_k».proof.Proof.Gen.Kernel3Ideal.Skeleton
public import proofs.«01_k».proof.Proof.Gen.Reference3Ideal.Run
public import proofs.«01_k».proof.Proof.Gen.Reference3Ideal.Read
public import proofs.«01_k».proof.Proof.FfnClaims
public import proofs.«01_k».proof.Proof.DecompClaims
public import proofs.«01_k».proof.Proof.GatherClaims

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_lags_are_times.Gen.facts,
    Ffn.frameKernel, Ffn.frameIdeal, Ffn.frameReference, Decomp.frameKernel, Decomp.frameIdeal, Decomp.frameReference,
    Gather.frameKernel, Gather.frameIdeal, Gather.frameReference, Gather.frameReferenceOfTimes,
    Ffn.constants, Ffn.equal, Decomp.constants, Decomp.equal, Gather.constants, Gather.equal⟩

end Cert.Proof

end
